-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2048x8192 : Shape := ⟨2, ![2048, 8192]⟩
abbrev S2048x1024 : Shape := ⟨2, ![2048, 1024]⟩
abbrev S1x128 : Shape := ⟨2, ![1, 128]⟩
abbrev S8x320 : Shape := ⟨2, ![8, 320]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x128 : S_.BroadcastsInDim S1x128 (![] : Fin 0 → Fin S1x128.rank)
  reducesTo_S1x128_S_d0_1 : S1x128.ReducesTo [0, 1] S_
  bcast_S_S8x320 : S_.BroadcastsInDim S8x320 (![] : Fin 0 → Fin S8x320.rank)
  reducesTo_S8x320_S_d0_1 : S8x320.ReducesTo [0, 1] S_

variable [Facts]

def fn_part1 {F : FTy → Type} [FloatOps F] (main_arg4 : FVec F S8x320 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S8x320 .f32 := Host.absf main_arg4
  let main_cst_6 : FVec F S_ .f32 := constant S_ .f32 0x7F800000#32
  let main_v20 : FVec F S8x320 .f32 := broadcastInDim S8x320 ![] bcast_S_S8x320 main_cst_6
  let main_v21 : IVec S8x320 1 := cmpf .olt main_v19 main_v20
  let main_c_7 : IVec S_ 1 := constantI S_ 1 1#1
  let main_v22 : IVec S_ 1 := (fun x v => Host.reduce IntOp.andi x v reducesTo_S8x320_S_d0_1 h_S_) main_v21 main_c_7
  let main_v23 : IVec S_ 1 := andi main_v18 main_v22
  main_v23

def fn {F : FTy → Type} [FloatOps F] (main_arg0 : FVec F S2048x8192 .f32) (main_arg1 : FVec F S2048x1024 .f32) (main_arg2 : FVec F S1x128 .f32) (main_arg3 : FVec F S1x128 .f32) (main_arg4 : FVec F S8x320 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Pre_finite2.lean ====
abbrev S2048x8192 : Shape := ⟨2, ![2048, 8192]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v15 : IVec S_ 1) (main_v16 : FVec F S2048x2048 .f32) (main_cst_4 : FVec F S_ .f32) : IVec S_ 1 :=
  let main_v17 : FVec F S2048x2048 .f32 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_v20 : IVec S_ 1 := andi main_v15 main_v19
  let main_v21 : FVec F S1x2048 .f32 := Host.absf main_arg4
  let main_cst_6 : FVec F S_ .f32 := constant S_ .f32 0x7F800000#32
  let main_v22 : FVec F S1x2048 .f32 := broadcastInDim S1x2048 ![] bcast_S_S1x2048 main_cst_6
  let main_v23 : IVec S1x2048 1 := cmpf .olt main_v21 main_v22
  let main_c_7 : IVec S_ 1 := constantI S_ 1 1#1
  let main_v24 : IVec S_ 1 := (fun x v => Host.reduce IntOp.andi x v reducesTo_S1x2048_S_d0_1 h_S_) main_v23 main_c_7
  let main_v25 : IVec S_ 1 := andi main_v20 main_v24
  main_v25

def fn {F : FTy → Type} [FloatOps F] (main_arg0 : FVec F S2048x8192 .bf16) (main_arg1 : FVec F S2048x8192 .bf16) (main_arg2 : FVec F S2048x2048 .f32) (main_arg3 : FVec F S2048x2048 .f32) (main_arg4 : FVec F S1x2048 .f32) : IVec S_ 1 :=
  let main_v0 : FVec F S2048x8192 .f32 := (extf .f32 · bitsLt_bf16_f32) main_arg0
  let main_v1 : FVec F S2048x8192 .f32 := Host.absf main_v0
  let main_cst : FVec F S_ .f32 := constant S_ .f32 0x7F800000#32
  let main_v2 : FVec F S2048x8192 .f32 := broadcastInDim S2048x8192 ![] bcast_S_S2048x8192 main_cst
  let main_v3 : IVec S2048x8192 1 := cmpf .olt main_v1 main_v2
  let main_c : IVec S_ 1 := constantI S_ 1 1#1
  let main_v4 : IVec S_ 1 := (fun x v => Host.reduce IntOp.andi x v reducesTo_S2048x8192_S_d0_1 h_S_) main_v3 main_c
  let main_v5 : FVec F S2048x8192 .f32 := (extf .f32 · bitsLt_bf16_f32) main_arg1
  let main_v6 : FVec F S2048x8192 .f32 := Host.absf main_v5
  let main_cst_0 : FVec F S_ .f32 := constant S_ .f32 0x7F800000#32
  let main_v7 : FVec F S2048x8192 .f32 := broadcastInDim S2048x8192 ![] bcast_S_S2048x8192 main_cst_0
  let main_v8 : IVec S2048x8192 1 := cmpf .olt main_v6 main_v7
  let main_c_1 : IVec S_ 1 := constantI S_ 1 1#1
  let main_v9 : IVec S_ 1 := (fun x v => Host.reduce IntOp.andi x v reducesTo_S2048x8192_S_d0_1 h_S_) main_v8 main_c_1
  let main_v10 : IVec S_ 1 := andi main_v4 main_v9
  let main_v11 : FVec F S2048x2048 .f32 := Host.absf main_arg2
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_c_3 : IVec S_ 1 := constantI S_ 1 1#1
  let main_v14 : IVec S_ 1 := (fun x v => Host.reduce IntOp.andi x v reducesTo_S2048x2048_S_d0_1 h_S_) main_v13 main_c_3
  let main_v15 : IVec S_ 1 := andi main_v10 main_v14
  let main_v16 : FVec F S2048x2048 .f32 := Host.absf main_arg3
  let main_cst_4 : FVec F S_ .f32 := constant S_ .f32 0x7F800000#32
  fn_part1 (F := F) main_arg4 main_v15 main_v16 main_cst_4
-- ==== Pre_finite4.lean ====
abbrev S2048x2048 : Shape := ⟨2, ![2048, 2048]⟩
abbrev S2048x1024 : Shape := ⟨2, ![2048, 1024]⟩
abbrev S2048x8192 : Shape := ⟨2, ![2048, 8192]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x8192 : S_.BroadcastsInDim S2048x8192 (![] : Fin 0 → Fin S2048x8192.rank)
  reducesTo_S2048x8192_S_d0_1 : S2048x8192.ReducesTo [0, 1] S_
  bitsLt_bf16_f32 : FTy.bits .bf16 < FTy.bits .f32

variable [Facts]

def fn_part1 {F : FTy → Type} [FloatOps F] (main_arg4 : FVec F S2048x2048 .bf16) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048x2048 .f32 := (extf .f32 · bitsLt_bf16_f32) main_arg4
  let main_v20 : FVec F S2048x2048 .f32 := Host.absf main_v19
  let main_cst_6 : FVec F S_ .f32 := constant S_ .f32 0x7F800000#32
  let main_v21 : FVec F S2048x2048 .f32 := broadcastInDim S2048x2048 ![] bcast_S_S2048x2048 main_cst_6
  let main_v22 : IVec S2048x2048 1 := cmpf .olt main_v20 main_v21
  let main_c_7 : IVec S_ 1 := constantI S_ 1 1#1
  let main_v23 : IVec S_ 1 := (fun x v => Host.reduce IntOp.andi x v reducesTo_S2048x2048_S_d0_1 h_S_) main_v22 main_c_7
  let main_v24 : IVec S_ 1 := andi main_v18 main_v23
  main_v24

def fn {F : FTy → Type} [FloatOps F] (main_arg0 : FVec F S2048x2048 .f32) (main_arg1 : FVec F S2048x1024 .f32) (main_arg2 : FVec F S2048x1024 .f32) (main_arg3 : FVec F S2048x8192 .f32) (main_arg4 : FVec F S2048x2048 .bf16) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S2048x8192 : Shape := ⟨2, ![2048, 8192]⟩
abbrev S2048x1024 : Shape := ⟨2, ![2048, 1024]⟩
abbrev S1x128 : Shape := ⟨2, ![1, 128]⟩
abbrev S8x320 : Shape := ⟨2, ![8, 320]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S8x1024 : Shape := ⟨2, ![8, 1024]⟩
abbrev S8x1x1024 : Shape := ⟨3, ![8, 1, 1024]⟩
abbrev S8x1x128 : Shape := ⟨3, ![8, 1, 128]⟩
abbrev S256x128 : Shape := ⟨2, ![256, 128]⟩
abbrev S2048x128 : Shape := ⟨2, ![2048, 128]⟩
abbrev S1x1x1024 : Shape := ⟨3, ![1, 1, 1024]⟩
abbrev S1x1x128 : Shape := ⟨3, ![1, 1, 128]⟩
abbrev S2560x128 : Shape := ⟨2, ![2560, 128]⟩
abbrev S256x768 : Shape := ⟨2, ![256, 768]⟩
abbrev S256x1024 : Shape := ⟨2, ![256, 1024]⟩
abbrev S2048 : Shape := ⟨1, ![2048]⟩
abbrev S2048x1 : Shape := ⟨2, ![2048, 1]⟩
abbrev S512x128 : Shape := ⟨2, ![512, 128]⟩
abbrev S1x1024 : Shape := ⟨2, ![1, 1024]⟩
abbrev S8x768 : Shape := ⟨2, ![8, 768]⟩
abbrev S256 : Shape := ⟨1, ![256]⟩
abbrev S256x1 : Shape := ⟨2, ![256, 1]⟩
abbrev S768x128 : Shape := ⟨2, ![768, 128]⟩
abbrev S128 : Shape := ⟨1, ![128]⟩

abbrev nBuf : Space → Nat
  | .hbm => 36
  | .vmem => 30
  | .smem => 0
  | _ => 0

abbrev bufTy : (tb : Table) → Fin (tcTables nBuf tb) → BufTy
  | .hbm, ⟨0, _⟩ => ⟨S2048x8192, .f32⟩
  | .hbm, ⟨1, _⟩ => ⟨S2048x1024, .f32⟩
  | .hbm, ⟨2, _⟩ => ⟨S1x128, .f32⟩
  | .hbm, ⟨3, _⟩ => ⟨S1x128, .f32⟩
  | .hbm, ⟨4, _⟩ => ⟨S8x320, .f32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S1x1, .i32⟩
  | .hbm, ⟨19, _⟩ => ⟨S1024x1, .i32⟩
  | .hbm, ⟨20, _⟩ => ⟨S1024x1, .i1⟩
  | .hbm, ⟨21, _⟩ => ⟨S1024x1, .i1⟩
  | .hbm, ⟨22, _⟩ => ⟨S_, .i1⟩
  | .hbm, ⟨23, _⟩ => ⟨S1024, .i1⟩
  | .hbm, ⟨24, _⟩ => ⟨S8x1024, .f32⟩
  | .hbm, ⟨25, _⟩ => ⟨S8x1024, .i1⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1x1024, .f32⟩
  | .hbm, ⟨30, _⟩ => ⟨S2048x1024, .bf16⟩
  | .hbm, ⟨31, _⟩ => ⟨S2048x1024, .bf16⟩
  | .hbm, ⟨32, _⟩ => ⟨S2048x1024, .bf16⟩
  | .hbm, ⟨33, _⟩ => ⟨S8x1x128, .f32⟩
  | .hbm, ⟨34, _⟩ => ⟨S8x1x128, .f32⟩
  | .hbm, ⟨35, _⟩ => ⟨S8x1x1024, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1x1x1024, .f32⟩
  | .local _ .vmem, ⟨11, _⟩ => ⟨S1x1x1024, .f32⟩
  | .local _ .vmem, ⟨12, _⟩ => ⟨S256x128, .bf16⟩
  | .local _ .vmem, ⟨13, _⟩ => ⟨S256x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x1024, .f32⟩
  | .local _ .vmem, ⟨23, _⟩ => ⟨S1x1x1024, .f32⟩
  | .local _ .vmem, ⟨24, _⟩ => ⟨S2560x128, .bf16⟩
  | .local _ .vmem, ⟨25, _⟩ => ⟨S2560x128, .bf16⟩
  | .local _ .vmem, ⟨26, _⟩ => ⟨S256x768, .f32⟩
  | .local _ .vmem, ⟨27, _⟩ => ⟨S256x1024, .f32⟩
  | .local _ .vmem, ⟨28, _⟩ => ⟨S2560x128, .f32⟩
  | .local _ .vmem, ⟨29, _⟩ => ⟨S2560x128, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2_0 : Ref sig .tc := ⟨.hbm, 30, rfl⟩
abbrev main_v2_1 : Ref sig .tc := ⟨.hbm, 31, rfl⟩
abbrev main_v2_2 : Ref sig .tc := ⟨.hbm, 32, rfl⟩
abbrev main_v2_3 : Ref sig .tc := ⟨.hbm, 33, rfl⟩
abbrev main_v2_4 : Ref sig .tc := ⟨.hbm, 34, rfl⟩
abbrev main_v2_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v18 : BitVec 32 := Scalar.muli arg1 c256_i32
  v18
def k0_off1 (i : grid0.Coords) : Fin 2 → Nat :=
  let arg1 : BitVec 32 := BitVec.ofNat 32 (i 1).val
  let c256_i32 : BitVec 32 := 256#32
  let v18 : BitVec 32 := Scalar.muli arg1 c256_i32
  let v19 : BitVec 32 := v18
  let v20 : Index := Scalar.indexCast v19
  let c0_6 : Index := 0#32
  ![v20.toNat, 0]
def k0_cond2 (i : grid0.Coords) : BitVec 1 :=
  let arg1 : BitVec 32 := BitVec.ofNat 32 (i 1).val
  let c7_i32 : BitVec 32 := 7#32
  let v159 : BitVec 1 := Scalar.cmpi .eq arg1 c7_i32
  let v160 : BitVec 32 := Scalar.extui v159
  let c0_i32_57 : BitVec 32 := 0#32
  let v161 : BitVec 1 := Scalar.cmpi .ne v160 c0_i32_57
  v161

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x8192 : Shape := ⟨2, ![2048, 8192]⟩
abbrev S2048x1024 : Shape := ⟨2, ![2048, 1024]⟩
abbrev S1x128 : Shape := ⟨2, ![1, 128]⟩
abbrev S8x320 : Shape := ⟨2, ![8, 320]⟩
abbrev S8x1x128 : Shape := ⟨3, ![8, 1, 128]⟩
abbrev S2048x8x128 : Shape := ⟨3, ![2048, 8, 128]⟩
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S2048x2048 : Shape := ⟨2, ![2048, 2048]⟩
abbrev S2048x2048x1 : Shape := ⟨3, ![2048, 2048, 1]⟩
abbrev S1x2048x2048 : Shape := ⟨3, ![1, 2048, 2048]⟩
abbrev S8x128x2048 : Shape := ⟨3, ![8, 128, 2048]⟩
abbrev S8x128 : Shape := ⟨2, ![8, 128]⟩

abbrev nBuf : Space → Nat
  | .hbm => 291
  | .vmem => 0
  | .smem => 0
  | _ => 0

abbrev hbmTy0_0 (i : Nat) : BufTy := match i % 128 with
  | 0 => ⟨S2048x8192, .f32⟩
  | 1 => ⟨S2048x1024, .f32⟩
  | 2 => ⟨S1x128, .f32⟩
  | 3 => ⟨S1x128, .f32⟩
  | 4 => ⟨S8x320, .f32⟩
  | 5 => ⟨S2048x1024, .f32⟩
  | 6 => ⟨S2048x1024, .f32⟩
  | 7 => ⟨S2048x1024, .f32⟩
  | 8 => ⟨S8x1x128, .f32⟩
  | 9 => ⟨S8x1x128, .f32⟩
  | 10 => ⟨S2048x8x128, .f32⟩
  | 11 => ⟨S8x2048x128, .f32⟩
  | 12 => ⟨S2048x8x128, .f32⟩
  | 13 => ⟨S8x2048x128, .f32⟩
  | 14 => ⟨S2048x8x128, .f32⟩
  | 15 => ⟨S8x2048x128, .f32⟩
  | 16 => ⟨S8x2048x128, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1, .f32⟩
  | 28 => ⟨S_, .f32⟩
  | 29 => ⟨S8x2048x1, .f32⟩
  | 30 => ⟨S8x2048x1, .f32⟩
  | 31 => ⟨S8x2048x128, .f32⟩
  | 32 => ⟨S8x2048x128, .f32⟩
  | 33 => ⟨S8x2048x128, .f32⟩
  | 34 => ⟨S8x2048x128, .f32⟩
  | 35 => ⟨S8x2048x128, .f32⟩
  | 36 => ⟨S_, .f32⟩
  | 37 => ⟨S8x2048, .f32⟩
  | 38 => ⟨S8x2048x1, .f32⟩
  | 39 => ⟨S_, .f32⟩
  | 40 => ⟨S8x2048x1, .f32⟩
  | 41 => ⟨S8x2048x1, .f32⟩
  | 42 => ⟨S_, .f32⟩
  | 43 => ⟨S8x2048x1, .f32⟩
  | 44 => ⟨S8x2048x1, .f32⟩
  | 45 => ⟨S8x2048x1, .f32⟩
  | 46 => ⟨S8x2048x1, .f32⟩
  | 47 => ⟨S_, .f32⟩
  | 48 => ⟨S8x2048x1, .f32⟩
  | 49 => ⟨S8x2048x1, .f32⟩
  | 50 => ⟨S8x2048x128, .f32⟩
  | 51 => ⟨S8x2048x128, .f32⟩
  | 52 => ⟨S8x2048x128, .f32⟩
  | 53 => ⟨S8x2048x128, .f32⟩
  | 54 => ⟨S8x2048x2048, .f32⟩
  | 55 => ⟨S_, .f32⟩
  | 56 => ⟨S8x2048x2048, .f32⟩
  | 57 => ⟨S8x2048x2048, .f32⟩
  | 58 => ⟨S2048x2048, .i32⟩
  | 59 => ⟨S2048x2048, .i32⟩
  | 60 => ⟨S2048x2048, .i32⟩
  | 61 => ⟨S_, .i32⟩
  | 62 => ⟨S_, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i32⟩
  | 69 => ⟨S_, .i32⟩
  | 70 => ⟨S2048x2048, .i32⟩
  | 71 => ⟨S2048x2048, .i32⟩
  | 72 => ⟨S_, .i32⟩
  | 73 => ⟨S2048x2048, .i32⟩
  | 74 => ⟨S2048x2048, .i1⟩
  | 75 => ⟨S_, .i32⟩
  | 76 => ⟨S2048x2048, .i32⟩
  | 77 => ⟨S2048x2048, .i32⟩
  | 78 => ⟨S2048x2048, .i32⟩
  | 79 => ⟨S2048x2048x1, .i32⟩
  | 80 => ⟨S8x2048x2048, .f32⟩
  | 81 => ⟨S8x2048x2048, .f32⟩
  | 82 => ⟨S_, .i32⟩
  | 83 => ⟨S_, .i32⟩
  | 84 => ⟨S2048x2048, .i32⟩
  | 85 => ⟨S2048x2048, .i32⟩
  | 86 => ⟨S2048x2048, .i32⟩
  | 87 => ⟨S_, .i32⟩
  | 88 => ⟨S2048x2048, .i32⟩
  | 89 => ⟨S2048x2048, .i1⟩
  | 90 => ⟨S2048x2048, .i32⟩
  | 91 => ⟨S2048x2048, .i32⟩
  | 92 => ⟨S_, .i32⟩
  | 93 => ⟨S2048x2048, .i32⟩
  | 94 => ⟨S2048x2048, .i1⟩
  | 95 => ⟨S2048x2048, .i1⟩
  | 96 => ⟨S_, .i32⟩
  | 97 => ⟨S2048x2048, .i32⟩
  | 98 => ⟨S2048x2048, .i32⟩
  | 99 => ⟨S2048x2048, .i32⟩
  | 100 => ⟨S_, .i32⟩
  | 101 => ⟨S_, .i32⟩
  | 102 => ⟨S2048x2048, .i32⟩
  | 103 => ⟨S2048x2048, .i32⟩
  | 104 => ⟨S2048x2048, .i32⟩
  | 105 => ⟨S_, .i32⟩
  | 106 => ⟨S2048x2048, .i32⟩
  | 107 => ⟨S2048x2048, .i1⟩
  | 108 => ⟨S2048x2048, .i32⟩
  | 109 => ⟨S2048x2048, .i32⟩
  | 110 => ⟨S_, .i32⟩
  | 111 => ⟨S2048x2048, .i32⟩
  | 112 => ⟨S2048x2048, .i1⟩
  | 113 => ⟨S2048x2048, .i1⟩
  | 114 => ⟨S_, .i32⟩
  | 115 => ⟨S2048x2048, .i32⟩
  | 116 => ⟨S2048x2048, .i32⟩
  | 117 => ⟨S2048x2048, .i32⟩
  | 118 => ⟨S2048x2048, .i1⟩
  | 119 => ⟨S_, .i32⟩
  | 120 => ⟨S_, .i32⟩
  | 121 => ⟨S2048x2048, .i32⟩
  | 122 => ⟨S2048x2048, .i32⟩
  | 123 => ⟨S2048x2048, .i32⟩
  | 124 => ⟨S_, .i32⟩
  | 125 => ⟨S2048x2048, .i32⟩
  | 126 => ⟨S2048x2048, .i1⟩
  | 127 => ⟨S2048x2048, .i32⟩
  | _ => ⟨S2048x8192, .f32⟩

abbrev hbmTy0_1 (i : Nat) : BufTy := match i % 128 with
  | 0 => ⟨S2048x2048, .i32⟩
  | 1 => ⟨S_, .i32⟩
  | 2 => ⟨S2048x2048, .i32⟩
  | 3 => ⟨S2048x2048, .i1⟩
  | 4 => ⟨S2048x2048, .i1⟩
  | 5 => ⟨S_, .i32⟩
  | 6 => ⟨S2048x2048, .i32⟩
  | 7 => ⟨S2048x2048, .i32⟩
  | 8 => ⟨S2048x2048, .i32⟩
  | 9 => ⟨S_, .i32⟩
  | 10 => ⟨S_, .i32⟩
  | 11 => ⟨S2048x2048, .i32⟩
  | 12 => ⟨S2048x2048, .i32⟩
  | 13 => ⟨S2048x2048, .i32⟩
  | 14 => ⟨S_, .i32⟩
  | 15 => ⟨S2048x2048, .i32⟩
  | 16 => ⟨S2048x2048, .i1⟩
  | 17 => ⟨S2048x2048, .i32⟩
  | 18 => ⟨S2048x2048, .i32⟩
  | 19 => ⟨S_, .i32⟩
  | 20 => ⟨S2048x2048, .i32⟩
  | 21 => ⟨S2048x2048, .i1⟩
  | 22 => ⟨S2048x2048, .i1⟩
  | 23 => ⟨S_, .i32⟩
  | 24 => ⟨S2048x2048, .i32⟩
  | 25 => ⟨S2048x2048, .i32⟩
  | 26 => ⟨S2048x2048, .i32⟩
  | 27 => ⟨S_, .i32⟩
  | 28 => ⟨S2048x2048, .i32⟩
  | 29 => ⟨S2048x2048, .i32⟩
  | 30 => ⟨S2048x2048, .i1⟩
  | 31 => ⟨S2048x2048, .i1⟩
  | 32 => ⟨S1x2048x2048, .i1⟩
  | 33 => ⟨S_, .f32⟩
  | 34 => ⟨S_, .f32⟩
  | 35 => ⟨S8x2048x2048, .i1⟩
  | 36 => ⟨S8x2048x2048, .f32⟩
  | 37 => ⟨S8x2048x2048, .f32⟩
  | 38 => ⟨S_, .f32⟩
  | 39 => ⟨S8x2048x2048, .f32⟩
  | 40 => ⟨S_, .f32⟩
  | 41 => ⟨S8x2048, .f32⟩
  | 42 => ⟨S8x2048x1, .f32⟩
  | 43 => ⟨S8x2048x2048, .f32⟩
  | 44 => ⟨S8x2048x2048, .i1⟩
  | 45 => ⟨S8x2048x2048, .f32⟩
  | 46 => ⟨S_, .f32⟩
  | 47 => ⟨S8x2048, .f32⟩
  | 48 => ⟨S_, .f32⟩
  | 49 => ⟨S8x2048, .f32⟩
  | 50 => ⟨S8x2048, .f32⟩
  | 51 => ⟨S_, .f32⟩
  | 52 => ⟨S8x2048, .f32⟩
  | 53 => ⟨S8x2048, .i1⟩
  | 54 => ⟨S_, .f32⟩
  | 55 => ⟨S8x2048, .f32⟩
  | 56 => ⟨S8x2048, .i1⟩
  | 57 => ⟨S_, .f32⟩
  | 58 => ⟨S8x2048, .f32⟩
  | 59 => ⟨S_, .f32⟩
  | 60 => ⟨S8x2048, .f32⟩
  | 61 => ⟨S_, .f32⟩
  | 62 => ⟨S8x2048, .f32⟩
  | 63 => ⟨S8x2048, .f32⟩
  | 64 => ⟨S8x2048, .f32⟩
  | 65 => ⟨S8x2048x1, .f32⟩
  | 66 => ⟨S8x2048x2048, .f32⟩
  | 67 => ⟨S8x2048x2048, .f32⟩
  | 68 => ⟨S8x2048x2048, .f32⟩
  | 69 => ⟨S_, .f32⟩
  | 70 => ⟨S8x2048, .f32⟩
  | 71 => ⟨S8x2048x1, .f32⟩
  | 72 => ⟨S8x2048x2048, .f32⟩
  | 73 => ⟨S8x2048x2048, .f32⟩
  | 74 => ⟨S8x2048x1, .f32⟩
  | 75 => ⟨S_, .f32⟩
  | 76 => ⟨S8x2048x1, .f32⟩
  | 77 => ⟨S8x2048x1, .f32⟩
  | 78 => ⟨S8x2048x128, .f32⟩
  | 79 => ⟨S2048x8x128, .f32⟩
  | 80 => ⟨S2048x1024, .f32⟩
  | 81 => ⟨S2048x8x128, .f32⟩
  | 82 => ⟨S8x2048x128, .f32⟩
  | 83 => ⟨S8x128x2048, .f32⟩
  | 84 => ⟨S8x2048x128, .f32⟩
  | 85 => ⟨S8x2048x2048, .f32⟩
  | 86 => ⟨S8x2048x2048, .f32⟩
  | 87 => ⟨S8x2048x2048, .f32⟩
  | 88 => ⟨S8x2048x2048, .f32⟩
  | 89 => ⟨S_, .f32⟩
  | 90 => ⟨S8x2048, .f32⟩
  | 91 => ⟨S8x2048x1, .f32⟩
  | 92 => ⟨S8x2048x1, .f32⟩
  | 93 => ⟨S8x2048x2048, .f32⟩
  | 94 => ⟨S8x2048x2048, .f32⟩
  | 95 => ⟨S_, .f32⟩
  | 96 => ⟨S8x2048, .f32⟩
  | 97 => ⟨S8x2048x2048, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .f32⟩
  | 103 => ⟨S_, .f32⟩
  | 104 => ⟨S8x2048x2048, .f32⟩
  | 105 => ⟨S8x2048x2048, .f32⟩
  | 106 => ⟨S8x2048x128, .f32⟩
  | 107 => ⟨S8x2048x128, .f32⟩
  | 108 => ⟨S8x2048x128, .f32⟩
  | 109 => ⟨S_, .f32⟩
  | 110 => ⟨S8x128, .f32⟩
  | 111 => ⟨S8x1x128, .f32⟩
  | 112 => ⟨S8x2048x128, .f32⟩
  | 113 => ⟨S8x2048x128, .f32⟩
  | 114 => ⟨S8x2048x128, .f32⟩
  | 115 => ⟨S_, .f32⟩
  | 116 => ⟨S8x2048, .f32⟩
  | 117 => ⟨S8x2048x1, .f32⟩
  | 118 => ⟨S8x2048x128, .f32⟩
  | 119 => ⟨S8x2048x128, .f32⟩
  | 120 => ⟨S8x2048x1, .f32⟩
  | 121 => ⟨S_, .f32⟩
  | 122 => ⟨S8x2048x1, .f32⟩
  | 123 => ⟨S8x2048x1, .f32⟩
  | 124 => ⟨S_, .f32⟩
  | 125 => ⟨S8x2048, .f32⟩
  | 126 => ⟨S8x2048x128, .f32⟩
  | 127 => ⟨S8x2048x128, .f32⟩
  | _ => ⟨S2048x8192, .f32⟩

abbrev hbmTy0_2 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S_, .f32⟩
  | 5 => ⟨S8x128, .f32⟩
  | 6 => ⟨S8x1x128, .f32⟩
  | 7 => ⟨S8x2048x128, .f32⟩
  | 8 => ⟨S8x2048x128, .f32⟩
  | 9 => ⟨S8x2048x128, .f32⟩
  | 10 => ⟨S_, .f32⟩
  | 11 => ⟨S8x2048, .f32⟩
  | 12 => ⟨S8x2048x1, .f32⟩
  | 13 => ⟨S8x2048x128, .f32⟩
  | 14 => ⟨S8x2048x128, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048, .f32⟩
  | 21 => ⟨S8x2048x128, .f32⟩
  | 22 => ⟨S8x2048x128, .f32⟩
  | 23 => ⟨S8x2048x128, .f32⟩
  | 24 => ⟨S8x2048x128, .f32⟩
  | 25 => ⟨S8x2048x128, .f32⟩
  | 26 => ⟨S2048x8x128, .f32⟩
  | 27 => ⟨S2048x1024, .f32⟩
  | 28 => ⟨S2048x8x128, .f32⟩
  | 29 => ⟨S2048x1024, .f32⟩
  | 30 => ⟨S2048x8x128, .f32⟩
  | 31 => ⟨S2048x1024, .f32⟩
  | 32 => ⟨S2048x1024, .bf16⟩
  | 33 => ⟨S2048x1024, .bf16⟩
  | 34 => ⟨S2048x1024, .bf16⟩
  | _ => ⟨S2048x8192, .f32⟩

abbrev hbmTy (i : Nat) : BufTy := match i / 128 with
  | 0 => hbmTy0_0 i
  | 1 => hbmTy0_1 i
  | 2 => hbmTy0_2 i
  | _ => ⟨S2048x8192, .f32⟩

abbrev bufTy : (tb : Table) → Fin (tcTables nBuf tb) → BufTy
  | .hbm, ⟨i, _⟩ => hbmTy i
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_c_8 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_c : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_0 : Ref sig .tc := ⟨.hbm, 96, rfl⟩
abbrev main_call1_v12 : Ref sig .tc := ⟨.hbm, 97, rfl⟩
abbrev main_call1_v13 : Ref sig .tc := ⟨.hbm, 98, rfl⟩
abbrev main_v58 : Ref sig .tc := ⟨.hbm, 99, rfl⟩
abbrev main_c_13 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_c : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_0 : Ref sig .tc := ⟨.hbm, 114, rfl⟩
abbrev main_call2_v12 : Ref sig .tc := ⟨.hbm, 115, rfl⟩
abbrev main_call2_v13 : Ref sig .tc := ⟨.hbm, 116, rfl⟩
abbrev main_v59 : Ref sig .tc := ⟨.hbm, 117, rfl⟩
abbrev main_v60 : Ref sig .tc := ⟨.hbm, 118, rfl⟩
abbrev main_c_14 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_c : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_0 : Ref sig .tc := ⟨.hbm, 133, rfl⟩
abbrev main_call3_v12 : Ref sig .tc := ⟨.hbm, 134, rfl⟩
abbrev main_call3_v13 : Ref sig .tc := ⟨.hbm, 135, rfl⟩
abbrev main_v61 : Ref sig .tc := ⟨.hbm, 136, rfl⟩
abbrev main_c_15 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_v7 : Ref sig .tc := ⟨.hbm, 145, rfl⟩
abbrev main_call4_v8 : Ref sig .tc := ⟨.hbm, 146, rfl⟩
abbrev main_call4_c : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_c_0 : Ref sig .tc := ⟨.hbm, 151, rfl⟩
abbrev main_call4_v12 : Ref sig .tc := ⟨.hbm, 152, rfl⟩
abbrev main_call4_v13 : Ref sig .tc := ⟨.hbm, 153, rfl⟩
abbrev main_v62 : Ref sig .tc := ⟨.hbm, 154, rfl⟩
abbrev main_c_16 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_cst_17 : Ref sig .tc := ⟨.hbm, 161, rfl⟩
abbrev main_call5_v0 : Ref sig .tc := ⟨.hbm, 162, rfl⟩
abbrev main_v68_1 : Ref sig .tc := ⟨.hbm, 163, rfl⟩
abbrev main_call5_v2 : Ref sig .tc := ⟨.hbm, 164, rfl⟩
abbrev main_v68_0 : Ref sig .tc := ⟨.hbm, 165, rfl⟩
abbrev main_call5_cst : Ref sig .tc := ⟨.hbm, 166, rfl⟩
abbrev main_v68_2 : Ref sig .tc := ⟨.hbm, 167, rfl⟩
abbrev main_cst_18 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_cst_19 : Ref sig .tc := ⟨.hbm, 174, rfl⟩
abbrev main_v74 : Ref sig .tc := ⟨.hbm, 175, rfl⟩
abbrev main_cst_20 : Ref sig .tc := ⟨.hbm, 176, rfl⟩
abbrev main_v75 : Ref sig .tc := ⟨.hbm, 177, rfl⟩
abbrev main_v76 : Ref sig .tc := ⟨.hbm, 178, rfl⟩
abbrev main_cst_21 : Ref sig .tc := ⟨.hbm, 179, rfl⟩
abbrev main_v77 : Ref sig .tc := ⟨.hbm, 180, rfl⟩
abbrev main_v78 : Ref sig .tc := ⟨.hbm, 181, rfl⟩
abbrev main_cst_22 : Ref sig .tc := ⟨.hbm, 182, rfl⟩
abbrev main_v79 : Ref sig .tc := ⟨.hbm, 183, rfl⟩
abbrev main_v80 : Ref sig .tc := ⟨.hbm, 184, rfl⟩
abbrev main_cst_23 : Ref sig .tc := ⟨.hbm, 185, rfl⟩
abbrev main_v81 : Ref sig .tc := ⟨.hbm, 186, rfl⟩
abbrev main_cst_24 : Ref sig .tc := ⟨.hbm, 187, rfl⟩
abbrev main_v82 : Ref sig .tc := ⟨.hbm, 188, rfl⟩
abbrev main_cst_25 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_cst_26 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_cst_27 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_cst_28 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_cst_29 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_call6_cst : Ref sig .tc := ⟨.hbm, 228, rfl⟩
abbrev main_call6_v0 : Ref sig .tc := ⟨.hbm, 229, rfl⟩
abbrev main_v117 : Ref sig .tc := ⟨.hbm, 230, rfl⟩
abbrev main_cst_30 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_cst_31 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_cst_32 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_cst_33 : Ref sig .tc := ⟨.hbm, 249, rfl⟩
abbrev main_v133 : Ref sig .tc := ⟨.hbm, 250, rfl⟩
abbrev main_v134 : Ref sig .tc := ⟨.hbm, 251, rfl⟩
abbrev main_cst_34 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_cst_35 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_cst_36 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_cst_37 : Ref sig .tc := ⟨.hbm, 272, rfl⟩
abbrev main_v152 : Ref sig .tc := ⟨.hbm, 273, rfl⟩
abbrev main_v153 : Ref sig .tc := ⟨.hbm, 274, rfl⟩
abbrev main_cst_38 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩

abbrev nD : Nat := 1
abbrev τ : Topo := Topo.v7x

variable {F : FTy → Type} [FloatOps F]
-- ==== Kernel2.lean ====
abbrev S2048x8192 : Shape := ⟨2, ![2048, 8192]⟩
abbrev S2048x2048 : Shape := ⟨2, ![2048, 2048]⟩
abbrev S1x2048 : Shape := ⟨2, ![1, 2048]⟩
abbrev S8192x2048 : Shape := ⟨2, ![8192, 2048]⟩
abbrev S8x2048 : Shape := ⟨2, ![8, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S8192x2048, .bf16⟩
  | .hbm, ⟨6, _⟩ => ⟨S2048x2048, .f32⟩
  | .hbm, ⟨7, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S8x2048, .f32⟩
  | .local _ .vmem, ⟨12, _⟩ => ⟨S512x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S2048x8192 : Shape := ⟨2, ![2048, 8192]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x2048 : Shape := ⟨2, ![8, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x8192, .f32⟩
  | .hbm, ⟨25, _⟩ => ⟨S2048x8192, .f32⟩
  | .hbm, ⟨26, _⟩ => ⟨S2048x8192, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S8x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x2048 : Shape := ⟨2, ![2048, 2048]⟩
abbrev S2048x1024 : Shape := ⟨2, ![2048, 1024]⟩
abbrev S2048x8192 : Shape := ⟨2, ![2048, 8192]⟩
abbrev S256x2048 : Shape := ⟨2, ![256, 2048]⟩
abbrev S256x1024 : Shape := ⟨2, ![256, 1024]⟩
abbrev S1024x2048 : Shape := ⟨2, ![1024, 2048]⟩

abbrev nBuf : Space → Nat
  | .hbm => 9
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x2048, .bf16⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S2048x2048, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S2048x2048 : Shape := ⟨2, ![2048, 2048]⟩
abbrev S2048x1024 : Shape := ⟨2, ![2048, 1024]⟩
abbrev S2048x8192 : Shape := ⟨2, ![2048, 8192]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x2048, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v4_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v4_1 : Ref sig .tc := ⟨.hbm, 32, rfl⟩
abbrev main_v4_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩

abbrev nD : Nat := 1
abbrev τ : Topo := Topo.v7x

variable {F : FTy → Type} [FloatOps F]
-- ==== Kernel5.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S4x512x2048, .f32⟩
  | .hbm, ⟨9, _⟩ => ⟨S4x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x2048 : Shape := ⟨2, ![2048, 2048]⟩
abbrev S2048x1024 : Shape := ⟨2, ![2048, 1024]⟩
abbrev S2048x8192 : Shape := ⟨2, ![2048, 8192]⟩
abbrev S1x2048 : Shape := ⟨2, ![1, 2048]⟩
abbrev S256x2048 : Shape := ⟨2, ![256, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩

abbrev nBuf : Space → Nat
  | .hbm => 9
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x2048, .bf16⟩
  | .hbm, ⟨5, _⟩ => ⟨S1x2048, .f32⟩
  | .hbm, ⟨6, _⟩ => ⟨S2048x2048, .bf16⟩
  | .hbm, ⟨7, _⟩ => ⟨S2048x2048, .f32⟩
  | .hbm, ⟨8, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S2048x2048, .bf16⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S2048x2048 : Shape := ⟨2, ![2048, 2048]⟩
abbrev S2048x1024 : Shape := ⟨2, ![2048, 1024]⟩
abbrev S2048x8192 : Shape := ⟨2, ![2048, 8192]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x2048, .bf16⟩
  | .hbm, ⟨5, _⟩ => ⟨S1x2048, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .bf16⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩

abbrev nD : Nat := 1
abbrev τ : Topo := Topo.v7x

variable {F : FTy → Type} [FloatOps F]
-- ==== Kernel7.lean ====
abbrev S2048x2048 : Shape := ⟨2, ![2048, 2048]⟩
abbrev S4x2048x2048 : Shape := ⟨3, ![4, 2048, 2048]⟩
abbrev S2048x8192 : Shape := ⟨2, ![2048, 8192]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x2048x128 : Shape := ⟨3, ![1, 2048, 128]⟩
abbrev S2048x128 : Shape := ⟨2, ![2048, 128]⟩
abbrev S128x2048 : Shape := ⟨2, ![128, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x8192, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S2048x8192 : Shape := ⟨2, ![2048, 8192]⟩
abbrev S8x128 : Shape := ⟨2, ![8, 128]⟩
abbrev S256x2048 : Shape := ⟨2, ![256, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 9
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .f32⟩
  | .local _ .vmem, ⟨16, _⟩ => ⟨S256x2048, .f32⟩
  | .local _ .vmem, ⟨17, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S2048x2048 : Shape := ⟨2, ![2048, 2048]⟩
abbrev S2048x1024 : Shape := ⟨2, ![2048, 1024]⟩
abbrev S2048x8192 : Shape := ⟨2, ![2048, 8192]⟩
abbrev S_ : Shape := ⟨0, ![]⟩
abbrev S2048 : Shape := ⟨1, ![2048]⟩
abbrev S8x128 : Shape := ⟨2, ![8, 128]⟩

abbrev nBuf : Space → Nat
  | .hbm => 57
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x2048, .bf16⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048x2048, .f32⟩
  | .hbm, ⟨54, _⟩ => ⟨S2048x2048, .f32⟩
  | .hbm, ⟨55, _⟩ => ⟨S2048x2048, .bf16⟩
  | .hbm, ⟨56, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_cst_4 : Ref sig .tc := ⟨.hbm, 46, rfl⟩
abbrev main_cst_5 : Ref sig .tc := ⟨.hbm, 47, rfl⟩
abbrev main_v19 : Ref sig .tc := ⟨.hbm, 48, rfl⟩
abbrev main_v20 : Ref sig .tc := ⟨.hbm, 49, rfl⟩
abbrev main_cst_6 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩

abbrev nD : Nat := 1
abbrev τ : Topo := Topo.v7x

variable {F : FTy → Type} [FloatOps F]
-- ==== Proof.Spec.lean ====
/- THE GRADIENT OF THE CHUNK-BAND ATTENTION OVER THE REAL NUMBERS, for one head: `q`, `k`, `v` are the
   head's 2048 rows of 128 features, `dy` the cotangent of its output, `gq` and `gk` the gains of the
   two root-mean-square norms, `b` the table of relative biases. Both programs are read as these
   functions of their arguments (Kernel side: Window.lean, State.lean; reference side: Ref.lean). -/
module

public import Mathlib.Data.EReal.Operations
public import Mathlib.Analysis.SpecialFunctions.Exp
public import Idealize.ShloMosaic.PureOps.Ideal

@[expose] public section

noncomputable section

namespace Cert.Band

open Idealize.ShloMosaic

/-- The rows of one head. -/
abbrev Rows := Fin 2048 → Fin 128 → ℝ

/-- The constant under the root, as the programs write it (the binary fraction next to 1e-6). -/
def eps : ℝ := (Ideal.ofBits .f32 0x358637BD#32).toReal

/-- The scale of the scores, as the programs write it (the binary fraction next to 128 to the power -1/2). -/
def sc : ℝ := (Ideal.ofBits .f32 0x3DB504F3#32).toReal

/-- The mean square of a row and the constant. -/
def ms (x : Rows) (t : Fin 2048) : ℝ := (∑ e, x t e * x t e) * (1 / 128) + eps

/-- The reciprocal root mean square of a row. -/
def rms (x : Rows) (t : Fin 2048) : ℝ := (√(ms x t))⁻¹

/-- The row over its root mean square. -/
def hat (x : Rows) : Rows := fun t e => x t e * rms x t

/-- The normed row. -/
def nrm (x : Rows) (g : Fin 128 → ℝ) : Rows := fun t e => hat x t e * g e

/-- The place in the bias table of a query at `t` and a key at `s`: their distance clipped to [-63, 256]. -/
def rel (t s : ℕ) : Fin 320 := ⟨min (256 + s) (max t (s - 63)) + 63 - s, by omega⟩

/-- Whether the query at `t` sees the key at `s`: the key's chunk of 64 is the query's or one of the eight before it. -/
def Vis (t s : ℕ) : Prop := s / 64 ≤ t / 64 ∧ t / 64 ≤ s / 64 + 8

instance (t s : ℕ) : Decidable (Vis t s) := by unfold Vis; infer_instance

/-- The arrays of one head. -/
structure Head where
  q : Rows
  k : Rows
  v : Rows
  dy : Rows
  gq : Fin 128 → ℝ
  gk : Fin 128 → ℝ
  b : Fin 320 → ℝ

namespace Head

variable (H : Head)

def qn : Rows := nrm H.q H.gq
def kn : Rows := nrm H.k H.gk

/-- The score of the query at `t` against the key at `s`. -/
def score (t s : Fin 2048) : ℝ := (∑ e, H.qn t e * H.kn s e) * sc + H.b (rel t s)

/-- The weight before it is normed; zero where the query does not see the key. -/
def wt (t s : Fin 2048) : ℝ := if Vis t s then Real.exp (H.score t s) else 0

/-- The attention probability. -/
def prob (t s : Fin 2048) : ℝ := H.wt t s * (1 / ∑ s', H.wt t s')

/-- The cotangent of the probability. -/
def dp (t s : Fin 2048) : ℝ := ∑ e, H.dy t e * H.v s e

/-- The cotangent of the score. -/
def ds (t s : Fin 2048) : ℝ := H.prob t s * (H.dp t s - ∑ s', H.prob t s' * H.dp t s')

/-- The cotangents of the normed rows and of the values. -/
def dqn : Rows := fun t e => ∑ s, (H.ds t s * sc) * H.kn s e
def dkn : Rows := fun s e => ∑ t, (H.ds t s * sc) * H.qn t e
def dv : Rows := fun s e => ∑ t, H.prob t s * H.dy t e

end Head

/-- Back through the norm: the cotangent of the row from the cotangent `dn` of the normed row. -/
def back (x : Rows) (g : Fin 128 → ℝ) (dn : Rows) : Rows := fun t e =>
  rms x t * (dn t e * g e - hat x t e * ((∑ e', dn t e' * g e' * hat x t e') * (1 / 128)))

/-- Back through the norm: the cotangent of the gain. -/
def dgain (x : Rows) (dn : Rows) (e : Fin 128) : ℝ := ∑ t, dn t e * hat x t e

/-- Head `h` of the whole arrays: the projections `X` hold the heads' `q`, `k`, `v` from columns 4096, 5120 and
    6144 on, `D` the cotangents of the heads' outputs, `B` a bias table a head; all heads share the gains. -/
def headOf (X : Fin 2048 → Fin 8192 → ℝ) (D : Fin 2048 → Fin 1024 → ℝ) (GQ GK : Fin 128 → ℝ) (B : Fin 8 → Fin 320 → ℝ)
    (h : Fin 8) : Head where
  q t e := X t ⟨4096 + (h * 128 + e), by omega⟩
  k t e := X t ⟨5120 + (h * 128 + e), by omega⟩
  v t e := X t ⟨6144 + (h * 128 + e), by omega⟩
  dy t e := D t ⟨h * 128 + e, by omega⟩
  gq := GQ
  gk := GK
  b := B h

/-! ## Constants -/

theorem ofBits_eps_val : Ideal.ofBits .f32 0x358637BD#32 = ((8796093 * 2 ^ (-43 : ℤ) : ℝ) : EReal) := by
  simp [Ideal.ofBits, Ideal.ieee, -EReal.coe_mul]

theorem ofBits_sc_val : Ideal.ofBits .f32 0x3DB504F3#32 = ((11863283 * 2 ^ (-27 : ℤ) : ℝ) : EReal) := by
  simp [Ideal.ofBits, Ideal.ieee, -EReal.coe_mul]

theorem ofBits_128 : Ideal.ofBits .f32 0x43000000#32 = ((128 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem ofBits_eps : Ideal.ofBits .f32 0x358637BD#32 = (eps : EReal) := by
  unfold eps; rw [ofBits_eps_val, EReal.toReal_coe]

theorem ofBits_sc : Ideal.ofBits .f32 0x3DB504F3#32 = (sc : EReal) := by
  unfold sc; rw [ofBits_sc_val, EReal.toReal_coe]

theorem eps_pos : 0 < eps := by
  unfold eps; rw [ofBits_eps_val, EReal.toReal_coe]; positivity

theorem ms_pos (x : Rows) (t : Fin 2048) : 0 < ms x t :=
  add_pos_of_nonneg_of_pos (mul_nonneg (Finset.sum_nonneg fun _ _ => mul_self_nonneg _) (by norm_num)) eps_pos

end Cert.Band

end
-- ==== Proof.Alg.lean ====
/- Sums, quotients and the row softmax over the extended reals, where every term is a real number:
   the value is the real one. And the sum over a query block's window of keys. -/
module

public import proofs.«01_k».proof.Proof.Spec

@[expose] public section

noncomputable section

namespace Cert.Band

open Idealize.ShloMosaic

theorem coe_sum {ι : Type*} (s : Finset ι) (f : ι → ℝ) : ((∑ i ∈ s, f i : ℝ) : EReal) = ∑ i ∈ s, (f i : EReal) :=
  map_sum (⟨⟨Real.toEReal, rfl⟩, fun _ _ => rfl⟩ : ℝ →+ EReal) f s

theorem div_real {y : ℝ} (h : y ≠ 0) (x : ℝ) : Ideal.div (x : EReal) (y : EReal) = ((x * (1 / y) : ℝ) : EReal) := by
  rw [Ideal.div_coe h, EReal.coe_mul]

theorem rsqrt_real {y : ℝ} (h : 0 < y) : Ideal.rsqrt (y : EReal) = (((√y)⁻¹ : ℝ) : EReal) := by
  rw [Ideal.rsqrt_coe, if_neg (not_lt.2 h.le), if_neg h.ne']

section
variable {n : ℕ} (S : Fin n → ℝ) (p : Fin n → Prop) [DecidablePred p]

/-- The greatest of some reals, at least one of them, the places left out at minus infinity, is a real. -/
theorem fold_max_real (hne : ∃ w, p w) :
    ∃ M : ℝ, Finset.fold max (⊥ : EReal) (fun w => if p w then (S w : EReal) else ⊥) Finset.univ = M := by
  obtain ⟨w0, h0⟩ := hne
  have hlt : Finset.fold max (⊥ : EReal) (fun w => if p w then (S w : EReal) else ⊥) Finset.univ < ⊤ :=
    (Finset.fold_max_lt _).2 ⟨bot_lt_top, fun w _ => by split <;> simp [EReal.coe_lt_top]⟩
  have hle : (S w0 : EReal) ≤ Finset.fold max (⊥ : EReal) (fun w => if p w then (S w : EReal) else ⊥) Finset.univ :=
    (Finset.le_fold_max _).2 (Or.inr ⟨w0, Finset.mem_univ _, by rw [if_pos h0]⟩)
  refine ⟨_, (EReal.coe_toReal hlt.ne ?_).symm⟩
  exact fun h => absurd (h ▸ hle) (by simp)

/-- The shifted exponential of a row: a real, zero at the places left out. -/
theorem exp_shift (M : ℝ) (w : Fin n) :
    Ideal.exp ((if p w then (S w : EReal) else ⊥) - (M : EReal))
      = (((if p w then Real.exp (S w) else 0) * Real.exp (-M) : ℝ) : EReal) := by
  split
  · rw [← EReal.coe_sub, Ideal.exp_coe, sub_eq_add_neg, Real.exp_add]
  · rw [EReal.bot_sub, zero_mul]; rfl

theorem sum_wt_pos (hne : ∃ w, p w) : 0 < ∑ w, (if p w then Real.exp (S w) else 0) := by
  obtain ⟨w0, h0⟩ := hne
  refine Finset.sum_pos' (fun w _ => by split <;> positivity) ⟨w0, Finset.mem_univ _, ?_⟩
  rw [if_pos h0]; positivity

/-- The softmax of a row with places left out at minus infinity. -/
theorem softmax_real (hne : ∃ w, p w) (w : Fin n) :
    Ideal.div
      (Ideal.exp ((if p w then (S w : EReal) else ⊥)
        - Finset.fold max (⊥ : EReal) (fun w => if p w then (S w : EReal) else ⊥) Finset.univ))
      (∑ w', Ideal.exp ((if p w' then (S w' : EReal) else ⊥)
        - Finset.fold max (⊥ : EReal) (fun w => if p w then (S w : EReal) else ⊥) Finset.univ))
      = (((if p w then Real.exp (S w) else 0) * (1 / ∑ w', (if p w' then Real.exp (S w') else 0)) : ℝ) : EReal) := by
  obtain ⟨M, hM⟩ := fold_max_real S p hne
  have hZ := sum_wt_pos S p hne
  simp only [hM, exp_shift, ← coe_sum, ← Finset.sum_mul]
  rw [div_real (mul_ne_zero hZ.ne' (Real.exp_ne_zero _))]
  congr 1
  have := Real.exp_ne_zero (-M)
  field_simp

end

/-! ## The window of a query block -/

/-- Row `r` of query block `i`. -/
def qrow (i : Fin 8) (r : Fin 256) : Fin 2048 := ⟨256 * i + r, by omega⟩

/-- A function of the key read at place `w` of block `i`'s window, zero before the first key. -/
def win (i : Fin 8) (f : Fin 2048 → ℝ) (w : Fin 768) : ℝ :=
  if h : 512 ≤ 256 * i.val + w.val then f ⟨256 * i + w - 512, by omega⟩ else 0

theorem win_mul (i : Fin 8) (f g : Fin 2048 → ℝ) (w : Fin 768) : win i f w * win i g w = win i (fun s => f s * g s) w := by
  unfold win; split <;> simp

theorem win_mul_const (i : Fin 8) (f : Fin 2048 → ℝ) (c : ℝ) (w : Fin 768) : win i f w * c = win i (fun s => f s * c) w := by
  unfold win; split <;> simp

/-- What vanishes where the block's query does not see the key sums over the window as over all keys. -/
theorem win_sum (i : Fin 8) (r : Fin 256) (f : Fin 2048 → ℝ) (hf : ∀ s : Fin 2048, ¬ Vis (qrow i r) s → f s = 0) :
    ∑ w, win i f w = ∑ s, f s := by
  have h1 : ∑ w, win i f w = ∑ w ∈ Finset.univ.filter (fun w : Fin 768 => 512 ≤ 256 * i.val + w.val), win i f w := by
    rw [Finset.sum_filter]
    refine Finset.sum_congr rfl fun w _ => ?_
    split
    · rfl
    · rename_i h; unfold win; rw [dif_neg h]
  have h2 : ∑ s, f s = ∑ s ∈ Finset.univ.filter (fun s : Fin 2048 => 256 * i.val ≤ s.val + 512 ∧ s.val + 512 < 256 * i.val + 768), f s := by
    rw [Finset.sum_filter]
    refine Finset.sum_congr rfl fun s _ => ?_
    split
    · rfl
    · rename_i h
      refine hf s fun hv => h ?_
      simp only [Vis, qrow] at hv
      omega
  rw [h1, h2]
  refine Finset.sum_bij' (fun w _ => (⟨(256 * i + w - 512) % 2048, Nat.mod_lt _ (by norm_num)⟩ : Fin 2048))
    (fun s _ => (⟨(s + 512 - 256 * i) % 768, Nat.mod_lt _ (by norm_num)⟩ : Fin 768)) ?_ ?_ ?_ ?_ ?_
  · intro w hw; simp only [Finset.mem_filter, Finset.mem_univ, true_and] at hw ⊢; omega
  · intro s hs; simp only [Finset.mem_filter, Finset.mem_univ, true_and] at hs ⊢; omega
  · intro w hw; simp only [Finset.mem_filter, Finset.mem_univ, true_and] at hw; ext; dsimp only; omega
  · intro s hs; simp only [Finset.mem_filter, Finset.mem_univ, true_and] at hs; ext; dsimp only; omega
  · intro w hw
    simp only [Finset.mem_filter, Finset.mem_univ, true_and] at hw
    unfold win
    rw [dif_pos hw]
    congr 1
    ext; dsimp only; omega

/-- A sum over the rows of the blocks is the sum over all rows. -/
theorem sum_blocks (f : Fin 2048 → ℝ) : ∑ i : Fin 8, ∑ r : Fin 256, f (qrow i r) = ∑ t, f t := by
  rw [← Fintype.sum_prod_type']
  refine Fintype.sum_bijective (fun x : Fin 8 × Fin 256 => qrow x.1 x.2) ⟨?_, ?_⟩ _ _ fun _ => rfl
  · rintro ⟨a, b⟩ ⟨c, d⟩ h
    simp only [qrow, Fin.mk.injEq] at h
    ext <;> dsimp only <;> omega
  · intro t
    exact ⟨(⟨t / 256, by omega⟩, ⟨t % 256, by omega⟩), by ext; simp only [qrow]; omega⟩

/-! ## The gradient vanishes off the band -/

namespace Head

variable (H : Head)

theorem wt_off {t s : Fin 2048} (h : ¬ Vis t s) : H.wt t s = 0 := if_neg h
theorem prob_off {t s : Fin 2048} (h : ¬ Vis t s) : H.prob t s = 0 := by unfold prob; rw [H.wt_off h, zero_mul]
theorem ds_off {t s : Fin 2048} (h : ¬ Vis t s) : H.ds t s = 0 := by unfold ds; rw [H.prob_off h, zero_mul]

end Head

end Cert.Band

end
-- ==== Proof.Window.lean ====
/- The kernel's values of one query block, read where every entry is a real number: the norms, the
   masked scores over the block's window of keys, the probabilities and their gradients are the
   specification's (Spec.lean), laid over the window (`win`). -/
module

public import proofs.«01_k».proof.Proof.Alg
public import proofs.«01_k».proof.Proof.Gen.KernelIdeal.Skeleton
public import Idealize.ShloMosaic.Lib.Pipeline.ValueKit

@[expose] public section

set_option maxRecDepth 16384

noncomputable section

namespace Cert.Band

open Cert.KernelIdeal Cert.KernelIdeal.Gen Idealize.ShloMosaic Idealize.ShloMosaic.TcCoe Idealize.SL.Sem

/-- The reciprocal root mean square of one row. -/
def rms1 (a : Fin 128 → ℝ) : ℝ := (√((∑ e, a e * a e) * (1 / 128) + eps))⁻¹

theorem ms1_pos (a : Fin 128 → ℝ) : 0 < (∑ e, a e * a e) * (1 / 128) + eps :=
  add_pos_of_nonneg_of_pos (mul_nonneg (Finset.sum_nonneg fun _ _ => mul_self_nonneg _) (by norm_num)) eps_pos

theorem rms1_eq (a : Fin 128 → ℝ) :
    Ideal.rsqrt (Ideal.div (∑ e, (a e : EReal) * (a e : EReal)) (Ideal.ofBits .f32 0x43000000#32)
      + Ideal.ofBits .f32 0x358637BD#32) = (rms1 a : EReal) := by
  simp only [← EReal.coe_mul, ← coe_sum, ofBits_128, ofBits_eps]
  rw [div_real (by norm_num), ← EReal.coe_add, rsqrt_real (ms1_pos a)]
  rfl

/-! ## The norms -/

section
variable {x : Vec Ideal S256x128 .f32} {X : Fin 256 → Fin 128 → ℝ} (hx : ∀ r e, x (ix2 r e) = (X r e : EReal))
include hx

theorem pay58_real (r : Fin 256) (l : Fin 1) : k0_pay58 (F := Ideal) x (ix2 r l) = (rms1 (X r) : EReal) := by
  pointwise [k0_pay58]
  simp only [hx]
  exact rms1_eq _

theorem pay59_real (r : Fin 256) (e : Fin 128) : k0_pay59 (F := Ideal) x (ix2 r e) = ((X r e * rms1 (X r) : ℝ) : EReal) := by
  pointwise [k0_pay59]
  simp only [hx, pay58_real hx, ← EReal.coe_mul]

theorem pay60_real {g : Vec Ideal S1x128 .f32} {G : Fin 128 → ℝ} (hg : ∀ l e, g (ix2 l e) = (G e : EReal)) (r : Fin 256) (e : Fin 128) :
    k0_pay60 (F := Ideal) x g (ix2 r e) = ((X r e * rms1 (X r) * G e : ℝ) : EReal) := by
  pointwise [k0_pay60]
  simp only [hg, pay59_real hx, ← EReal.coe_mul]

theorem pay61_real {g : Vec Ideal S1x128 .f32} {G : Fin 128 → ℝ} (hg : ∀ l e, g (ix2 l e) = (G e : EReal))
    {k : Vec Ideal S768x128 .bf16} {K : Fin 768 → Fin 128 → ℝ} (hk : ∀ w e, k (ix2 w e) = (K w e : EReal))
    {b : Vec Ideal S256x768 .f32} {B : Fin 256 → Fin 768 → ℝ} (hb : ∀ r w, b (ix2 r w) = (B r w : EReal)) (r : Fin 256) (w : Fin 768) :
    k0_pay61 (F := Ideal) x g k b (ix2 r w) = (((∑ e, X r e * rms1 (X r) * G e * K w e) * sc + B r w : ℝ) : EReal) := by
  pointwise [k0_pay61]
  simp only [hb, hk, pay60_real hx hg, ofBits_sc, ← EReal.coe_mul, ← coe_sum, ← EReal.coe_add]

end

section
variable {x : Vec Ideal S2048x128 .f32} {X : Rows} (hx : ∀ r e, x (ix2 r e) = (X r e : EReal))
include hx

theorem pay3_real {g : Vec Ideal S1x128 .f32} {G : Fin 128 → ℝ} (hg : ∀ l e, g (ix2 l e) = (G e : EReal)) (r : Fin 2048) (e : Fin 128) :
    k0_pay3 (F := Ideal) x g (ix2 r e) = (nrm X G r e : EReal) := by
  pointwise [k0_pay3]
  simp only [hx, hg]
  simp only [rms1_eq]
  simp only [← EReal.coe_mul]
  rfl

theorem pay5_real (r : Fin 2048) (e : Fin 128) : k0_pay5 (F := Ideal) x (ix2 r e) = (X r e : EReal) := by
  pointwise [k0_pay5]
  exact hx _ _

theorem pay48_real {d : Vec Ideal S2048x128 .f32} {D : Rows} (hd : ∀ r e, d (ix2 r e) = (D r e : EReal))
    {g : Vec Ideal S1x128 .f32} {G : Fin 128 → ℝ} (hg : ∀ l e, g (ix2 l e) = (G e : EReal)) (r : Fin 2048) (e : Fin 128) :
    k0_pay48 (F := Ideal) x d g (ix2 r e) = (back X G D r e : EReal) := by
  pointwise [k0_pay48, k0_pay47, k0_pay46]
  simp only [hx, hd, hg]
  simp only [rms1_eq]
  simp only [← EReal.coe_mul, ← coe_sum, ofBits_128]
  rw [div_real (by norm_num)]
  simp only [← EReal.coe_mul, ← EReal.coe_sub]
  rfl

theorem pay49_real {d : Vec Ideal S2048x128 .f32} {D : Rows} (hd : ∀ r e, d (ix2 r e) = (D r e : EReal)) (a b : Fin 1) (e : Fin 128) :
    k0_pay49 (F := Ideal) x d (ix3 a b e) = (dgain X D e : EReal) := by
  pointwise [k0_pay49, k0_pay47, k0_pay46]
  simp only [hx, hd]
  simp only [rms1_eq]
  simp only [← EReal.coe_mul, ← coe_sum]
  rfl

theorem pay50_real (r : Fin 2048) (e : Fin 128) : k0_pay50 (F := Ideal) x (ix2 r e) = (X r e : EReal) := by
  pointwise [k0_pay50]
  exact hx _ _

end

/-! ## The mask -/

/-- Whether place `w` of block `i`'s window is a key that row `r` of the block sees. -/
def VisW (i : Fin 8) (r : Fin 256) (w : Fin 768) : Prop :=
  512 ≤ 256 * i.val + w.val ∧ Vis (256 * i + r) (256 * i + w - 512)

instance (i : Fin 8) (r : Fin 256) (w : Fin 768) : Decidable (VisW i r w) := by unfold VisW; infer_instance

/-- The floor division by 64 as the kernel computes it: the truncating quotient, less one where the signs differ. -/
def chunkWord (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32)
    (IntOp.divsi ArithUnit.vector x 64#32)

theorem chunkWord_eq : ∀ w : Fin 768, chunkWord (BitVec.ofNat 32 w) = BitVec.ofNat 32 (w / 64) := by decide +kernel

theorem mask_word : ∀ (i : Fin 8) (a : Fin 4) (b : Fin 12),
    IntOp.andi
      (IntOp.andi (IntOp.cmpi .sge (BitVec.ofNat 32 b) (BitVec.ofNat 32 a))
        (IntOp.cmpi .sle (BitVec.ofNat 32 b) (IntOp.addi (BitVec.ofNat 32 a) 8#32)))
      (IntOp.cmpi .sge (BitVec.ofNat 32 b) (Scalar.subi 8#32 (Scalar.muli 4#32 (BitVec.ofNat 32 i))))
      = if a.val ≤ b.val ∧ b.val ≤ a.val + 8 ∧ 8 ≤ b.val + 4 * i.val then 1#1 else 0#1 := by decide +kernel

theorem visW_iff (i : Fin 8) (r : Fin 256) (w : Fin 768) :
    (r.val / 64 ≤ w.val / 64 ∧ w.val / 64 ≤ r.val / 64 + 8 ∧ 8 ≤ w.val / 64 + 4 * i.val) ↔ VisW i r w := by
  unfold VisW Vis; omega

/-- The word of the chunks' comparison. -/
abbrev bandWord : IVec S256x768 1 :=
  k0_pay65 (iota .tc S256x768 32 [0] iota_S256x768_d0_w32) 64#32 k0_pay62 k0_pay63 (Scalar.cmpi .sgt 64#32 0#32)

theorem pay64_val (r : Fin 256) (w : Fin 768) : k0_pay64 (ix2 r w) = BitVec.ofNat 32 (w / 64) := by
  rw [← chunkWord_eq w]
  pointwise [k0_pay64]
  rfl

theorem bandWord_val (r : Fin 256) (w : Fin 768) :
    bandWord (ix2 r w) = IntOp.andi (IntOp.cmpi .sge (BitVec.ofNat 32 (w / 64)) (BitVec.ofNat 32 (r / 64)))
      (IntOp.cmpi .sle (BitVec.ofNat 32 (w / 64)) (IntOp.addi (BitVec.ofNat 32 (r / 64)) 8#32)) := by
  have e : BitVec.ofNat 32 (r.val / 64) = chunkWord (BitVec.ofNat 32 r) :=
    (chunkWord_eq ⟨r, by omega⟩).symm
  rw [← pay64_val r w, e]
  unfold bandWord
  pointwise [k0_pay65, k0_pay62, k0_pay63]
  rfl

theorem mask_val (i : Fin 8) (r : Fin 256) (w : Fin 768) :
    IntOp.andi (bandWord (ix2 r w)) (IntOp.cmpi .sge (k0_pay64 (ix2 r w)) (k0_pay66 (BitVec.ofNat 32 i) (ix2 r w)))
      = if VisW i r w then 1#1 else 0#1 := by
  rw [bandWord_val, pay64_val, ← if_congr (visW_iff i r w) rfl rfl,
    ← mask_word i ⟨r / 64, by omega⟩ ⟨w / 64, by omega⟩]
  rfl

theorem mask_bot : (Named.named (F := Ideal) κ "mask" 0xF149F2CA#32 : Ideal .f32) = ⊥ := rfl

theorem select_word {α : Type} (p : Prop) [Decidable p] (a b : α) :
    Scalar.select (if p then 1#1 else 0#1) a b = if p then a else b := by
  split <;> rfl

/-! ## One block -/

/-- What the kernel holds when it works on query block `i` of the head `H`: the block's rows of the queries and of
    the cotangent, the gain, the window of normed keys and of values (zero before the first key), the biases. -/
structure Blk (H : Head) (i : Fin 8) (xq : Vec Ideal S256x128 .f32) (xg : Vec Ideal S1x128 .f32) (kw vw : Vec Ideal S768x128 .bf16)
    (bw : Vec Ideal S256x768 .f32) (xd : Vec Ideal S256x128 .f32) : Prop where
  hq : ∀ r e, xq (ix2 r e) = (H.q (qrow i r) e : EReal)
  hg : ∀ l e, xg (ix2 l e) = (H.gq e : EReal)
  hk : ∀ w e, kw (ix2 w e) = (win i (fun s => H.kn s e) w : EReal)
  hv : ∀ w e, vw (ix2 w e) = (win i (fun s => H.v s e) w : EReal)
  hb : ∀ r w, bw (ix2 r w) = (H.b (rel (512 + r.val) w) : EReal)
  hd : ∀ r e, xd (ix2 r e) = (H.dy (qrow i r) e : EReal)

namespace Blk

variable {H : Head} {i : Fin 8} {xq : Vec Ideal S256x128 .f32} {xg : Vec Ideal S1x128 .f32} {kw vw : Vec Ideal S768x128 .bf16}
  {bw : Vec Ideal S256x768 .f32} {xd : Vec Ideal S256x128 .f32} (h : Blk H i xq xg kw vw bw xd)

theorem win_wt (H : Head) (i : Fin 8) (r : Fin 256) (w : Fin 768) :
    (if VisW i r w then
        Real.exp ((∑ e, H.q (qrow i r) e * rms1 (H.q (qrow i r)) * H.gq e * win i (fun s => H.kn s e) w) * sc + H.b (rel (512 + r.val) w))
      else 0) = win i (H.wt (qrow i r)) w := by
  by_cases hw : 512 ≤ 256 * i.val + w.val
  · simp only [win, dif_pos hw]
    have hrel : rel (512 + r.val) w.val = rel (qrow i r).val (256 * i.val + w.val - 512) := by
      unfold rel qrow; ext; dsimp only; omega
    rw [hrel]
    unfold Head.wt
    refine if_congr ?_ rfl rfl
    unfold VisW qrow
    exact and_iff_right hw
  · rw [if_neg (fun hv => hw hv.1)]
    unfold win
    rw [dif_neg hw]

theorem visW_some (i : Fin 8) (r : Fin 256) : ∃ w, VisW i r w :=
  ⟨⟨512 + r.val, by omega⟩, by unfold VisW Vis; dsimp only; omega⟩

include h

theorem scores (r : Fin 256) (w : Fin 768) : k0_pay61 (F := Ideal) xq xg kw bw (ix2 r w)
    = (((∑ e, H.q (qrow i r) e * rms1 (H.q (qrow i r)) * H.gq e * win i (fun s => H.kn s e) w) * sc + H.b (rel (512 + r.val) w) : ℝ) : EReal) :=
  pay61_real h.hq h.hg (K := fun w e => win i (fun s => H.kn s e) w) h.hk (B := fun r w => H.b (rel (512 + r.val) w)) h.hb r w

theorem prob (r : Fin 256) (w : Fin 768) :
    k0_pay67 (F := Ideal) (k0_pay61 xq xg kw bw) k0_pay64 bandWord (k0_pay66 (BitVec.ofNat 32 i)) (ix2 r w)
      = (win i (H.prob (qrow i r)) w : EReal) := by
  pointwise [k0_pay67]
  simp only [mask_val, mask_bot, h.scores, select_word, ofBits_neg_inf]
  refine (softmax_real (fun x => (∑ e, H.q (qrow i r) e * rms1 (H.q (qrow i r)) * H.gq e * win i (fun s => H.kn s e) x) * sc
    + H.b (rel (512 + r.val) x)) (VisW i r) (visW_some i r) w).trans ?_
  simp only [win_wt, win_sum i r (H.wt (qrow i r)) (fun s hs => H.wt_off hs), win_mul_const]
  rfl

theorem dps (r : Fin 256) (w : Fin 768) :
    (∑ e, (H.dy (qrow i r) e) * win i (fun s => H.v s e) w) = win i (H.dp (qrow i r)) w := by
  unfold win Head.dp
  split
  · rfl
  · simp

theorem ds (r : Fin 256) (w : Fin 768) :
    k0_pay69 (F := Ideal) (k0_pay61 xq xg kw bw) k0_pay64 bandWord (k0_pay66 (BitVec.ofNat 32 i)) xd vw (ix2 r w)
      = (win i (H.ds (qrow i r)) w : EReal) := by
  pointwise [k0_pay69, k0_pay68]
  simp only [h.prob, h.hd, h.hv, ← EReal.coe_mul, ← coe_sum, ← EReal.coe_sub, h.dps, win_mul]
  rw [win_sum i r _ (fun s hs => by rw [H.prob_off hs, zero_mul])]
  congr 1
  unfold win Head.ds
  split
  · rfl
  · simp

theorem dsc (r : Fin 256) (w : Fin 768) :
    k0_pay71 (F := Ideal) (k0_pay61 xq xg kw bw) k0_pay64 bandWord (k0_pay66 (BitVec.ofNat 32 i)) xd vw (ix2 r w)
      = (win i (fun s => H.ds (qrow i r) s * sc) w : EReal) := by
  pointwise [k0_pay71]
  simp only [h.ds, ofBits_sc, ← EReal.coe_mul, win_mul_const]

/-- The cotangent of the block's normed queries. -/
theorem dqn (r : Fin 256) (e : Fin 128) :
    k0_pay72 (F := Ideal) kw (k0_pay61 xq xg kw bw) k0_pay64 bandWord (k0_pay66 (BitVec.ofNat 32 i)) xd vw (ix2 r e)
      = (H.dqn (qrow i r) e : EReal) := by
  pointwise [k0_pay72]
  simp only [h.dsc, h.hk, ← EReal.coe_mul, ← coe_sum, win_mul]
  rw [win_sum i r _ (fun s hs => by rw [H.ds_off hs, zero_mul, zero_mul])]
  rfl

/-- What the block adds to the cotangent of the normed keys in its window. -/
theorem dkn {a : Vec Ideal S768x128 .f32} {A : Fin 768 → Fin 128 → ℝ} (ha : ∀ w e, a (ix2 w e) = (A w e : EReal)) (w : Fin 768) (e : Fin 128) :
    k0_pay73 (F := Ideal) (k0_pay60 xq xg) (k0_pay61 xq xg kw bw) k0_pay64 bandWord (k0_pay66 (BitVec.ofNat 32 i)) xd vw a (ix2 w e)
      = ((A w e + ∑ r, win i (fun s => H.ds (qrow i r) s * sc) w * H.qn (qrow i r) e : ℝ) : EReal) := by
  pointwise [k0_pay73]
  simp only [h.dsc, ha, pay60_real h.hq h.hg, ← EReal.coe_mul, ← coe_sum, ← EReal.coe_add]
  rfl

/-- What the block adds to the cotangent of the values in its window. -/
theorem dv {a : Vec Ideal S768x128 .f32} {A : Fin 768 → Fin 128 → ℝ} (ha : ∀ w e, a (ix2 w e) = (A w e : EReal)) (w : Fin 768) (e : Fin 128) :
    k0_pay74 (F := Ideal) (k0_pay67 (k0_pay61 xq xg kw bw) k0_pay64 bandWord (k0_pay66 (BitVec.ofNat 32 i))) (k0_pay68 xd) a (ix2 w e)
      = ((A w e + ∑ r, win i (H.prob (qrow i r)) w * H.dy (qrow i r) e : ℝ) : EReal) := by
  pointwise [k0_pay74, k0_pay68]
  simp only [h.prob, ha, h.hd, ← EReal.coe_mul, ← coe_sum, ← EReal.coe_add]

/-- The cotangent of the block's queries. -/
theorem dq (r : Fin 256) (e : Fin 128) :
    k0_pay75 (F := Ideal) (k0_pay58 xq) (k0_pay59 xq)
        (k0_pay72 kw (k0_pay61 xq xg kw bw) k0_pay64 bandWord (k0_pay66 (BitVec.ofNat 32 i)) xd vw) xg (ix2 r e)
      = (back H.q H.gq H.dqn (qrow i r) e : EReal) := by
  pointwise [k0_pay75]
  simp only [h.dqn, h.hg, pay58_real h.hq, pay59_real h.hq, ← EReal.coe_mul, ← coe_sum, ofBits_128]
  rw [div_real (by norm_num)]
  simp only [← EReal.coe_mul, ← EReal.coe_sub]
  rfl

/-- What the block adds to the cotangent of the gain. -/
theorem dqg {a : Vec Ideal S1x1x128 .f32} {A : Fin 128 → ℝ} (ha : ∀ l l' e, a (ix3 l l' e) = (A e : EReal)) (l l' : Fin 1) (e : Fin 128) :
    k0_pay76 (F := Ideal) (k0_pay59 xq)
        (k0_pay72 kw (k0_pay61 xq xg kw bw) k0_pay64 bandWord (k0_pay66 (BitVec.ofNat 32 i)) xd vw) a (ix3 l l' e)
      = ((A e + ∑ r, H.dqn (qrow i r) e * hat H.q (qrow i r) e : ℝ) : EReal) := by
  pointwise [k0_pay76]
  simp only [h.dqn, ha, pay59_real h.hq, ← EReal.coe_mul, ← coe_sum, ← EReal.coe_add]
  rfl

end Blk

end Cert.Band

end
-- ==== Proof.Step.lean ====
module
public import proofs.«01_k».proof.Proof.Window
public import proofs.«01_k».proof.Proof.Gen.KernelIdeal.Value
public import Idealize.ShloMosaic.Lib.Pipeline.ReadBack
@[expose] public section
set_option maxRecDepth 16384
noncomputable section
namespace Cert.Band.St
open Cert.KernelIdeal Cert.KernelIdeal.Gen Idealize.ShloMosaic Idealize.ShloMosaic.TcCoe Idealize.SL.Sem
variable (m : (ℓ : Loc nD τ sig) → Buf (Elt Ideal) ℓ)

/-- Where the window of 768 rows begins at grid point `t`. -/
theorem off1 : ∀ t : Fin cfg0.N, k0_off1 (grid0.coords t) = ![256 * (t.val % 8), 0] :=
  (by decide +kernel : ∀ t : Fin grid0.N, k0_off1 (grid0.coords t) = ![256 * (t.val % 8), 0])

/-- The query block of grid point `t`. -/
theorem arg1 : ∀ t : Fin cfg0.N, (grid0.coords t 1).val = t.val % 8 :=
  (by decide +kernel : ∀ t : Fin grid0.N, (grid0.coords t 1).val = t.val % 8)

/-- The window of grid point `t` in a scratch of 2560 rows. -/
abbrev rect768 (t : Fin cfg0.N) : Rect S2560x128 :=
  Rect.unit (s := S2560x128) (k0_off1 (grid0.coords t)) S768x128.size (k0_off1_inb (grid0.coords t))

/-- The 768 rows of a scratch that point `t` looks at. -/
abbrev rows768 {e : EltTy} (t : Fin cfg0.N) (x : Vec Ideal S2560x128 e) : Vec Ideal S768x128 e :=
  View.ld x (rect768 t)

/-- Everything a grid point keeps: six results and six scratches. -/
abbrev Carry := Vec Ideal S256x128 .bf16 × Vec Ideal S2048x128 .bf16 × Vec Ideal S2048x128 .bf16 × Vec Ideal S1x1x128 .f32 × Vec Ideal S1x1x128 .f32 × Vec Ideal S1x1x1024 .f32 × Vec Ideal S2560x128 .bf16 × Vec Ideal S2560x128 .bf16 × Vec Ideal S256x768 .f32 × Vec Ideal S256x1024 .f32 × Vec Ideal S2560x128 .f32 × Vec Ideal S2560x128 .f32

section
variable (c : Dev nD) (t : Fin cfg0.N) (s0 s1 : Vec Ideal S2560x128 .bf16) (s2 : Vec Ideal S256x768 .f32)

/-- The scores of the point's block before the mask. -/
abbrev scr : FVec Ideal S256x768 .f32 :=
  k0_pay61 (F := Ideal) (iblk m c 0 t) (iblk m c 4 t) (rows768 t s0) s2

/-- Where the window lies relative to the sequence. -/
abbrev wrd : IVec S256x768 32 := k0_pay66 (BitVec.ofNat 32 (grid0.coords t 1).val)

/-- The new rows of the key gradient: the old ones `a` and the block's part. -/
abbrev n4 (a : Vec Ideal S768x128 .f32) : Vec Ideal S768x128 .f32 :=
  k0_pay73 (F := Ideal) (k0_pay60 (iblk m c 0 t) (iblk m c 4 t)) (scr m c t s0 s2) k0_pay64 bandWord (wrd t) (iblk m c 3 t) (rows768 t s1) a

/-- The new rows of the value gradient. -/
abbrev n5 (a : Vec Ideal S768x128 .f32) : Vec Ideal S768x128 .f32 :=
  k0_pay74 (F := Ideal) (k0_pay67 (scr m c t s0 s2) k0_pay64 bandWord (wrd t)) (k0_pay68 (iblk m c 3 t)) a

/-- The gradient of the block's normed queries. -/
abbrev gqn : FVec Ideal S256x128 .f32 :=
  k0_pay72 (F := Ideal) (rows768 t s0) (scr m c t s0 s2) k0_pay64 bandWord (wrd t) (iblk m c 3 t) (rows768 t s1)

/-- The block of the query gradient. -/
abbrev n7 : Vec Ideal S256x128 .bf16 :=
  k0_pay75 (F := Ideal) (k0_pay58 (iblk m c 0 t)) (k0_pay59 (iblk m c 0 t)) (gqn m c t s0 s1 s2) (iblk m c 4 t)

/-- The new query gain gradient. -/
abbrev n10 (a : Vec Ideal S1x1x128 .f32) : Vec Ideal S1x1x128 .f32 :=
  k0_pay76 (F := Ideal) (k0_pay59 (iblk m c 0 t)) (gqn m c t s0 s1 s2) a

/-- The key gradient scratch after the point's window is stored over it. -/
abbrev put4 (x : Vec Ideal S2560x128 .f32) (w : Vec Ideal S768x128 .f32) : Vec Ideal S2560x128 .f32 :=
  (View.whole cc0_scratch4).read (Elt Ideal) ((View.whole cc0_scratch4).writes (Elt Ideal) ((Memref.isWhole_whole _).unread x) [⟨rect768 t, w⟩])

/-- The value gradient scratch after the point's window is stored over it. -/
abbrev put5 (x : Vec Ideal S2560x128 .f32) (w : Vec Ideal S768x128 .f32) : Vec Ideal S2560x128 .f32 :=
  (View.whole cc0_scratch5).read (Elt Ideal) ((View.whole cc0_scratch5).writes (Elt Ideal) ((Memref.isWhole_whole _).unread x) [⟨rect768 t, w⟩])
end

/-- Inside a head scratch 0 stays. -/
theorem mid_s0 (c : Dev nD) (t : Fin cfg0.N) (h0 : ¬t.val % 8 = 0) (h1 : ¬t.val % 8 = 7) :
    (outsAt0 m c t.val t.isLt).2.2.2.2.2.2.1 =
      (outsAt0 m c (t.val - 1) (by omega)).2.2.2.2.2.2.1 := by
  rw [outsAt0_B m c t h0 h1]
  frame_out
  try simp only [read_unread_whole]
  try rfl

/-- Inside a head scratch 1 stays. -/
theorem mid_s1 (c : Dev nD) (t : Fin cfg0.N) (h0 : ¬t.val % 8 = 0) (h1 : ¬t.val % 8 = 7) :
    (outsAt0 m c t.val t.isLt).2.2.2.2.2.2.2.1 =
      (outsAt0 m c (t.val - 1) (by omega)).2.2.2.2.2.2.2.1 := by
  rw [outsAt0_B m c t h0 h1]
  frame_out
  try simp only [read_unread_whole]
  try rfl

/-- Inside a head scratch 2 stays. -/
theorem mid_s2 (c : Dev nD) (t : Fin cfg0.N) (h0 : ¬t.val % 8 = 0) (h1 : ¬t.val % 8 = 7) :
    (outsAt0 m c t.val t.isLt).2.2.2.2.2.2.2.2.1 =
      (outsAt0 m c (t.val - 1) (by omega)).2.2.2.2.2.2.2.2.1 := by
  rw [outsAt0_B m c t h0 h1]
  frame_out
  try simp only [read_unread_whole]
  try rfl

/-- Inside a head the key gradient gains the block's part. -/
theorem mid_s4 (c : Dev nD) (t : Fin cfg0.N) (h0 : ¬t.val % 8 = 0) (h1 : ¬t.val % 8 = 7) :
    (outsAt0 m c t.val t.isLt).2.2.2.2.2.2.2.2.2.2.1 =
      put4 t (outsAt0 m c (t.val - 1) (by omega)).2.2.2.2.2.2.2.2.2.2.1 (n4 m c t ((outsAt0 m c (t.val - 1) (by omega)).2.2.2.2.2.2.1) ((outsAt0 m c (t.val - 1) (by omega)).2.2.2.2.2.2.2.1) ((outsAt0 m c (t.val - 1) (by omega)).2.2.2.2.2.2.2.2.1) (rows768 t (outsAt0 m c (t.val - 1) (by omega)).2.2.2.2.2.2.2.2.2.2.1)) := by
  rw [outsAt0_B m c t h0 h1]
  frame_out
  try simp only [read_unread_whole]
  try rfl

/-- Inside a head the value gradient gains the block's part. -/
theorem mid_s5 (c : Dev nD) (t : Fin cfg0.N) (h0 : ¬t.val % 8 = 0) (h1 : ¬t.val % 8 = 7) :
    (outsAt0 m c t.val t.isLt).2.2.2.2.2.2.2.2.2.2.2 =
      put5 t (outsAt0 m c (t.val - 1) (by omega)).2.2.2.2.2.2.2.2.2.2.2 (n5 m c t ((outsAt0 m c (t.val - 1) (by omega)).2.2.2.2.2.2.1) ((outsAt0 m c (t.val - 1) (by omega)).2.2.2.2.2.2.2.2.1) (rows768 t (outsAt0 m c (t.val - 1) (by omega)).2.2.2.2.2.2.2.2.2.2.2)) := by
  rw [outsAt0_B m c t h0 h1]
  frame_out
  try simp only [read_unread_whole]
  try rfl

/-- Inside a head the query gradient is written. -/
theorem mid_o7 (c : Dev nD) (t : Fin cfg0.N) (h0 : ¬t.val % 8 = 0) (h1 : ¬t.val % 8 = 7) :
    (outsAt0 m c t.val t.isLt).1 =
      n7 m c t ((outsAt0 m c (t.val - 1) (by omega)).2.2.2.2.2.2.1) ((outsAt0 m c (t.val - 1) (by omega)).2.2.2.2.2.2.2.1) ((outsAt0 m c (t.val - 1) (by omega)).2.2.2.2.2.2.2.2.1) := by
  rw [outsAt0_B m c t h0 h1]
  frame_out
  try simp only [read_unread_whole]
  try rfl

/-- Inside a head the query gain gradient gains the block's part. -/
theorem mid_o10 (c : Dev nD) (t : Fin cfg0.N) (h0 : ¬t.val % 8 = 0) (h1 : ¬t.val % 8 = 7) :
    (outsAt0 m c t.val t.isLt).2.2.2.1 =
      n10 m c t ((outsAt0 m c (t.val - 1) (by omega)).2.2.2.2.2.2.1) ((outsAt0 m c (t.val - 1) (by omega)).2.2.2.2.2.2.2.1) ((outsAt0 m c (t.val - 1) (by omega)).2.2.2.2.2.2.2.2.1) ((outsAt0 m c (t.val - 1) (by omega)).2.2.2.1) := by
  rw [outsAt0_B m c t h0 h1]
  frame_out
  try simp only [read_unread_whole]
  try rfl

/-- At the last block of a head scratch 0 stays. -/
theorem last_s0 (c : Dev nD) (t : Fin cfg0.N) (h0 : ¬t.val % 8 = 0) (h1 : t.val % 8 = 7) :
    (outsAt0 m c t.val t.isLt).2.2.2.2.2.2.1 =
      (outsAt0 m c (t.val - 1) (by omega)).2.2.2.2.2.2.1 := by
  rw [outsAt0_C m c t h0 h1]
  frame_out
  try simp only [read_unread_whole]
  try rfl

/-- At the last block of a head scratch 1 stays. -/
theorem last_s1 (c : Dev nD) (t : Fin cfg0.N) (h0 : ¬t.val % 8 = 0) (h1 : t.val % 8 = 7) :
    (outsAt0 m c t.val t.isLt).2.2.2.2.2.2.2.1 =
      (outsAt0 m c (t.val - 1) (by omega)).2.2.2.2.2.2.2.1 := by
  rw [outsAt0_C m c t h0 h1]
  frame_out
  try simp only [read_unread_whole]
  try rfl

/-- At the last block of a head scratch 2 stays. -/
theorem last_s2 (c : Dev nD) (t : Fin cfg0.N) (h0 : ¬t.val % 8 = 0) (h1 : t.val % 8 = 7) :
    (outsAt0 m c t.val t.isLt).2.2.2.2.2.2.2.2.1 =
      (outsAt0 m c (t.val - 1) (by omega)).2.2.2.2.2.2.2.2.1 := by
  rw [outsAt0_C m c t h0 h1]
  frame_out
  try simp only [read_unread_whole]
  try rfl

/-- At the last block of a head the key gradient gains the block's part. -/
theorem last_s4 (c : Dev nD) (t : Fin cfg0.N) (h0 : ¬t.val % 8 = 0) (h1 : t.val % 8 = 7) :
    (outsAt0 m c t.val t.isLt).2.2.2.2.2.2.2.2.2.2.1 =
      put4 t (outsAt0 m c (t.val - 1) (by omega)).2.2.2.2.2.2.2.2.2.2.1 (n4 m c t ((outsAt0 m c (t.val - 1) (by omega)).2.2.2.2.2.2.1) ((outsAt0 m c (t.val - 1) (by omega)).2.2.2.2.2.2.2.1) ((outsAt0 m c (t.val - 1) (by omega)).2.2.2.2.2.2.2.2.1) (rows768 t (outsAt0 m c (t.val - 1) (by omega)).2.2.2.2.2.2.2.2.2.2.1)) := by
  rw [outsAt0_C m c t h0 h1]
  frame_out
  try simp only [read_unread_whole]
  try rfl

/-- At the last block of a head the value gradient gains the block's part. -/
theorem last_s5 (c : Dev nD) (t : Fin cfg0.N) (h0 : ¬t.val % 8 = 0) (h1 : t.val % 8 = 7) :
    (outsAt0 m c t.val t.isLt).2.2.2.2.2.2.2.2.2.2.2 =
      put5 t (outsAt0 m c (t.val - 1) (by omega)).2.2.2.2.2.2.2.2.2.2.2 (n5 m c t ((outsAt0 m c (t.val - 1) (by omega)).2.2.2.2.2.2.1) ((outsAt0 m c (t.val - 1) (by omega)).2.2.2.2.2.2.2.2.1) (rows768 t (outsAt0 m c (t.val - 1) (by omega)).2.2.2.2.2.2.2.2.2.2.2)) := by
  rw [outsAt0_C m c t h0 h1]
  frame_out
  try simp only [read_unread_whole]
  try rfl

/-- At the last block of a head the query gradient is written. -/
theorem last_o7 (c : Dev nD) (t : Fin cfg0.N) (h0 : ¬t.val % 8 = 0) (h1 : t.val % 8 = 7) :
    (outsAt0 m c t.val t.isLt).1 =
      n7 m c t ((outsAt0 m c (t.val - 1) (by omega)).2.2.2.2.2.2.1) ((outsAt0 m c (t.val - 1) (by omega)).2.2.2.2.2.2.2.1) ((outsAt0 m c (t.val - 1) (by omega)).2.2.2.2.2.2.2.2.1) := by
  rw [outsAt0_C m c t h0 h1]
  frame_out
  try simp only [read_unread_whole]
  try rfl

/-- At the last block of a head the query gain gradient gains the block's part. -/
theorem last_o10 (c : Dev nD) (t : Fin cfg0.N) (h0 : ¬t.val % 8 = 0) (h1 : t.val % 8 = 7) :
    (outsAt0 m c t.val t.isLt).2.2.2.1 =
      n10 m c t ((outsAt0 m c (t.val - 1) (by omega)).2.2.2.2.2.2.1) ((outsAt0 m c (t.val - 1) (by omega)).2.2.2.2.2.2.2.1) ((outsAt0 m c (t.val - 1) (by omega)).2.2.2.2.2.2.2.2.1) ((outsAt0 m c (t.val - 1) (by omega)).2.2.2.1) := by
  rw [outsAt0_C m c t h0 h1]
  frame_out
  try simp only [read_unread_whole]
  try rfl

/-- The key gradient. -/
theorem last_o8 (c : Dev nD) (t : Fin cfg0.N) (h0 : ¬t.val % 8 = 0) (h1 : t.val % 8 = 7) :
    (outsAt0 m c t.val t.isLt).2.1 =
      k0_pay48 (F := Ideal) (iblk m c 1 t) (View.ld (outsAt0 m c t.val t.isLt).2.2.2.2.2.2.2.2.2.2.1 (Rect.unit (s := S2560x128) ![512, 0] S2048x128.size inb_S2560x128_S2048x128_512_0)) (iblk m c 5 t) := by
  rw [outsAt0_C m c t h0 h1]
  frame_out
  try simp only [read_unread_whole]
  try rfl

/-- The value gradient. -/
theorem last_o9 (c : Dev nD) (t : Fin cfg0.N) (h0 : ¬t.val % 8 = 0) (h1 : t.val % 8 = 7) :
    (outsAt0 m c t.val t.isLt).2.2.1 =
      k0_pay50 (F := Ideal) (View.ld (outsAt0 m c t.val t.isLt).2.2.2.2.2.2.2.2.2.2.2 (Rect.unit (s := S2560x128) ![512, 0] S2048x128.size inb_S2560x128_S2048x128_512_0)) := by
  rw [outsAt0_C m c t h0 h1]
  frame_out
  try simp only [read_unread_whole]
  try rfl

/-- The key gain gradient. -/
theorem last_o11 (c : Dev nD) (t : Fin cfg0.N) (h0 : ¬t.val % 8 = 0) (h1 : t.val % 8 = 7) :
    (outsAt0 m c t.val t.isLt).2.2.2.2.1 =
      k0_pay49 (F := Ideal) (iblk m c 1 t) (View.ld (outsAt0 m c t.val t.isLt).2.2.2.2.2.2.2.2.2.2.1 (Rect.unit (s := S2560x128) ![512, 0] S2048x128.size inb_S2560x128_S2048x128_512_0)) := by
  rw [outsAt0_C m c t h0 h1]
  frame_out
  try simp only [read_unread_whole]
  try rfl

end Cert.Band.St
end
-- ==== Proof.StepA.lean ====
module
public import proofs.«01_k».proof.Proof.Step
public import proofs.«01_k».proof.Proof.Gen.KernelIdeal.Value
public import Idealize.ShloMosaic.Lib.Pipeline.ReadBack
@[expose] public section
set_option maxRecDepth 16384
noncomputable section
namespace Cert.Band.St
open Cert.KernelIdeal Cert.KernelIdeal.Gen Idealize.ShloMosaic Idealize.ShloMosaic.TcCoe Idealize.SL.Sem
variable (m : (ℓ : Loc nD τ sig) → Buf (Elt Ideal) ℓ)

/-- The 32 stores of eight rows each that build the bias of a block from the table row `E`. -/
abbrev biasL (E : FVec Ideal S1x1024 .f32) : List (View.Piece (Elt Ideal) S256x768 .f32) :=
  [⟨Rect.unit (s := S256x768) ![248, 0] S8x768.size inb_S256x768_S8x768_248_0, (k0_pay42 (F := Ideal) (k0_pay7 E))⟩,
    ⟨Rect.unit (s := S256x768) ![240, 0] S8x768.size inb_S256x768_S8x768_240_0, (k0_pay41 (F := Ideal) (k0_pay7 E))⟩,
    ⟨Rect.unit (s := S256x768) ![232, 0] S8x768.size inb_S256x768_S8x768_232_0, (k0_pay40 (F := Ideal) (k0_pay7 E))⟩,
    ⟨Rect.unit (s := S256x768) ![224, 0] S8x768.size inb_S256x768_S8x768_224_0, (k0_pay39 (F := Ideal) (k0_pay7 E))⟩,
    ⟨Rect.unit (s := S256x768) ![216, 0] S8x768.size inb_S256x768_S8x768_216_0, (k0_pay38 (F := Ideal) (k0_pay7 E))⟩,
    ⟨Rect.unit (s := S256x768) ![208, 0] S8x768.size inb_S256x768_S8x768_208_0, (k0_pay37 (F := Ideal) (k0_pay7 E))⟩,
    ⟨Rect.unit (s := S256x768) ![200, 0] S8x768.size inb_S256x768_S8x768_200_0, (k0_pay36 (F := Ideal) (k0_pay7 E))⟩,
    ⟨Rect.unit (s := S256x768) ![192, 0] S8x768.size inb_S256x768_S8x768_192_0, (k0_pay35 (F := Ideal) (k0_pay7 E))⟩,
    ⟨Rect.unit (s := S256x768) ![184, 0] S8x768.size inb_S256x768_S8x768_184_0, (k0_pay34 (F := Ideal) (k0_pay7 E))⟩,
    ⟨Rect.unit (s := S256x768) ![176, 0] S8x768.size inb_S256x768_S8x768_176_0, (k0_pay33 (F := Ideal) (k0_pay7 E))⟩,
    ⟨Rect.unit (s := S256x768) ![168, 0] S8x768.size inb_S256x768_S8x768_168_0, (k0_pay32 (F := Ideal) (k0_pay31 (k0_pay7 E)))⟩,
    ⟨Rect.unit (s := S256x768) ![160, 0] S8x768.size inb_S256x768_S8x768_160_0, (k0_pay30 (F := Ideal) (k0_pay7 E))⟩,
    ⟨Rect.unit (s := S256x768) ![152, 0] S8x768.size inb_S256x768_S8x768_152_0, (k0_pay29 (F := Ideal) (k0_pay7 E))⟩,
    ⟨Rect.unit (s := S256x768) ![144, 0] S8x768.size inb_S256x768_S8x768_144_0, (k0_pay28 (F := Ideal) (k0_pay7 E))⟩,
    ⟨Rect.unit (s := S256x768) ![136, 0] S8x768.size inb_S256x768_S8x768_136_0, (k0_pay27 (F := Ideal) (k0_pay7 E))⟩,
    ⟨Rect.unit (s := S256x768) ![128, 0] S8x768.size inb_S256x768_S8x768_128_0, (k0_pay26 (F := Ideal) (k0_pay7 E))⟩,
    ⟨Rect.unit (s := S256x768) ![120, 0] S8x768.size inb_S256x768_S8x768_120_0, (k0_pay25 (F := Ideal) (k0_pay7 E))⟩,
    ⟨Rect.unit (s := S256x768) ![112, 0] S8x768.size inb_S256x768_S8x768_112_0, (k0_pay24 (F := Ideal) (k0_pay23 (k0_pay7 E)))⟩,
    ⟨Rect.unit (s := S256x768) ![104, 0] S8x768.size inb_S256x768_S8x768_104_0, (k0_pay22 (F := Ideal) (k0_pay7 E))⟩,
    ⟨Rect.unit (s := S256x768) ![96, 0] S8x768.size inb_S256x768_S8x768_96_0, (k0_pay21 (F := Ideal) (k0_pay7 E))⟩,
    ⟨Rect.unit (s := S256x768) ![88, 0] S8x768.size inb_S256x768_S8x768_88_0, (k0_pay20 (F := Ideal) (k0_pay7 E))⟩,
    ⟨Rect.unit (s := S256x768) ![80, 0] S8x768.size inb_S256x768_S8x768_80_0, (k0_pay19 (F := Ideal) (k0_pay7 E))⟩,
    ⟨Rect.unit (s := S256x768) ![72, 0] S8x768.size inb_S256x768_S8x768_72_0, (k0_pay18 (F := Ideal) (k0_pay7 E))⟩,
    ⟨Rect.unit (s := S256x768) ![64, 0] S8x768.size inb_S256x768_S8x768_64_0, (k0_pay17 (F := Ideal) (k0_pay7 E))⟩,
    ⟨Rect.unit (s := S256x768) ![56, 0] S8x768.size inb_S256x768_S8x768_56_0, (k0_pay16 (F := Ideal) (k0_pay7 E))⟩,
    ⟨Rect.unit (s := S256x768) ![48, 0] S8x768.size inb_S256x768_S8x768_48_0, (k0_pay15 (F := Ideal) (k0_pay7 E))⟩,
    ⟨Rect.unit (s := S256x768) ![40, 0] S8x768.size inb_S256x768_S8x768_40_0, (k0_pay14 (F := Ideal) (k0_pay7 E))⟩,
    ⟨Rect.unit (s := S256x768) ![32, 0] S8x768.size inb_S256x768_S8x768_32_0, (k0_pay13 (F := Ideal) (k0_pay7 E))⟩,
    ⟨Rect.unit (s := S256x768) ![24, 0] S8x768.size inb_S256x768_S8x768_24_0, (k0_pay12 (F := Ideal) (k0_pay7 E))⟩,
    ⟨Rect.unit (s := S256x768) ![16, 0] S8x768.size inb_S256x768_S8x768_16_0, (k0_pay11 (F := Ideal) (k0_pay7 E))⟩,
    ⟨Rect.unit (s := S256x768) ![8, 0] S8x768.size inb_S256x768_S8x768_8_0, (k0_pay10 (F := Ideal) (k0_pay9 E))⟩,
    ⟨Rect.unit (s := S256x768) ![0, 0] S8x768.size inb_S256x768_S8x768_0_0, (k0_pay8 (F := Ideal) E)⟩]

/-- A load of the whole bias scratch reads what the stores left. -/
theorem readCov_bias (L : List (View.Piece (Elt Ideal) S256x768 .f32)) (off : Fin S256x768.rank → ℕ) (inb : ∀ a, off a + S256x768.size a ≤ S256x768.size a)
    (h : ∀ a, off a = 0) :
    (View.whole cc0_scratch2).readCov L (Rect.unit off (no_index S256x768.size) inb).toLoadRect = View.canon L := by
  rw [View.readCov_eq_canon']
  funext j
  refine congrArg (View.canon L) ?_
  funext a
  apply Fin.ext
  have := h a
  simp [LoadRect.idx, Rect.toLoadRect, Rect.unit, h a]

/-- The keys' scratch at the first block of a head: the normed keys under 512 rows of zeros. -/
def f0 (c : Dev nD) (t : Fin cfg0.N) : Vec Ideal S2560x128 .bf16 :=
  View.canon (Val := Elt Ideal) [⟨Rect.unit (s := S2560x128) ![512, 0] S2048x128.size inb_S2560x128_S2048x128_512_0, k0_pay3 (F := Ideal) (iblk m c 1 t) (iblk m c 5 t)⟩, ⟨Rect.unit (s := S2560x128) ![0, 0] S512x128.size inb_S2560x128_S512x128_0_0, k0_pay2 (F := Ideal)⟩]

/-- The values' scratch at the first block of a head: the values under 512 rows of zeros. -/
def f1 (c : Dev nD) (t : Fin cfg0.N) : Vec Ideal S2560x128 .bf16 :=
  View.canon (Val := Elt Ideal) [⟨Rect.unit (s := S2560x128) ![512, 0] S2048x128.size inb_S2560x128_S2048x128_512_0, k0_pay5 (F := Ideal) (iblk m c 2 t)⟩, ⟨Rect.unit (s := S2560x128) ![0, 0] S512x128.size inb_S2560x128_S512x128_0_0, k0_pay4 (F := Ideal)⟩]

/-- The bias scratch at the first block of a head. -/
def f2 (c : Dev nD) (t : Fin cfg0.N) : Vec Ideal S256x768 .f32 :=
  View.canon (biasL (k0_pay6 (F := Ideal) (iblk m c 6 t)))

/-- The keys' scratch. -/
theorem first_s0 (c : Dev nD) (t : Fin cfg0.N) (h0 : t.val % 8 = 0) (h1 : ¬t.val % 8 = 7) :
    (outsAt0 m c t.val t.isLt).2.2.2.2.2.2.1 =
      f0 m c t := by
  generalize hx : f0 m c t = x
  rw [outsAt0_A m c t h0 h1]
  frame_out
  try simp (disch := decide) only [readCov_bias]
  exact hx

/-- The values' scratch. -/
theorem first_s1 (c : Dev nD) (t : Fin cfg0.N) (h0 : t.val % 8 = 0) (h1 : ¬t.val % 8 = 7) :
    (outsAt0 m c t.val t.isLt).2.2.2.2.2.2.2.1 =
      f1 m c t := by
  generalize hx : f1 m c t = x
  rw [outsAt0_A m c t h0 h1]
  frame_out
  try simp (disch := decide) only [readCov_bias]
  exact hx

/-- The bias scratch. -/
theorem first_s2 (c : Dev nD) (t : Fin cfg0.N) (h0 : t.val % 8 = 0) (h1 : ¬t.val % 8 = 7) :
    (outsAt0 m c t.val t.isLt).2.2.2.2.2.2.2.2.1 =
      f2 m c t := by
  generalize hx : f2 m c t = x
  rw [outsAt0_A m c t h0 h1]
  frame_out
  try simp (disch := decide) only [readCov_bias]
  exact hx

/-- The key gradient begins from zero. -/
theorem first_s4 (c : Dev nD) (t : Fin cfg0.N) (h0 : t.val % 8 = 0) (h1 : ¬t.val % 8 = 7) :
    (outsAt0 m c t.val t.isLt).2.2.2.2.2.2.2.2.2.2.1 =
      View.canon (Val := Elt Ideal) [⟨rect768 t, n4 m c t (f0 m c t) (f1 m c t) (f2 m c t) (rows768 t (k0_pay44 (F := Ideal)))⟩, ⟨Rect.unit (s := S2560x128) ![0, 0] S2560x128.size inb_S2560x128_S2560x128_0_0, k0_pay44 (F := Ideal)⟩] := by
  generalize hx : View.canon (Val := Elt Ideal) [⟨rect768 t, n4 m c t (f0 m c t) (f1 m c t) (f2 m c t) (rows768 t (k0_pay44 (F := Ideal)))⟩, ⟨Rect.unit (s := S2560x128) ![0, 0] S2560x128.size inb_S2560x128_S2560x128_0_0, k0_pay44 (F := Ideal)⟩] = x
  rw [outsAt0_A m c t h0 h1]
  frame_out
  try simp (disch := decide) only [readCov_bias]
  exact hx

/-- The value gradient begins from zero. -/
theorem first_s5 (c : Dev nD) (t : Fin cfg0.N) (h0 : t.val % 8 = 0) (h1 : ¬t.val % 8 = 7) :
    (outsAt0 m c t.val t.isLt).2.2.2.2.2.2.2.2.2.2.2 =
      View.canon (Val := Elt Ideal) [⟨rect768 t, n5 m c t (f0 m c t) (f2 m c t) (rows768 t (k0_pay45 (F := Ideal)))⟩, ⟨Rect.unit (s := S2560x128) ![0, 0] S2560x128.size inb_S2560x128_S2560x128_0_0, k0_pay45 (F := Ideal)⟩] := by
  generalize hx : View.canon (Val := Elt Ideal) [⟨rect768 t, n5 m c t (f0 m c t) (f2 m c t) (rows768 t (k0_pay45 (F := Ideal)))⟩, ⟨Rect.unit (s := S2560x128) ![0, 0] S2560x128.size inb_S2560x128_S2560x128_0_0, k0_pay45 (F := Ideal)⟩] = x
  rw [outsAt0_A m c t h0 h1]
  frame_out
  try simp (disch := decide) only [readCov_bias]
  exact hx

/-- The first block of the query gradient. -/
theorem first_o7 (c : Dev nD) (t : Fin cfg0.N) (h0 : t.val % 8 = 0) (h1 : ¬t.val % 8 = 7) :
    (outsAt0 m c t.val t.isLt).1 =
      n7 m c t (f0 m c t) (f1 m c t) (f2 m c t) := by
  generalize hx : n7 m c t (f0 m c t) (f1 m c t) (f2 m c t) = x
  rw [outsAt0_A m c t h0 h1]
  frame_out
  try simp (disch := decide) only [readCov_bias]
  exact hx

/-- The query gain gradient begins from zero. -/
theorem first_o10 (c : Dev nD) (t : Fin cfg0.N) (h0 : t.val % 8 = 0) (h1 : ¬t.val % 8 = 7) :
    (outsAt0 m c t.val t.isLt).2.2.2.1 =
      n10 m c t (f0 m c t) (f1 m c t) (f2 m c t) (k0_pay57 (F := Ideal)) := by
  generalize hx : n10 m c t (f0 m c t) (f1 m c t) (f2 m c t) (k0_pay57 (F := Ideal)) = x
  rw [outsAt0_A m c t h0 h1]
  frame_out
  try simp (disch := decide) only [readCov_bias]
  exact hx

end Cert.Band.St
end
-- ==== Proof.Blocks.lean ====
/- WHAT EACH GRID POINT OF THE KERNEL READS: its blocks of the arguments, as the rows of its head. -/
module

public import proofs.«01_k».proof.Proof.StepA
public import Idealize.ShloMosaic.Lib.Claim

@[expose] public section

set_option maxRecDepth 16384

noncomputable section

namespace Cert.Band.St

open Cert.KernelIdeal Cert.KernelIdeal.Gen Idealize.ShloMosaic Idealize.ShloMosaic.TcCoe Idealize.SL.Sem

variable (m : (ℓ : Loc nD τ sig) → Buf (Elt Ideal) ℓ) (c : Dev nD)

/-- The device's arguments are the real arrays `X`, `D`, `GQ`, `GK`, `B`. -/
structure Args (X : Fin 2048 → Fin 8192 → ℝ) (D : Fin 2048 → Fin 1024 → ℝ) (GQ GK : Fin 128 → ℝ) (B : Fin 8 → Fin 320 → ℝ) : Prop where
  h0 : ∀ t e, (show Vec Ideal S2048x8192 .f32 from m ((c : Thread nD τ).loc main_arg0)) (ix2 t e) = (X t e : EReal)
  h1 : ∀ t e, (show Vec Ideal S2048x1024 .f32 from m ((c : Thread nD τ).loc main_arg1)) (ix2 t e) = (D t e : EReal)
  h2 : ∀ l e, (show Vec Ideal S1x128 .f32 from m ((c : Thread nD τ).loc main_arg2)) (ix2 l e) = (GQ e : EReal)
  h3 : ∀ l e, (show Vec Ideal S1x128 .f32 from m ((c : Thread nD τ).loc main_arg3)) (ix2 l e) = (GK e : EReal)
  h4 : ∀ h u, (show Vec Ideal S8x320 .f32 from m ((c : Thread nD τ).loc main_arg4)) (ix2 h u) = (B h u : EReal)

/-- The index maps of the seven argument windows. -/
theorem idx : ∀ t : Fin cfg0.N, win0_0.index t = ![t.val % 8, 32 + t.val / 8] ∧ win0_1.index t = ![0, 40 + t.val / 8]
    ∧ win0_2.index t = ![0, 48 + t.val / 8] ∧ win0_3.index t = ![t.val % 8, t.val / 8] ∧ win0_4.index t = ![0, 0]
    ∧ win0_5.index t = ![0, 0] ∧ win0_6.index t = ![t.val / 8, 0, 0] :=
  (by decide +kernel : ∀ t : Fin grid0.N, _)

variable {m c} {X : Fin 2048 → Fin 8192 → ℝ} {D : Fin 2048 → Fin 1024 → ℝ} {GQ GK : Fin 128 → ℝ} {B : Fin 8 → Fin 320 → ℝ}

theorem blk0 (A : Args m c X D GQ GK B) (h i : Fin 8) (t : Fin cfg0.N) (ht : t.val = 8 * h.val + i.val) (r : Fin 256) (e : Fin 128) :
    (show Vec Ideal S256x128 .f32 from iblk m c 0 t) (ix2 r e) = ((headOf X D GQ GK B h).q (qrow i r) e : EReal) := by
  refine Eq.trans ?_ (A.h0 (qrow i r) ⟨4096 + (h * 128 + e), by omega⟩)
  have := idx t
  show iblk m c 0 t (ix2 r e) = m ((c : Thread nD τ).loc main_arg0) _
  blk_ext [iblk, V, idx t]
  all_goals simp only [qrow]; omega

theorem blk1 (A : Args m c X D GQ GK B) (h i : Fin 8) (t : Fin cfg0.N) (ht : t.val = 8 * h.val + i.val) (r : Fin 2048) (e : Fin 128) :
    (show Vec Ideal S2048x128 .f32 from iblk m c 1 t) (ix2 r e) = ((headOf X D GQ GK B h).k r e : EReal) := by
  refine Eq.trans ?_ (A.h0 r ⟨5120 + (h * 128 + e), by omega⟩)
  show iblk m c 1 t (ix2 r e) = m ((c : Thread nD τ).loc main_arg0) _
  blk_ext [iblk, V, idx t]

theorem blk2 (A : Args m c X D GQ GK B) (h i : Fin 8) (t : Fin cfg0.N) (ht : t.val = 8 * h.val + i.val) (r : Fin 2048) (e : Fin 128) :
    (show Vec Ideal S2048x128 .f32 from iblk m c 2 t) (ix2 r e) = ((headOf X D GQ GK B h).v r e : EReal) := by
  refine Eq.trans ?_ (A.h0 r ⟨6144 + (h * 128 + e), by omega⟩)
  show iblk m c 2 t (ix2 r e) = m ((c : Thread nD τ).loc main_arg0) _
  blk_ext [iblk, V, idx t]

theorem blk3 (A : Args m c X D GQ GK B) (h i : Fin 8) (t : Fin cfg0.N) (ht : t.val = 8 * h.val + i.val) (r : Fin 256) (e : Fin 128) :
    (show Vec Ideal S256x128 .f32 from iblk m c 3 t) (ix2 r e) = ((headOf X D GQ GK B h).dy (qrow i r) e : EReal) := by
  refine Eq.trans ?_ (A.h1 (qrow i r) ⟨h * 128 + e, by omega⟩)
  show iblk m c 3 t (ix2 r e) = m ((c : Thread nD τ).loc main_arg1) _
  blk_ext [iblk, V, idx t]
  all_goals simp only [qrow]; omega

theorem blk4 (A : Args m c X D GQ GK B) (h : Fin 8) (t : Fin cfg0.N) (l : Fin 1) (e : Fin 128) :
    (show Vec Ideal S1x128 .f32 from iblk m c 4 t) (ix2 l e) = ((headOf X D GQ GK B h).gq e : EReal) := by
  refine Eq.trans ?_ (A.h2 l e)
  show iblk m c 4 t (ix2 l e) = m ((c : Thread nD τ).loc main_arg2) _
  blk_ext [iblk, V, idx t]

theorem blk5 (A : Args m c X D GQ GK B) (h : Fin 8) (t : Fin cfg0.N) (l : Fin 1) (e : Fin 128) :
    (show Vec Ideal S1x128 .f32 from iblk m c 5 t) (ix2 l e) = ((headOf X D GQ GK B h).gk e : EReal) := by
  refine Eq.trans ?_ (A.h3 l e)
  show iblk m c 5 t (ix2 l e) = m ((c : Thread nD τ).loc main_arg3) _
  blk_ext [iblk, V, idx t]

end Cert.Band.St

end
-- ==== Proof.Ext.lean ====
/- THE EXTENDED BIAS ROW the host gathers for the kernel: 1024 entries a head, entry `x` the bias at distance
   `512 - x`, read round the end for the negative `x`. -/
module

public import proofs.«01_k».proof.Proof.Blocks

@[expose] public section

set_option maxRecDepth 16384

noncomputable section

namespace Cert.Band.St

open Cert.KernelIdeal Cert.KernelIdeal.Gen Idealize.ShloMosaic Idealize.ShloMosaic.TcCoe Idealize.SL.Sem

/-- The place in the bias table of entry `x` of the extended row. -/
def extIdx (x : Fin 1024) : Fin 320 := ⟨if x.val < 256 then 319 else if x.val < 575 then 575 - x else if x.val < 768 then 0 else 319, by
  split <;> [skip; split] <;> [skip; skip; split] <;> omega⟩

/-- The extended row read at the distance of a window's row and column is the bias of that distance. -/
theorem extIdx_rel (r : Fin 256) (w : Fin 768) (x : Fin 1024) (hx : x.val = (w.val + 1024 - r.val) % 1024) :
    extIdx x = rel (512 + r.val) w := by
  apply Fin.ext
  simp only [extIdx, rel]
  split <;> [skip; split] <;> [skip; skip; split] <;> omega

/-- The index list as the program holds it. -/
def idxArr : IVec S1024 32 := fun i => lit0 (S1024.rowMajor i)

/-- The index list with negative entries wrapped round (there are none). -/
def wrapIdx : IVec S1024x1 32 :=
  broadcastInDim S1024x1 ![0] bcast_S1024_S1024x1_0
    (select (cmpi .slt idxArr (broadcastInDim S1024 ![] bcast_S_S1024 (constantI S_ 32 0#32)))
      (addi idxArr (broadcastInDim S1024 ![] bcast_S_S1024 (constantI S_ 32 320#32))) idxArr)

/-- Which entries of the index list lie in the table (all do). -/
def inTable : IVec S1024 1 :=
  Host.reduce IntOp.andi
    (andi (cmpi .sge wrapIdx (broadcastInDim S1024x1 ![] bcast_S_S1024x1 (constantI S_ 32 0#32)))
      (cmpi .sle wrapIdx (broadcastInDim S1024x1 ![0, 1] bcast_S1x1_S1024x1_0_1 (broadcastInDim S1x1 ![1] bcast_S1_S1x1_1 (constantI S1 32 319#32)))))
    (constantI S_ 1 1#1) reducesTo_S1024x1_S1024_d1 h_S_

/-- The gathered rows. -/
def extRows (b : Vec Ideal S8x320 .f32) : Vec Ideal S8x1024 .f32 :=
  select (broadcastInDim S8x1024 ![1] bcast_S1024_S8x1024_1 inTable)
    (Host.gather gather_S8x320_S1024x1_S8x1024_0_1_n_n_1_1_81 b wrapIdx)
    (broadcastInDim S8x1024 ![] bcast_S_S8x1024 (constant (F := Ideal) S_ .f32 0x7FC00000#32))

variable (m : (ℓ : Loc nD τ sig) → Buf (Elt Ideal) ℓ) (c : Dev nD)

theorem V_v1 : V m c main_v1 = shapeCast S8x1x1024 (extRows (m ((c : Thread nD τ).loc main_arg4))) shapeCasts_S8x1024_S8x1x1024 := by
  generalize hx : shapeCast S8x1x1024 (extRows (m ((c : Thread nD τ).loc main_arg4))) shapeCasts_S8x1024_S8x1x1024 = x
  show StableHlo.after [hostOps0, hostOps0_1, hostOps0_2].flatten _ _ = _
  simp only [List.flatten_cons, List.flatten_nil, List.append_nil, List.cons_append, List.nil_append, hostOps0, hostOps0_1, hostOps0_2]
  entry_read
  simp only [StableHlo.TRef.ofBuf_toBuf]
  rw [← hx]
  rfl

theorem lit0_val : ∀ x : Fin 1024, lit0 x = BitVec.ofNat 32 (extIdx x).val := by decide +kernel

theorem word_ok : ∀ u : Fin 320, IntOp.cmpi .slt (BitVec.ofNat 32 u.val) 0#32 = 0#1
    ∧ IntOp.andi (IntOp.cmpi .sge (BitVec.ofNat 32 u.val) 0#32) (IntOp.cmpi .sle (BitVec.ofNat 32 u.val) 319#32) = 1#1
    ∧ min (BitVec.ofNat 32 u.val).toInt.toNat 319 = u.val := by decide +kernel

theorem idxArr_val (x : Fin 1024) : idxArr (ix1 x) = BitVec.ofNat 32 (extIdx x).val := by
  refine Eq.trans ?_ (lit0_val x)
  refine congrArg lit0 (Fin.ext ?_)
  revert x
  decide +kernel

theorem wrapIdx_val (x : Fin 1024) (z : Fin 1) : wrapIdx (ix2 x z) = BitVec.ofNat 32 (extIdx x).val := by
  pointwise [wrapIdx]
  simp only [idxArr_val, (word_ok _).1]
  rfl

theorem inTable_val (x : Fin 1024) : inTable (ix1 x) = 1#1 := by
  pointwise [inTable]
  simp only [wrapIdx_val, (word_ok _).2.1]
  rfl

theorem gather_row (x : S8x320.Idx → EReal) (idx : IVec S1024x1 32) (h : Fin 8) (t : Fin 1024) :
    Host.gather gather_S8x320_S1024x1_S8x1024_0_1_n_n_1_1_81 x idx (ix2 h t)
      = x (ix2 h ⟨min (idx (ix2 t 0)).toInt.toNat 319, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ =>
    have h1 : GatherDims.start gather_S8x320_S1024x1_S8x1024_0_1_n_n_1_1_81 (ix2 h t) idx (0 : Fin 2) = 0 :=
      dif_neg (by decide)
    refine (congrArg (· + 0 + _) h1).trans ?_
    have h2 : GatherDims.offCoord gather_S8x320_S1024x1_S8x1024_0_1_n_n_1_1_81 (ix2 h t) (0 : Fin 2) = h.val :=
      (dif_pos (by decide)).trans rfl
    simp only [Nat.zero_add]
    exact h2
  | ⟨1, _⟩ =>
    have h2 : GatherDims.offCoord gather_S8x320_S1024x1_S8x1024_0_1_n_n_1_1_81 (ix2 h t) (1 : Fin 2) = 0 :=
      dif_neg (by decide)
    refine (congrArg (_ + 0 + ·) h2).trans ?_
    simp only [Nat.add_zero]
    refine (dif_pos (show (1 : Fin 2) ∈ gather_S8x320_S1024x1_S8x1024_0_1_n_n_1_1_81.startIndexMap by decide)).trans ?_
    have hsi : ∀ q, GatherDims.siIdx gather_S8x320_S1024x1_S8x1024_0_1_n_n_1_1_81 (ix2 h t) q = ix2 t 0 := by
      intro q
      funext b; refine Fin.ext ?_
      match b with
      | ⟨0, _⟩ => rfl
      | ⟨1, _⟩ => exact (Nat.lt_one_iff.1 q.isLt)
    rw [hsi]
    rfl

theorem extRows_val (b : Vec Ideal S8x320 .f32) (h : Fin 8) (x : Fin 1024) : extRows b (ix2 h x) = b (ix2 h (extIdx x)) := by
  pointwise [extRows]
  rw [inTable_val]
  refine (gather_row b wrapIdx h x).trans ?_
  congr 2
  apply Fin.ext
  show min (wrapIdx (ix2 x 0)).toInt.toNat 319 = _
  rw [wrapIdx_val, (word_ok _).2.2]

variable {m c} {X : Fin 2048 → Fin 8192 → ℝ} {D : Fin 2048 → Fin 1024 → ℝ} {GQ GK : Fin 128 → ℝ} {B : Fin 8 → Fin 320 → ℝ}

theorem blk6 (A : Args m c X D GQ GK B) (h i : Fin 8) (t : Fin cfg0.N) (ht : t.val = 8 * h.val + i.val) (a b : Fin 1) (x : Fin 1024) :
    (show Vec Ideal S1x1x1024 .f32 from iblk m c 6 t) (ix3 a b x) = ((headOf X D GQ GK B h).b (extIdx x) : EReal) := by
  refine Eq.trans ?_ (A.h4 h (extIdx x))
  refine Eq.trans ?_ (extRows_val _ h x)
  have e : (show Vec Ideal S1x1x1024 .f32 from iblk m c 6 t) (ix3 a b x) = (show Vec Ideal S8x1x1024 .f32 from V m c main_v1) (ix3 h 0 x) := by
    show iblk m c 6 t (ix3 a b x) = V m c main_v1 _
    unfold iblk
    generalize V m c main_v1 = y
    blk_ext [idx t]
  rw [e]
  refine (congrFun (V_v1 m c) _).trans ?_
  generalize extRows _ = y
  pointwise []

end Cert.Band.St

end
-- ==== Proof.Bias.lean ====
/- THE BIAS SCRATCH: the extended row laid along the diagonals of a block's 256 rows and 768 columns, by
   rotations — row `r`, column `w` holds the bias of the distance `512 + r - w`. -/
module

public import proofs.«01_k».proof.Proof.Ext

@[expose] public section

set_option maxRecDepth 16384

noncomputable section

namespace Cert.Band.St

open Cert.KernelIdeal Cert.KernelIdeal.Gen Idealize.ShloMosaic Idealize.ShloMosaic.TcCoe Idealize.SL.Sem

/-- Every piece of a list being a block of `G`, the pieces leave `G` wherever one of them lies. -/
theorem canon_of_piecesOf {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

variable (E : FVec Ideal S1x1024 .f32)

/-- Row `b` of the first eight: the extended row rotated by `b`. -/
theorem pay7_at (b : Fin 8) (x : Fin 1024) : k0_pay7 E (ix2 b x) = E (ix2 0 ⟨(x.val + 1024 - b.val) % 1024, Nat.mod_lt _ (by norm_num)⟩) := by
  pointwise [k0_pay7]
  match b with
  | ⟨0, _⟩ =>
    refine congrArg (fun z => E (ix2 0 z)) (Fin.ext ?_)
    show x.val = (x.val + 1024 - 0) % 1024
    omega
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- What the bias scratch holds. -/
def biasAt (y : S256x768.Idx) : Ideal .f32 :=
  E (ix2 0 ⟨((y 1).val + 1024 - (y 0).val) % 1024, Nat.mod_lt _ (by norm_num)⟩)

/-- Eight rows stored from row `n` on, rotated by `n`, lie right. -/
theorem piece (n : ℕ) (hn : n ≤ 248) (inb) (P : Vec Ideal S8x768 .f32)
    (hP : ∀ (b : Fin 8) (w : Fin 768), P (ix2 b w) = k0_pay7 E (ix2 b ⟨(w.val + 1024 - n) % 1024, Nat.mod_lt _ (by norm_num)⟩)) :
    ∀ x : (Rect.unit (s := S256x768) ![n, 0] S8x768.size inb).shape.Idx,
      P x = biasAt E ((Rect.unit (s := S256x768) ![n, 0] S8x768.size inb).emb x) := by
  intro x
  obtain ⟨b, w, rfl⟩ : ∃ (b : Fin 8) (w : Fin 768), x = ix2 b w := ⟨x 0, x 1, eq_ix2 x⟩
  refine (hP b w).trans ((pay7_at E b _).trans ?_)
  refine congrArg (fun z => E (ix2 0 z)) (Fin.ext ?_)
  show ((w.val + 1024 - n) % 1024 + 1024 - b.val) % 1024 = ((0 + 1 * w.val) + 1024 - (n + 1 * b.val)) % 1024
  omega

/-- Whether a place lies in eight rows stored from row `n` on. -/
theorem mem_piece (n : ℕ) (inb) (y : S256x768.Idx) (h : n ≤ (y 0).val ∧ (y 0).val < n + 8) :
    y ∈ (Rect.unit (s := S256x768) ![n, 0] S8x768.size inb).set := by
  rw [Rect.mem_set_unit]
  intro a
  match a with
  | ⟨0, _⟩ => exact h
  | ⟨1, _⟩ => exact ⟨Nat.zero_le _, (by have := (y 1).isLt; simpa using this)⟩

theorem at0 (b : Fin 8) (w : Fin 768) : (show Vec Ideal S8x768 .f32 from k0_pay8 E) (ix2 b w) = k0_pay7 E (ix2 b ⟨(w.val + 1024 - 0) % 1024, Nat.mod_lt _ (by norm_num)⟩) := by
  generalize hY : k0_pay7 E = Y
  show k0_pay8 E (ix2 b w) = _
  unfold k0_pay8
  rw [hY]
  pointwise []
  refine congrArg (fun z => Y (ix2 b z)) (Fin.ext ?_)
  show w.val = (w.val + 1024 - 0) % 1024
  omega

theorem at8 (b : Fin 8) (w : Fin 768) : (show Vec Ideal S8x768 .f32 from k0_pay10 (k0_pay9 E)) (ix2 b w) = k0_pay7 E (ix2 b ⟨(w.val + 1024 - 8) % 1024, Nat.mod_lt _ (by norm_num)⟩) := by
  generalize hY : k0_pay7 E = Y
  show k0_pay10 (k0_pay9 E) (ix2 b w) = _
  unfold k0_pay9
  rw [hY]
  pointwise [k0_pay10]

theorem at16 (b : Fin 8) (w : Fin 768) : (show Vec Ideal S8x768 .f32 from k0_pay11 (k0_pay7 E)) (ix2 b w) = k0_pay7 E (ix2 b ⟨(w.val + 1024 - 16) % 1024, Nat.mod_lt _ (by norm_num)⟩) := by
  generalize k0_pay7 E = Y
  pointwise [k0_pay11]

theorem at24 (b : Fin 8) (w : Fin 768) : (show Vec Ideal S8x768 .f32 from k0_pay12 (k0_pay7 E)) (ix2 b w) = k0_pay7 E (ix2 b ⟨(w.val + 1024 - 24) % 1024, Nat.mod_lt _ (by norm_num)⟩) := by
  generalize k0_pay7 E = Y
  pointwise [k0_pay12]

theorem at32 (b : Fin 8) (w : Fin 768) : (show Vec Ideal S8x768 .f32 from k0_pay13 (k0_pay7 E)) (ix2 b w) = k0_pay7 E (ix2 b ⟨(w.val + 1024 - 32) % 1024, Nat.mod_lt _ (by norm_num)⟩) := by
  generalize k0_pay7 E = Y
  pointwise [k0_pay13]

theorem at40 (b : Fin 8) (w : Fin 768) : (show Vec Ideal S8x768 .f32 from k0_pay14 (k0_pay7 E)) (ix2 b w) = k0_pay7 E (ix2 b ⟨(w.val + 1024 - 40) % 1024, Nat.mod_lt _ (by norm_num)⟩) := by
  generalize k0_pay7 E = Y
  pointwise [k0_pay14]

theorem at48 (b : Fin 8) (w : Fin 768) : (show Vec Ideal S8x768 .f32 from k0_pay15 (k0_pay7 E)) (ix2 b w) = k0_pay7 E (ix2 b ⟨(w.val + 1024 - 48) % 1024, Nat.mod_lt _ (by norm_num)⟩) := by
  generalize k0_pay7 E = Y
  pointwise [k0_pay15]

theorem at56 (b : Fin 8) (w : Fin 768) : (show Vec Ideal S8x768 .f32 from k0_pay16 (k0_pay7 E)) (ix2 b w) = k0_pay7 E (ix2 b ⟨(w.val + 1024 - 56) % 1024, Nat.mod_lt _ (by norm_num)⟩) := by
  generalize k0_pay7 E = Y
  pointwise [k0_pay16]

theorem at64 (b : Fin 8) (w : Fin 768) : (show Vec Ideal S8x768 .f32 from k0_pay17 (k0_pay7 E)) (ix2 b w) = k0_pay7 E (ix2 b ⟨(w.val + 1024 - 64) % 1024, Nat.mod_lt _ (by norm_num)⟩) := by
  generalize k0_pay7 E = Y
  pointwise [k0_pay17]

theorem at72 (b : Fin 8) (w : Fin 768) : (show Vec Ideal S8x768 .f32 from k0_pay18 (k0_pay7 E)) (ix2 b w) = k0_pay7 E (ix2 b ⟨(w.val + 1024 - 72) % 1024, Nat.mod_lt _ (by norm_num)⟩) := by
  generalize k0_pay7 E = Y
  pointwise [k0_pay18]

theorem at80 (b : Fin 8) (w : Fin 768) : (show Vec Ideal S8x768 .f32 from k0_pay19 (k0_pay7 E)) (ix2 b w) = k0_pay7 E (ix2 b ⟨(w.val + 1024 - 80) % 1024, Nat.mod_lt _ (by norm_num)⟩) := by
  generalize k0_pay7 E = Y
  pointwise [k0_pay19]

theorem at88 (b : Fin 8) (w : Fin 768) : (show Vec Ideal S8x768 .f32 from k0_pay20 (k0_pay7 E)) (ix2 b w) = k0_pay7 E (ix2 b ⟨(w.val + 1024 - 88) % 1024, Nat.mod_lt _ (by norm_num)⟩) := by
  generalize k0_pay7 E = Y
  pointwise [k0_pay20]

theorem at96 (b : Fin 8) (w : Fin 768) : (show Vec Ideal S8x768 .f32 from k0_pay21 (k0_pay7 E)) (ix2 b w) = k0_pay7 E (ix2 b ⟨(w.val + 1024 - 96) % 1024, Nat.mod_lt _ (by norm_num)⟩) := by
  generalize k0_pay7 E = Y
  pointwise [k0_pay21]

theorem at104 (b : Fin 8) (w : Fin 768) : (show Vec Ideal S8x768 .f32 from k0_pay22 (k0_pay7 E)) (ix2 b w) = k0_pay7 E (ix2 b ⟨(w.val + 1024 - 104) % 1024, Nat.mod_lt _ (by norm_num)⟩) := by
  generalize k0_pay7 E = Y
  pointwise [k0_pay22]

theorem at112 (b : Fin 8) (w : Fin 768) : (show Vec Ideal S8x768 .f32 from k0_pay24 (k0_pay23 (k0_pay7 E))) (ix2 b w) = k0_pay7 E (ix2 b ⟨(w.val + 1024 - 112) % 1024, Nat.mod_lt _ (by norm_num)⟩) := by
  generalize k0_pay7 E = Y
  pointwise [k0_pay24, k0_pay23]

theorem at120 (b : Fin 8) (w : Fin 768) : (show Vec Ideal S8x768 .f32 from k0_pay25 (k0_pay7 E)) (ix2 b w) = k0_pay7 E (ix2 b ⟨(w.val + 1024 - 120) % 1024, Nat.mod_lt _ (by norm_num)⟩) := by
  generalize k0_pay7 E = Y
  pointwise [k0_pay25]

theorem at128 (b : Fin 8) (w : Fin 768) : (show Vec Ideal S8x768 .f32 from k0_pay26 (k0_pay7 E)) (ix2 b w) = k0_pay7 E (ix2 b ⟨(w.val + 1024 - 128) % 1024, Nat.mod_lt _ (by norm_num)⟩) := by
  generalize k0_pay7 E = Y
  pointwise [k0_pay26]

theorem at136 (b : Fin 8) (w : Fin 768) : (show Vec Ideal S8x768 .f32 from k0_pay27 (k0_pay7 E)) (ix2 b w) = k0_pay7 E (ix2 b ⟨(w.val + 1024 - 136) % 1024, Nat.mod_lt _ (by norm_num)⟩) := by
  generalize k0_pay7 E = Y
  pointwise [k0_pay27]

theorem at144 (b : Fin 8) (w : Fin 768) : (show Vec Ideal S8x768 .f32 from k0_pay28 (k0_pay7 E)) (ix2 b w) = k0_pay7 E (ix2 b ⟨(w.val + 1024 - 144) % 1024, Nat.mod_lt _ (by norm_num)⟩) := by
  generalize k0_pay7 E = Y
  pointwise [k0_pay28]

theorem at152 (b : Fin 8) (w : Fin 768) : (show Vec Ideal S8x768 .f32 from k0_pay29 (k0_pay7 E)) (ix2 b w) = k0_pay7 E (ix2 b ⟨(w.val + 1024 - 152) % 1024, Nat.mod_lt _ (by norm_num)⟩) := by
  generalize k0_pay7 E = Y
  pointwise [k0_pay29]

theorem at160 (b : Fin 8) (w : Fin 768) : (show Vec Ideal S8x768 .f32 from k0_pay30 (k0_pay7 E)) (ix2 b w) = k0_pay7 E (ix2 b ⟨(w.val + 1024 - 160) % 1024, Nat.mod_lt _ (by norm_num)⟩) := by
  generalize k0_pay7 E = Y
  pointwise [k0_pay30]

theorem at168 (b : Fin 8) (w : Fin 768) : (show Vec Ideal S8x768 .f32 from k0_pay32 (k0_pay31 (k0_pay7 E))) (ix2 b w) = k0_pay7 E (ix2 b ⟨(w.val + 1024 - 168) % 1024, Nat.mod_lt _ (by norm_num)⟩) := by
  generalize k0_pay7 E = Y
  pointwise [k0_pay32, k0_pay31]

theorem at176 (b : Fin 8) (w : Fin 768) : (show Vec Ideal S8x768 .f32 from k0_pay33 (k0_pay7 E)) (ix2 b w) = k0_pay7 E (ix2 b ⟨(w.val + 1024 - 176) % 1024, Nat.mod_lt _ (by norm_num)⟩) := by
  generalize k0_pay7 E = Y
  pointwise [k0_pay33]

theorem at184 (b : Fin 8) (w : Fin 768) : (show Vec Ideal S8x768 .f32 from k0_pay34 (k0_pay7 E)) (ix2 b w) = k0_pay7 E (ix2 b ⟨(w.val + 1024 - 184) % 1024, Nat.mod_lt _ (by norm_num)⟩) := by
  generalize k0_pay7 E = Y
  pointwise [k0_pay34]

theorem at192 (b : Fin 8) (w : Fin 768) : (show Vec Ideal S8x768 .f32 from k0_pay35 (k0_pay7 E)) (ix2 b w) = k0_pay7 E (ix2 b ⟨(w.val + 1024 - 192) % 1024, Nat.mod_lt _ (by norm_num)⟩) := by
  generalize k0_pay7 E = Y
  pointwise [k0_pay35]

theorem at200 (b : Fin 8) (w : Fin 768) : (show Vec Ideal S8x768 .f32 from k0_pay36 (k0_pay7 E)) (ix2 b w) = k0_pay7 E (ix2 b ⟨(w.val + 1024 - 200) % 1024, Nat.mod_lt _ (by norm_num)⟩) := by
  generalize k0_pay7 E = Y
  pointwise [k0_pay36]

theorem at208 (b : Fin 8) (w : Fin 768) : (show Vec Ideal S8x768 .f32 from k0_pay37 (k0_pay7 E)) (ix2 b w) = k0_pay7 E (ix2 b ⟨(w.val + 1024 - 208) % 1024, Nat.mod_lt _ (by norm_num)⟩) := by
  generalize k0_pay7 E = Y
  pointwise [k0_pay37]

theorem at216 (b : Fin 8) (w : Fin 768) : (show Vec Ideal S8x768 .f32 from k0_pay38 (k0_pay7 E)) (ix2 b w) = k0_pay7 E (ix2 b ⟨(w.val + 1024 - 216) % 1024, Nat.mod_lt _ (by norm_num)⟩) := by
  generalize k0_pay7 E = Y
  pointwise [k0_pay38]

theorem at224 (b : Fin 8) (w : Fin 768) : (show Vec Ideal S8x768 .f32 from k0_pay39 (k0_pay7 E)) (ix2 b w) = k0_pay7 E (ix2 b ⟨(w.val + 1024 - 224) % 1024, Nat.mod_lt _ (by norm_num)⟩) := by
  generalize k0_pay7 E = Y
  pointwise [k0_pay39]

theorem at232 (b : Fin 8) (w : Fin 768) : (show Vec Ideal S8x768 .f32 from k0_pay40 (k0_pay7 E)) (ix2 b w) = k0_pay7 E (ix2 b ⟨(w.val + 1024 - 232) % 1024, Nat.mod_lt _ (by norm_num)⟩) := by
  generalize k0_pay7 E = Y
  pointwise [k0_pay40]

theorem at240 (b : Fin 8) (w : Fin 768) : (show Vec Ideal S8x768 .f32 from k0_pay41 (k0_pay7 E)) (ix2 b w) = k0_pay7 E (ix2 b ⟨(w.val + 1024 - 240) % 1024, Nat.mod_lt _ (by norm_num)⟩) := by
  generalize k0_pay7 E = Y
  pointwise [k0_pay41]

theorem at248 (b : Fin 8) (w : Fin 768) : (show Vec Ideal S8x768 .f32 from k0_pay42 (k0_pay7 E)) (ix2 b w) = k0_pay7 E (ix2 b ⟨(w.val + 1024 - 248) % 1024, Nat.mod_lt _ (by norm_num)⟩) := by
  generalize k0_pay7 E = Y
  pointwise [k0_pay42]

/-- The bias scratch after its 32 stores. -/
theorem bias_at (y : S256x768.Idx) : View.canon (biasL E) y = biasAt E y := by
  refine canon_of_piecesOf (biasAt E) (biasL E) ?_ y ?_
  · exact ⟨piece E 248 (by norm_num) inb_S256x768_S8x768_248_0 _ (at248 E), piece E 240 (by norm_num) inb_S256x768_S8x768_240_0 _ (at240 E), piece E 232 (by norm_num) inb_S256x768_S8x768_232_0 _ (at232 E), piece E 224 (by norm_num) inb_S256x768_S8x768_224_0 _ (at224 E), piece E 216 (by norm_num) inb_S256x768_S8x768_216_0 _ (at216 E), piece E 208 (by norm_num) inb_S256x768_S8x768_208_0 _ (at208 E), piece E 200 (by norm_num) inb_S256x768_S8x768_200_0 _ (at200 E), piece E 192 (by norm_num) inb_S256x768_S8x768_192_0 _ (at192 E), piece E 184 (by norm_num) inb_S256x768_S8x768_184_0 _ (at184 E), piece E 176 (by norm_num) inb_S256x768_S8x768_176_0 _ (at176 E), piece E 168 (by norm_num) inb_S256x768_S8x768_168_0 _ (at168 E), piece E 160 (by norm_num) inb_S256x768_S8x768_160_0 _ (at160 E), piece E 152 (by norm_num) inb_S256x768_S8x768_152_0 _ (at152 E), piece E 144 (by norm_num) inb_S256x768_S8x768_144_0 _ (at144 E), piece E 136 (by norm_num) inb_S256x768_S8x768_136_0 _ (at136 E), piece E 128 (by norm_num) inb_S256x768_S8x768_128_0 _ (at128 E), piece E 120 (by norm_num) inb_S256x768_S8x768_120_0 _ (at120 E), piece E 112 (by norm_num) inb_S256x768_S8x768_112_0 _ (at112 E), piece E 104 (by norm_num) inb_S256x768_S8x768_104_0 _ (at104 E), piece E 96 (by norm_num) inb_S256x768_S8x768_96_0 _ (at96 E), piece E 88 (by norm_num) inb_S256x768_S8x768_88_0 _ (at88 E), piece E 80 (by norm_num) inb_S256x768_S8x768_80_0 _ (at80 E), piece E 72 (by norm_num) inb_S256x768_S8x768_72_0 _ (at72 E), piece E 64 (by norm_num) inb_S256x768_S8x768_64_0 _ (at64 E), piece E 56 (by norm_num) inb_S256x768_S8x768_56_0 _ (at56 E), piece E 48 (by norm_num) inb_S256x768_S8x768_48_0 _ (at48 E), piece E 40 (by norm_num) inb_S256x768_S8x768_40_0 _ (at40 E), piece E 32 (by norm_num) inb_S256x768_S8x768_32_0 _ (at32 E), piece E 24 (by norm_num) inb_S256x768_S8x768_24_0 _ (at24 E), piece E 16 (by norm_num) inb_S256x768_S8x768_16_0 _ (at16 E), piece E 8 (by norm_num) inb_S256x768_S8x768_8_0 _ (at8 E), piece E 0 (by norm_num) inb_S256x768_S8x768_0_0 _ (at0 E), trivial⟩
  · have hy : (y 0).val < 256 := (y 0).isLt
    obtain ⟨k, hk⟩ : ∃ k : Fin 32, k.val = (y 0).val / 8 := ⟨⟨(y 0).val / 8, by omega⟩, rfl⟩
    match k with
    | ⟨0, _⟩ => exact ⟨(biasL E)[31], List.getElem_mem _, mem_piece 0 inb_S256x768_S8x768_0_0 y (by dsimp only at hk; omega)⟩
    | ⟨1, _⟩ => exact ⟨(biasL E)[30], List.getElem_mem _, mem_piece 8 inb_S256x768_S8x768_8_0 y (by dsimp only at hk; omega)⟩
    | ⟨2, _⟩ => exact ⟨(biasL E)[29], List.getElem_mem _, mem_piece 16 inb_S256x768_S8x768_16_0 y (by dsimp only at hk; omega)⟩
    | ⟨3, _⟩ => exact ⟨(biasL E)[28], List.getElem_mem _, mem_piece 24 inb_S256x768_S8x768_24_0 y (by dsimp only at hk; omega)⟩
    | ⟨4, _⟩ => exact ⟨(biasL E)[27], List.getElem_mem _, mem_piece 32 inb_S256x768_S8x768_32_0 y (by dsimp only at hk; omega)⟩
    | ⟨5, _⟩ => exact ⟨(biasL E)[26], List.getElem_mem _, mem_piece 40 inb_S256x768_S8x768_40_0 y (by dsimp only at hk; omega)⟩
    | ⟨6, _⟩ => exact ⟨(biasL E)[25], List.getElem_mem _, mem_piece 48 inb_S256x768_S8x768_48_0 y (by dsimp only at hk; omega)⟩
    | ⟨7, _⟩ => exact ⟨(biasL E)[24], List.getElem_mem _, mem_piece 56 inb_S256x768_S8x768_56_0 y (by dsimp only at hk; omega)⟩
    | ⟨8, _⟩ => exact ⟨(biasL E)[23], List.getElem_mem _, mem_piece 64 inb_S256x768_S8x768_64_0 y (by dsimp only at hk; omega)⟩
    | ⟨9, _⟩ => exact ⟨(biasL E)[22], List.getElem_mem _, mem_piece 72 inb_S256x768_S8x768_72_0 y (by dsimp only at hk; omega)⟩
    | ⟨10, _⟩ => exact ⟨(biasL E)[21], List.getElem_mem _, mem_piece 80 inb_S256x768_S8x768_80_0 y (by dsimp only at hk; omega)⟩
    | ⟨11, _⟩ => exact ⟨(biasL E)[20], List.getElem_mem _, mem_piece 88 inb_S256x768_S8x768_88_0 y (by dsimp only at hk; omega)⟩
    | ⟨12, _⟩ => exact ⟨(biasL E)[19], List.getElem_mem _, mem_piece 96 inb_S256x768_S8x768_96_0 y (by dsimp only at hk; omega)⟩
    | ⟨13, _⟩ => exact ⟨(biasL E)[18], List.getElem_mem _, mem_piece 104 inb_S256x768_S8x768_104_0 y (by dsimp only at hk; omega)⟩
    | ⟨14, _⟩ => exact ⟨(biasL E)[17], List.getElem_mem _, mem_piece 112 inb_S256x768_S8x768_112_0 y (by dsimp only at hk; omega)⟩
    | ⟨15, _⟩ => exact ⟨(biasL E)[16], List.getElem_mem _, mem_piece 120 inb_S256x768_S8x768_120_0 y (by dsimp only at hk; omega)⟩
    | ⟨16, _⟩ => exact ⟨(biasL E)[15], List.getElem_mem _, mem_piece 128 inb_S256x768_S8x768_128_0 y (by dsimp only at hk; omega)⟩
    | ⟨17, _⟩ => exact ⟨(biasL E)[14], List.getElem_mem _, mem_piece 136 inb_S256x768_S8x768_136_0 y (by dsimp only at hk; omega)⟩
    | ⟨18, _⟩ => exact ⟨(biasL E)[13], List.getElem_mem _, mem_piece 144 inb_S256x768_S8x768_144_0 y (by dsimp only at hk; omega)⟩
    | ⟨19, _⟩ => exact ⟨(biasL E)[12], List.getElem_mem _, mem_piece 152 inb_S256x768_S8x768_152_0 y (by dsimp only at hk; omega)⟩
    | ⟨20, _⟩ => exact ⟨(biasL E)[11], List.getElem_mem _, mem_piece 160 inb_S256x768_S8x768_160_0 y (by dsimp only at hk; omega)⟩
    | ⟨21, _⟩ => exact ⟨(biasL E)[10], List.getElem_mem _, mem_piece 168 inb_S256x768_S8x768_168_0 y (by dsimp only at hk; omega)⟩
    | ⟨22, _⟩ => exact ⟨(biasL E)[9], List.getElem_mem _, mem_piece 176 inb_S256x768_S8x768_176_0 y (by dsimp only at hk; omega)⟩
    | ⟨23, _⟩ => exact ⟨(biasL E)[8], List.getElem_mem _, mem_piece 184 inb_S256x768_S8x768_184_0 y (by dsimp only at hk; omega)⟩
    | ⟨24, _⟩ => exact ⟨(biasL E)[7], List.getElem_mem _, mem_piece 192 inb_S256x768_S8x768_192_0 y (by dsimp only at hk; omega)⟩
    | ⟨25, _⟩ => exact ⟨(biasL E)[6], List.getElem_mem _, mem_piece 200 inb_S256x768_S8x768_200_0 y (by dsimp only at hk; omega)⟩
    | ⟨26, _⟩ => exact ⟨(biasL E)[5], List.getElem_mem _, mem_piece 208 inb_S256x768_S8x768_208_0 y (by dsimp only at hk; omega)⟩
    | ⟨27, _⟩ => exact ⟨(biasL E)[4], List.getElem_mem _, mem_piece 216 inb_S256x768_S8x768_216_0 y (by dsimp only at hk; omega)⟩
    | ⟨28, _⟩ => exact ⟨(biasL E)[3], List.getElem_mem _, mem_piece 224 inb_S256x768_S8x768_224_0 y (by dsimp only at hk; omega)⟩
    | ⟨29, _⟩ => exact ⟨(biasL E)[2], List.getElem_mem _, mem_piece 232 inb_S256x768_S8x768_232_0 y (by dsimp only at hk; omega)⟩
    | ⟨30, _⟩ => exact ⟨(biasL E)[1], List.getElem_mem _, mem_piece 240 inb_S256x768_S8x768_240_0 y (by dsimp only at hk; omega)⟩
    | ⟨31, _⟩ => exact ⟨(biasL E)[0], List.getElem_mem _, mem_piece 248 inb_S256x768_S8x768_248_0 y (by dsimp only at hk; omega)⟩
    | ⟨n + 32, h⟩ => exact absurd h (by omega)

end Cert.Band.St

end
-- ==== Proof.Acc.lean ====
/- THE SUMS OVER THE BLOCKS OF QUERIES as the kernel builds them: block after block, each block's part laid in its
   window of the padded sequence. -/
module

public import proofs.«01_k».proof.Proof.Alg

@[expose] public section

noncomputable section

namespace Cert.Band

/-- A function of the key on the padded sequence: 512 zeros, then the 2048 keys. -/
def pad (f : Fin 2048 → ℝ) (p : Fin 2560) : ℝ := if h : 512 ≤ p.val then f ⟨p - 512, by omega⟩ else 0

theorem pad_win (f : Fin 2048 → ℝ) (i : Fin 8) (w : Fin 768) (p : Fin 2560) (hp : p.val = 256 * i.val + w.val) : pad f p = win i f w := by
  unfold pad win
  simp only [hp]

/-- The sum of the first `n` blocks' parts. -/
def upto (g : Fin 8 → ℝ) (n : ℕ) : ℝ := ∑ j ∈ Finset.range n, if h : j < 8 then g ⟨j, h⟩ else 0

theorem upto_zero (g : Fin 8 → ℝ) : upto g 0 = 0 := Finset.sum_range_zero _

theorem upto_succ (g : Fin 8 → ℝ) (i : Fin 8) : upto g (i.val + 1) = upto g i.val + g i := by
  unfold upto
  rw [Finset.sum_range_succ, dif_pos i.isLt]

theorem upto_eight (g : Fin 8 → ℝ) : upto g 8 = ∑ i, g i := by
  unfold upto
  rw [Finset.sum_range]
  exact Finset.sum_congr rfl fun i _ => dif_pos i.isLt

/-- In the window the block's part is added; -/
theorem pad_upto_in (F : Fin 8 → Fin 2048 → ℝ) (i : Fin 8) (w : Fin 768) (p : Fin 2560) (hp : p.val = 256 * i.val + w.val) :
    pad (fun s => upto (F · s) i.val) p + win i (F i) w = pad (fun s => upto (F · s) (i.val + 1)) p := by
  rw [← pad_win (F i) i w p hp]
  unfold pad
  split
  · exact (upto_succ _ i).symm
  · exact add_zero 0

/-- outside it the part is zero. -/
theorem pad_upto_out (F : Fin 8 → Fin 2048 → ℝ) (i : Fin 8) (p : Fin 2560) (hp : p.val < 256 * i.val ∨ 256 * i.val + 768 ≤ p.val)
    (hF : ∀ s : Fin 2048, (s.val + 512 < 256 * i.val ∨ 256 * i.val + 768 ≤ s.val + 512) → F i s = 0) :
    pad (fun s => upto (F · s) i.val) p = pad (fun s => upto (F · s) (i.val + 1)) p := by
  unfold pad
  split
  · rename_i h
    refine (Eq.trans (upto_succ _ i) ?_).symm
    rw [hF _ (by dsimp only; omega), add_zero]
  · rfl

theorem pad_zero (F : Fin 8 → Fin 2048 → ℝ) (p : Fin 2560) : pad (fun s => upto (F · s) 0) p = 0 := by
  unfold pad
  split
  · exact upto_zero _
  · rfl

theorem win_sum_mul (i : Fin 8) (w : Fin 768) (f : Fin 256 → Fin 2048 → ℝ) (g : Fin 256 → ℝ) :
    ∑ r, win i (f r) w * g r = win i (fun s => ∑ r, f r s * g r) w := by
  unfold win
  split
  · rfl
  · simp

/-- Nothing outside a block's window is visible to the block. -/
theorem not_vis (i : Fin 8) (r : Fin 256) (s : Fin 2048) (h : s.val + 512 < 256 * i.val ∨ 256 * i.val + 768 ≤ s.val + 512) :
    ¬ Vis (qrow i r) s := by
  intro hv
  simp only [Vis, qrow] at hv
  omega

namespace Head

variable (H : Head)

/-- Block `i`'s part of the gradients of the normed keys, of the values, and of the query gain. -/
def partK (e : Fin 128) (i : Fin 8) (s : Fin 2048) : ℝ := ∑ r, (H.ds (qrow i r) s * sc) * H.qn (qrow i r) e
def partV (e : Fin 128) (i : Fin 8) (s : Fin 2048) : ℝ := ∑ r, H.prob (qrow i r) s * H.dy (qrow i r) e
def partG (e : Fin 128) (i : Fin 8) : ℝ := ∑ r, H.dqn (qrow i r) e * hat H.q (qrow i r) e

theorem partK_off (e : Fin 128) (i : Fin 8) (s : Fin 2048) (h : s.val + 512 < 256 * i.val ∨ 256 * i.val + 768 ≤ s.val + 512) :
    H.partK e i s = 0 :=
  Finset.sum_eq_zero fun r _ => by rw [H.ds_off (not_vis i r s h), zero_mul, zero_mul]

theorem partV_off (e : Fin 128) (i : Fin 8) (s : Fin 2048) (h : s.val + 512 < 256 * i.val ∨ 256 * i.val + 768 ≤ s.val + 512) :
    H.partV e i s = 0 :=
  Finset.sum_eq_zero fun r _ => by rw [H.prob_off (not_vis i r s h), zero_mul]

theorem partK_all (e : Fin 128) (s : Fin 2048) : upto (H.partK e · s) 8 = H.dkn s e :=
  (upto_eight _).trans (sum_blocks fun t => (H.ds t s * sc) * H.qn t e)

theorem partV_all (e : Fin 128) (s : Fin 2048) : upto (H.partV e · s) 8 = H.dv s e :=
  (upto_eight _).trans (sum_blocks fun t => H.prob t s * H.dy t e)

theorem partG_all (e : Fin 128) : upto (H.partG e) 8 = dgain H.q H.dqn e :=
  (upto_eight _).trans (sum_blocks fun t => H.dqn t e * hat H.q t e)

end Head

end Cert.Band

end
-- ==== Proof.State.lean ====
/- THE STATE BETWEEN GRID POINTS. A head's eight blocks run one after another; `Inv H n` says what the scratches hold
   after `n` of them: the padded normed keys and values, the bias of a block, and the first `n` blocks' parts of the
   gradients. -/
module

public import proofs.«01_k».proof.Proof.Bias
public import proofs.«01_k».proof.Proof.Acc
public import Idealize.ShloMosaic.Lib.WritesUnit

@[expose] public section

set_option maxRecDepth 16384

noncomputable section

namespace Cert.Band.St

open Cert.KernelIdeal Cert.KernelIdeal.Gen Idealize.ShloMosaic Idealize.ShloMosaic.TcCoe Idealize.SL.Sem

/-! ## Reading a store of whole rows -/

section Rows
variable {e : EltTy} {off size : Fin 2 → ℕ} {o W : ℕ} (inb : ∀ a : Fin 2, off a + size a ≤ S2560x128.size a)
  (w : (Rect.unit (s := S2560x128) off size inb).shape.Idx → Elt Ideal e) (L : List (View.Piece (Elt Ideal) S2560x128 e)) (y : S2560x128.Idx)

theorem canon_rows_in (hoff : off = ![o, 0]) (x : (Rect.unit (s := S2560x128) off size inb).shape.Idx)
    (hx0 : (y 0).val = o + (x 0).val) (hx1 : (y 1).val = (x 1).val) :
    View.canon (⟨Rect.unit (s := S2560x128) off size inb, w⟩ :: L) y = w x := by
  subst hoff
  have hy : (Rect.unit (s := S2560x128) ![o, 0] size inb).emb x = y := by
    funext a
    apply Fin.ext
    match a with
    | ⟨0, _⟩ => exact (show o + 1 * (x 0).val = (y 0).val by omega)
    | ⟨1, _⟩ => exact (show 0 + 1 * (x 1).val = (y 1).val by omega)
  rw [← hy]
  exact View.canon_cons_emb _ _ _ _

theorem canon_rows_out (hoff : off = ![o, 0]) (hW : size 0 = W) (h : (y 0).val < o ∨ o + W ≤ (y 0).val) :
    View.canon (⟨Rect.unit (s := S2560x128) off size inb, w⟩ :: L) y = View.canon L y := by
  subst hoff hW
  refine View.canon_cons_of_not_mem _ _ fun hm => ?_
  have h1 : o ≤ (y 0).val ∧ (y 0).val < o + size 0 := (Rect.mem_set_unit (inb := inb)).1 hm 0
  omega

end Rows

variable (m : (ℓ : Loc nD τ sig) → Buf (Elt Ideal) ℓ) (c : Dev nD)

theorem rows768_at {e : EltTy} (t : Fin cfg0.N) (x : Vec Ideal S2560x128 e) (w : Fin 768) (l : Fin 128) (p : Fin 2560)
    (hp : p.val = 256 * (t.val % 8) + w.val) : rows768 t x (ix2 w l) = x (ix2 p l) := by
  refine View.ld_unit_apply_of x _ _ _ _ _ fun a => ?_
  have h := off1 t
  match a with
  | ⟨0, _⟩ => exact (show p.val = k0_off1 (grid0.coords t) 0 + w.val by rw [h]; exact hp)
  | ⟨1, _⟩ => exact (show l.val = k0_off1 (grid0.coords t) 1 + l.val by rw [h]; exact (Nat.zero_add _).symm)

theorem put4_in (t : Fin cfg0.N) (x : Vec Ideal S2560x128 .f32) (v : Vec Ideal S768x128 .f32) (w : Fin 768) (l : Fin 128) (p : Fin 2560)
    (hp : p.val = 256 * (t.val % 8) + w.val) : put4 t x v (ix2 p l) = v (ix2 w l) :=
  View.read_writes_cons_rows_of_mem _ _ _ v [] (ix2 p l) (ix2 w l) (off1 t) hp rfl

theorem put4_out (t : Fin cfg0.N) (x : Vec Ideal S2560x128 .f32) (v : Vec Ideal S768x128 .f32) (l : Fin 128) (p : Fin 2560)
    (hp : p.val < 256 * (t.val % 8) ∨ 256 * (t.val % 8) + 768 ≤ p.val) : put4 t x v (ix2 p l) = x (ix2 p l) :=
  (View.read_writes_cons_rows_of_not_mem (W := 768) _ _ _ v [] (ix2 p l) (off1 t) rfl hp).trans
    (by rw [View.writes_nil]; exact congrFun (read_unread_whole (Val := Elt Ideal) cc0_scratch4 (Memref.isWhole_whole _) x) _)

theorem put5_in (t : Fin cfg0.N) (x : Vec Ideal S2560x128 .f32) (v : Vec Ideal S768x128 .f32) (w : Fin 768) (l : Fin 128) (p : Fin 2560)
    (hp : p.val = 256 * (t.val % 8) + w.val) : put5 t x v (ix2 p l) = v (ix2 w l) :=
  View.read_writes_cons_rows_of_mem _ _ _ v [] (ix2 p l) (ix2 w l) (off1 t) hp rfl

theorem put5_out (t : Fin cfg0.N) (x : Vec Ideal S2560x128 .f32) (v : Vec Ideal S768x128 .f32) (l : Fin 128) (p : Fin 2560)
    (hp : p.val < 256 * (t.val % 8) ∨ 256 * (t.val % 8) + 768 ≤ p.val) : put5 t x v (ix2 p l) = x (ix2 p l) :=
  (View.read_writes_cons_rows_of_not_mem (W := 768) _ _ _ v [] (ix2 p l) (off1 t) rfl hp).trans
    (by rw [View.writes_nil]; exact congrFun (read_unread_whole (Val := Elt Ideal) cc0_scratch5 (Memref.isWhole_whole _) x) _)

/-! ## The invariant -/

/-- The three scratches a head keeps through its blocks. -/
structure Kept (H : Head) (s0 s1 : Vec Ideal S2560x128 .bf16) (s2 : Vec Ideal S256x768 .f32) : Prop where
  i0 : ∀ p e, s0 (ix2 p e) = (pad (H.kn · e) p : EReal)
  i1 : ∀ p e, s1 (ix2 p e) = (pad (H.v · e) p : EReal)
  i2 : ∀ (r : Fin 256) (w : Fin 768), s2 (ix2 r w) = (H.b (rel (512 + r.val) w) : EReal)

/-- The three sums after `n` blocks. -/
structure Sums (H : Head) (n : ℕ) (s4 s5 : Vec Ideal S2560x128 .f32) (o10 : Vec Ideal S1x1x128 .f32) : Prop where
  i4 : ∀ p e, s4 (ix2 p e) = (pad (fun s => upto (H.partK e · s) n) p : EReal)
  i5 : ∀ p e, s5 (ix2 p e) = (pad (fun s => upto (H.partV e · s) n) p : EReal)
  i10 : ∀ a b e, o10 (ix3 a b e) = (upto (H.partG e) n : EReal)

section
variable {m c} {X : Fin 2048 → Fin 8192 → ℝ} {D : Fin 2048 → Fin 1024 → ℝ} {GQ GK : Fin 128 → ℝ} {B : Fin 8 → Fin 320 → ℝ}
  (A : Args m c X D GQ GK B) (h i : Fin 8) (t : Fin cfg0.N) (ht : t.val = 8 * h.val + i.val)
  {s0 s1 : Vec Ideal S2560x128 .bf16} {s2 : Vec Ideal S256x768 .f32}

include A ht

/-- With the kept scratches a grid point's block is the head's block. -/
theorem blk (K : Kept (headOf X D GQ GK B h) s0 s1 s2) :
    Blk (headOf X D GQ GK B h) i (iblk m c 0 t) (iblk m c 4 t) (rows768 t s0) (rows768 t s1) s2 (iblk m c 3 t) where
  hq r e := blk0 A h i t ht r e
  hg l e := blk4 A h t l e
  hk w e := by
    rw [rows768_at t s0 w e ⟨256 * i.val + w.val, by omega⟩ (by dsimp only; omega), K.i0]
    rfl
  hv w e := by
    rw [rows768_at t s1 w e ⟨256 * i.val + w.val, by omega⟩ (by dsimp only; omega), K.i1]
    rfl
  hb r w := K.i2 r w
  hd r e := blk3 A h i t ht r e

theorem wrd_eq : wrd t = k0_pay66 (BitVec.ofNat 32 i.val) := by
  have : (grid0.coords t 1).val = i.val := (arg1 t).trans (by omega)
  unfold wrd
  rw [this]

/-- The new rows of the key gradient. -/
theorem n4_at (K : Kept (headOf X D GQ GK B h) s0 s1 s2) {a : Vec Ideal S768x128 .f32} {P : Fin 768 → Fin 128 → ℝ}
    (ha : ∀ w e, a (ix2 w e) = (P w e : EReal)) (w : Fin 768) (e : Fin 128) :
    n4 m c t s0 s1 s2 a (ix2 w e) = ((P w e + win i ((headOf X D GQ GK B h).partK e i) w : ℝ) : EReal) := by
  have := (blk A h i t ht K).dkn ha w e
  rw [win_sum_mul] at this
  rw [← wrd_eq A h i t ht] at this
  exact this

/-- The new rows of the value gradient. -/
theorem n5_at (K : Kept (headOf X D GQ GK B h) s0 s1 s2) {a : Vec Ideal S768x128 .f32} {P : Fin 768 → Fin 128 → ℝ}
    (ha : ∀ w e, a (ix2 w e) = (P w e : EReal)) (w : Fin 768) (e : Fin 128) :
    n5 m c t s0 s2 a (ix2 w e) = ((P w e + win i ((headOf X D GQ GK B h).partV e i) w : ℝ) : EReal) := by
  have := (blk A h i t ht K).dv ha w e
  rw [win_sum_mul] at this
  rw [← wrd_eq A h i t ht] at this
  exact this

/-- The block of the query gradient. -/
theorem n7_at (K : Kept (headOf X D GQ GK B h) s0 s1 s2) (r : Fin 256) (e : Fin 128) :
    n7 m c t s0 s1 s2 (ix2 r e) = (back (headOf X D GQ GK B h).q (headOf X D GQ GK B h).gq (headOf X D GQ GK B h).dqn (qrow i r) e : EReal) := by
  have := (blk A h i t ht K).dq r e
  rw [← wrd_eq A h i t ht] at this
  exact this

/-- The new query gain gradient. -/
theorem n10_at (K : Kept (headOf X D GQ GK B h) s0 s1 s2) {a : Vec Ideal S1x1x128 .f32} {n : Fin 128 → ℝ}
    (ha : ∀ l l' e, a (ix3 l l' e) = (n e : EReal)) (l l' : Fin 1) (e : Fin 128) :
    n10 m c t s0 s1 s2 a (ix3 l l' e) = ((n e + (headOf X D GQ GK B h).partG e i : ℝ) : EReal) := by
  have := (blk A h i t ht K).dqg ha l l' e
  rw [← wrd_eq A h i t ht] at this
  exact this

/-- The sums after one block more. -/
theorem sums_step (K : Kept (headOf X D GQ GK B h) s0 s1 s2) {s4 s5 : Vec Ideal S2560x128 .f32} {o10 : Vec Ideal S1x1x128 .f32}
    (S : Sums (headOf X D GQ GK B h) i.val s4 s5 o10) {s4' s5' : Vec Ideal S2560x128 .f32}
    (h4i : ∀ (w : Fin 768) (e : Fin 128) (p : Fin 2560), p.val = 256 * (t.val % 8) + w.val → s4' (ix2 p e) = n4 m c t s0 s1 s2 (rows768 t s4) (ix2 w e))
    (h4o : ∀ (e : Fin 128) (p : Fin 2560), (p.val < 256 * (t.val % 8) ∨ 256 * (t.val % 8) + 768 ≤ p.val) → s4' (ix2 p e) = s4 (ix2 p e))
    (h5i : ∀ (w : Fin 768) (e : Fin 128) (p : Fin 2560), p.val = 256 * (t.val % 8) + w.val → s5' (ix2 p e) = n5 m c t s0 s2 (rows768 t s5) (ix2 w e))
    (h5o : ∀ (e : Fin 128) (p : Fin 2560), (p.val < 256 * (t.val % 8) ∨ 256 * (t.val % 8) + 768 ≤ p.val) → s5' (ix2 p e) = s5 (ix2 p e)) :
    Sums (headOf X D GQ GK B h) (i.val + 1) s4' s5' (n10 m c t s0 s1 s2 o10) where
  i4 p e := by
    by_cases hp : 256 * i.val ≤ p.val ∧ p.val < 256 * i.val + 768
    · have hw : p.val = 256 * i.val + (⟨p.val - 256 * i.val, by omega⟩ : Fin 768).val := by dsimp only; omega
      rw [h4i ⟨p.val - 256 * i.val, by omega⟩ e p (by dsimp only; omega), ← pad_upto_in _ i _ p hw]
      rw [pad_win _ i _ p hw]
      refine n4_at A h i t ht K (P := fun w e => win i (fun s => upto ((headOf X D GQ GK B h).partK e · s) i.val) w) (fun w e => ?_) _ e
      rw [rows768_at t s4 w e ⟨256 * i.val + w.val, by omega⟩ (by dsimp only; omega), S.i4, pad_win _ i w _ rfl]
    · rw [h4o e p (by omega), S.i4, pad_upto_out _ i p (by omega) fun s hs => (headOf X D GQ GK B h).partK_off e i s hs]
  i5 p e := by
    by_cases hp : 256 * i.val ≤ p.val ∧ p.val < 256 * i.val + 768
    · have hw : p.val = 256 * i.val + (⟨p.val - 256 * i.val, by omega⟩ : Fin 768).val := by dsimp only; omega
      rw [h5i ⟨p.val - 256 * i.val, by omega⟩ e p (by dsimp only; omega), ← pad_upto_in _ i _ p hw]
      rw [pad_win _ i _ p hw]
      refine n5_at A h i t ht K (P := fun w e => win i (fun s => upto ((headOf X D GQ GK B h).partV e · s) i.val) w) (fun w e => ?_) _ e
      rw [rows768_at t s5 w e ⟨256 * i.val + w.val, by omega⟩ (by dsimp only; omega), S.i5, pad_win _ i w _ rfl]
    · rw [h5o e p (by omega), S.i5, pad_upto_out _ i p (by omega) fun s hs => (headOf X D GQ GK B h).partV_off e i s hs]
  i10 a b e := by
    rw [n10_at A h i t ht K (n := fun e => upto ((headOf X D GQ GK B h).partG e) i.val) (fun l l' e => S.i10 l l' e), upto_succ]

end

end Cert.Band.St

end
-- ==== Proof.Points.lean ====
/- AFTER EACH GRID POINT: the invariant of State.lean holds after every block of every head, by induction over the
   head's blocks, and the outputs a point leaves are the gradients of Spec.lean. -/
module

public import proofs.«01_k».proof.Proof.State

@[expose] public section

set_option maxRecDepth 16384

noncomputable section

namespace Cert.Band.St

open Cert.KernelIdeal Cert.KernelIdeal.Gen Idealize.ShloMosaic Idealize.ShloMosaic.TcCoe Idealize.SL.Sem

theorem pay2_at (r : Fin 512) (e : Fin 128) : k0_pay2 (F := Ideal) (ix2 r e) = ((0 : ℝ) : EReal) := by
  pointwise [k0_pay2]
  exact EReal.coe_zero.symm
theorem pay4_at (r : Fin 512) (e : Fin 128) : k0_pay4 (F := Ideal) (ix2 r e) = ((0 : ℝ) : EReal) := by
  pointwise [k0_pay4]
  exact EReal.coe_zero.symm
theorem pay44_at (r : Fin 2560) (e : Fin 128) : k0_pay44 (F := Ideal) (ix2 r e) = ((0 : ℝ) : EReal) := by
  pointwise [k0_pay44]
  exact EReal.coe_zero.symm
theorem pay45_at (r : Fin 2560) (e : Fin 128) : k0_pay45 (F := Ideal) (ix2 r e) = ((0 : ℝ) : EReal) := by
  pointwise [k0_pay45]
  exact EReal.coe_zero.symm
theorem pay57_at (a b : Fin 1) (e : Fin 128) : k0_pay57 (F := Ideal) (ix3 a b e) = ((0 : ℝ) : EReal) := by
  pointwise [k0_pay57]
  exact EReal.coe_zero.symm
theorem pay6_at (x : Vec Ideal S1x1x1024 .f32) (l : Fin 1) (a : Fin 1024) : k0_pay6 x (ix2 l a) = x (ix3 0 0 a) := by
  pointwise [k0_pay6]

variable {m : (ℓ : Loc nD τ sig) → Buf (Elt Ideal) ℓ} {c : Dev nD}
variable {X : Fin 2048 → Fin 8192 → ℝ} {D : Fin 2048 → Fin 1024 → ℝ} {GQ GK : Fin 128 → ℝ} {B : Fin 8 → Fin 320 → ℝ}
  (A : Args m c X D GQ GK B) (h : Fin 8)

include A

/-- The kept scratches at a head's first block. -/
theorem kept_first (t : Fin cfg0.N) (ht : t.val = 8 * h.val + (0 : Fin 8).val) : Kept (headOf X D GQ GK B h) (f0 m c t) (f1 m c t) (f2 m c t) where
  i0 p e := by
    unfold f0 pad
    split
    · rename_i hp
      refine (canon_rows_in _ _ _ (ix2 p e) rfl (ix2 (⟨p.val - 512, by omega⟩ : Fin 2048) e) ?_ rfl).trans ?_
      · show p.val = 512 + (p.val - 512); omega
      · exact pay3_real (blk1 A h 0 t ht) (fun l e => blk5 A h t l e) _ _
    · rename_i hp
      refine (canon_rows_out (W := 2048) _ _ _ (ix2 p e) rfl rfl (Or.inl (by show p.val < 512; omega))).trans ?_
      refine (canon_rows_in _ _ _ (ix2 p e) rfl (ix2 (⟨p.val, by omega⟩ : Fin 512) e) ?_ rfl).trans ?_
      · exact (Nat.zero_add _).symm
      · exact pay2_at _ _
  i1 p e := by
    unfold f1 pad
    split
    · rename_i hp
      refine (canon_rows_in _ _ _ (ix2 p e) rfl (ix2 (⟨p.val - 512, by omega⟩ : Fin 2048) e) ?_ rfl).trans ?_
      · show p.val = 512 + (p.val - 512); omega
      · exact pay5_real (blk2 A h 0 t ht) _ _
    · rename_i hp
      refine (canon_rows_out (W := 2048) _ _ _ (ix2 p e) rfl rfl (Or.inl (by show p.val < 512; omega))).trans ?_
      refine (canon_rows_in _ _ _ (ix2 p e) rfl (ix2 (⟨p.val, by omega⟩ : Fin 512) e) ?_ rfl).trans ?_
      · exact (Nat.zero_add _).symm
      · exact pay4_at _ _
  i2 r w := by
    unfold f2
    refine (bias_at _ _).trans ?_
    unfold biasAt
    refine (pay6_at _ _ _).trans ?_
    refine (blk6 A h 0 t ht _ _ _).trans ?_
    rw [extIdx_rel r w _ rfl]

/-- After the point of block `n` of head `h` the invariant holds for `n + 1` blocks. -/
theorem inv (n : ℕ) (hn : n < 8) : ∀ (t : Fin cfg0.N), t.val = 8 * h.val + n →
    Kept (headOf X D GQ GK B h) (outsAt0 m c t.val t.isLt).2.2.2.2.2.2.1 (outsAt0 m c t.val t.isLt).2.2.2.2.2.2.2.1 (outsAt0 m c t.val t.isLt).2.2.2.2.2.2.2.2.1
    ∧ Sums (headOf X D GQ GK B h) (n + 1) (outsAt0 m c t.val t.isLt).2.2.2.2.2.2.2.2.2.2.1 (outsAt0 m c t.val t.isLt).2.2.2.2.2.2.2.2.2.2.2 (outsAt0 m c t.val t.isLt).2.2.2.1 := by
  induction n with
  | zero =>
    intro t ht
    have h0 : t.val % 8 = 0 := by omega
    have h1 : ¬t.val % 8 = 7 := by omega
    have K := kept_first A h t ht
    rw [first_s0 m c t h0 h1, first_s1 m c t h0 h1, first_s2 m c t h0 h1, first_s4 m c t h0 h1, first_s5 m c t h0 h1, first_o10 m c t h0 h1]
    refine ⟨K, ?_⟩
    refine sums_step A h 0 t ht K (s4 := k0_pay44 (F := Ideal)) (s5 := k0_pay45 (F := Ideal)) (o10 := k0_pay57 (F := Ideal)) ⟨?_, ?_, ?_⟩ ?_ ?_ ?_ ?_
    · intro p e
      rw [pay44_at, show (0 : Fin 8).val = 0 from rfl]
      simp only [upto_zero]
      exact congrArg Real.toEReal (pad_zero (fun j s => (headOf X D GQ GK B h).partK e j s) p).symm
    · intro p e
      rw [pay45_at, show (0 : Fin 8).val = 0 from rfl]
      simp only [upto_zero]
      exact congrArg Real.toEReal (pad_zero (fun j s => (headOf X D GQ GK B h).partK e j s) p).symm
    · intro a b e
      rw [pay57_at, show (0 : Fin 8).val = 0 from rfl, upto_zero]
    · intro w e p hp
      exact canon_rows_in _ _ _ (ix2 p e) (off1 t) (ix2 w e) hp rfl
    · intro e p hp
      refine (canon_rows_out (W := 768) _ _ _ (ix2 p e) (off1 t) rfl hp).trans ?_
      exact canon_rows_in _ _ _ (ix2 p e) rfl (ix2 p e) (Nat.zero_add _).symm rfl
    · intro w e p hp
      exact canon_rows_in _ _ _ (ix2 p e) (off1 t) (ix2 w e) hp rfl
    · intro e p hp
      refine (canon_rows_out (W := 768) _ _ _ (ix2 p e) (off1 t) rfl hp).trans ?_
      exact canon_rows_in _ _ _ (ix2 p e) rfl (ix2 p e) (Nat.zero_add _).symm rfl
  | succ n ih =>
    intro t ht
    have h0 : ¬t.val % 8 = 0 := by omega
    obtain ⟨K, S⟩ := ih (by omega) ⟨t.val - 1, by omega⟩ (by dsimp only; omega)
    have ht' : t.val = 8 * h.val + (⟨n + 1, hn⟩ : Fin 8).val := ht
    by_cases h1 : t.val % 8 = 7
    · rw [last_s0 m c t h0 h1, last_s1 m c t h0 h1, last_s2 m c t h0 h1, last_s4 m c t h0 h1, last_s5 m c t h0 h1, last_o10 m c t h0 h1]
      refine ⟨K, ?_⟩
      exact sums_step A h ⟨n + 1, hn⟩ t ht' K S (fun w e p hp => put4_in t _ _ w e p hp) (fun e p hp => put4_out t _ _ e p hp)
        (fun w e p hp => put5_in t _ _ w e p hp) (fun e p hp => put5_out t _ _ e p hp)
    · rw [mid_s0 m c t h0 h1, mid_s1 m c t h0 h1, mid_s2 m c t h0 h1, mid_s4 m c t h0 h1, mid_s5 m c t h0 h1, mid_o10 m c t h0 h1]
      refine ⟨K, ?_⟩
      exact sums_step A h ⟨n + 1, hn⟩ t ht' K S (fun w e p hp => put4_in t _ _ w e p hp) (fun e p hp => put4_out t _ _ e p hp)
        (fun w e p hp => put5_in t _ _ w e p hp) (fun e p hp => put5_out t _ _ e p hp)

/-- The query gradient's block a point leaves. -/
theorem o7_at (i : Fin 8) (t : Fin cfg0.N) (ht : t.val = 8 * h.val + i.val) (r : Fin 256) (e : Fin 128) :
    (show Vec Ideal S256x128 .bf16 from (outsAt0 m c t.val t.isLt).1) (ix2 r e)
      = (back (headOf X D GQ GK B h).q (headOf X D GQ GK B h).gq (headOf X D GQ GK B h).dqn (qrow i r) e : EReal) := by
  obtain ⟨K, -⟩ := inv A h i.val i.isLt t ht
  by_cases h0 : t.val % 8 = 0
  · have h1 : ¬t.val % 8 = 7 := by omega
    rw [first_s0 m c t h0 h1, first_s1 m c t h0 h1, first_s2 m c t h0 h1] at K
    rw [first_o7 m c t h0 h1]
    exact n7_at A h i t ht K r e
  · by_cases h1 : t.val % 8 = 7
    · rw [last_s0 m c t h0 h1, last_s1 m c t h0 h1, last_s2 m c t h0 h1] at K
      rw [last_o7 m c t h0 h1]
      exact n7_at A h i t ht K r e
    · rw [mid_s0 m c t h0 h1, mid_s1 m c t h0 h1, mid_s2 m c t h0 h1] at K
      rw [mid_o7 m c t h0 h1]
      exact n7_at A h i t ht K r e

section Last
variable (t : Fin cfg0.N) (ht : t.val = 8 * h.val + 7)
include ht

/-- The rows of the key gradient after a head's last block. -/
theorem keys_at (r : Fin 2048) (e : Fin 128) :
    (View.ld (outsAt0 m c t.val t.isLt).2.2.2.2.2.2.2.2.2.2.1 (Rect.unit (s := S2560x128) ![512, 0] S2048x128.size inb_S2560x128_S2048x128_512_0) : Vec Ideal S2048x128 .f32) (ix2 r e)
      = ((headOf X D GQ GK B h).dkn r e : EReal) := by
  obtain ⟨-, S⟩ := inv A h 7 (by omega) t ht
  refine (View.ld_unit_apply_of _ _ _ _ _ (ix2 (⟨512 + r.val, by omega⟩ : Fin 2560) e) fun a => ?_).trans ?_
  · match a with
    | ⟨0, _⟩ => rfl
    | ⟨1, _⟩ => exact (Nat.zero_add _).symm
  · refine (S.i4 _ _).trans ?_
    unfold pad
    rw [dif_pos (by dsimp only; omega)]
    refine (congrArg _ ((headOf X D GQ GK B h).partK_all e _)).trans ?_
    simp only [Nat.add_sub_cancel_left]

theorem vals_at (r : Fin 2048) (e : Fin 128) :
    (View.ld (outsAt0 m c t.val t.isLt).2.2.2.2.2.2.2.2.2.2.2 (Rect.unit (s := S2560x128) ![512, 0] S2048x128.size inb_S2560x128_S2048x128_512_0) : Vec Ideal S2048x128 .f32) (ix2 r e)
      = ((headOf X D GQ GK B h).dv r e : EReal) := by
  obtain ⟨-, S⟩ := inv A h 7 (by omega) t ht
  refine (View.ld_unit_apply_of _ _ _ _ _ (ix2 (⟨512 + r.val, by omega⟩ : Fin 2560) e) fun a => ?_).trans ?_
  · match a with
    | ⟨0, _⟩ => rfl
    | ⟨1, _⟩ => exact (Nat.zero_add _).symm
  · refine (S.i5 _ _).trans ?_
    unfold pad
    rw [dif_pos (by dsimp only; omega)]
    refine (congrArg _ ((headOf X D GQ GK B h).partV_all e _)).trans ?_
    simp only [Nat.add_sub_cancel_left]

theorem o8_at (r : Fin 2048) (e : Fin 128) :
    (show Vec Ideal S2048x128 .bf16 from (outsAt0 m c t.val t.isLt).2.1) (ix2 r e)
      = (back (headOf X D GQ GK B h).k (headOf X D GQ GK B h).gk (headOf X D GQ GK B h).dkn r e : EReal) := by
  rw [last_o8 m c t (by omega) (by omega)]
  exact pay48_real (blk1 A h 7 t ht) (keys_at A h t ht) (fun l e => blk5 A h t l e) r e

theorem o9_at (r : Fin 2048) (e : Fin 128) :
    (show Vec Ideal S2048x128 .bf16 from (outsAt0 m c t.val t.isLt).2.2.1) (ix2 r e) = ((headOf X D GQ GK B h).dv r e : EReal) := by
  rw [last_o9 m c t (by omega) (by omega)]
  exact pay50_real (vals_at A h t ht) r e

theorem o10_at (a b : Fin 1) (e : Fin 128) :
    (show Vec Ideal S1x1x128 .f32 from (outsAt0 m c t.val t.isLt).2.2.2.1) (ix3 a b e)
      = (dgain (headOf X D GQ GK B h).q (headOf X D GQ GK B h).dqn e : EReal) := by
  obtain ⟨-, S⟩ := inv A h 7 (by omega) t ht
  exact (S.i10 a b e).trans (congrArg _ ((headOf X D GQ GK B h).partG_all e))

theorem o11_at (a b : Fin 1) (e : Fin 128) :
    (show Vec Ideal S1x1x128 .f32 from (outsAt0 m c t.val t.isLt).2.2.2.2.1) (ix3 a b e)
      = (dgain (headOf X D GQ GK B h).k (headOf X D GQ GK B h).dkn e : EReal) := by
  rw [last_o11 m c t (by omega) (by omega)]
  exact pay49_real (blk1 A h 7 t ht) (keys_at A h t ht) a b e

end Last

end Cert.Band.St

end
-- ==== Proof.Results.lean ====
/- THE KERNEL'S FIVE RESULT ARRAYS: each element is the gradient of Spec.lean at its head, row and feature. -/
module

public import proofs.«01_k».proof.Proof.Points

@[expose] public section

set_option maxRecDepth 16384

noncomputable section

namespace Cert.Band.St

open Cert.KernelIdeal Cert.KernelIdeal.Gen Cert.KernelIdeal.Value Idealize.ShloMosaic Idealize.ShloMosaic.TcCoe Idealize.SL.Sem

variable {m : (ℓ : Loc nD τ sig) → Buf (Elt Ideal) ℓ} {c : Dev nD}
variable {X : Fin 2048 → Fin 8192 → ℝ} {D : Fin 2048 → Fin 1024 → ℝ} {GQ GK : Fin 128 → ℝ} {B : Fin 8 → Fin 320 → ℝ}
  (A : Args m c X D GQ GK B) (h : Fin 8)

include A

theorem G7_at (t : Fin 2048) (e : Fin 128) :
    (show Vec Ideal S2048x1024 .bf16 from G7 m c) (ix2 t ⟨h * 128 + e, by omega⟩)
      = (back (headOf X D GQ GK B h).q (headOf X D GQ GK B h).gq (headOf X D GQ GK B h).dqn t e : EReal) := by
  have hp : pt7Of (ix2 t ⟨h * 128 + e, by omega⟩) = 8 * h.val + t.val / 256 := by
    show 1 * (t.val / 256 - 0) + 8 * ((h.val * 128 + e.val) / 128 - 0) = _
    omega
  have hN : 8 * h.val + t.val / 256 < cfg0.N := lt_of_lt_of_eq (by omega) N_0.symm
  have hl : loc7Of (ix2 t ⟨h * 128 + e, by omega⟩) = ix2 (⟨t.val % 256, Nat.mod_lt _ (by norm_num)⟩ : Fin 256) e := by
    funext a
    match a with
    | ⟨0, _⟩ => rfl
    | ⟨1, _⟩ => exact Fin.ext (show (h.val * 128 + e.val) % 128 = e.val by omega)
  show G7 m c (ix2 t ⟨h * 128 + e, by omega⟩) = _
  unfold G7
  rw [dif_pos (by rw [hp]; exact hN), ← outsAt0_sweep m c _ (by rw [hp]; exact hN), hl]
  simp only [hp]
  refine (o7_at A h ⟨t.val / 256, by omega⟩ ⟨8 * h.val + t.val / 256, hN⟩ rfl _ e).trans ?_
  have hq : qrow ⟨t.val / 256, by omega⟩ (⟨t.val % 256, Nat.mod_lt _ (by norm_num)⟩ : Fin 256) = t :=
    Fin.ext (by simp only [qrow]; omega)
  rw [hq]

theorem G8_at (t : Fin 2048) (e : Fin 128) :
    (show Vec Ideal S2048x1024 .bf16 from G8 m c) (ix2 t ⟨h * 128 + e, by omega⟩)
      = (back (headOf X D GQ GK B h).k (headOf X D GQ GK B h).gk (headOf X D GQ GK B h).dkn t e : EReal) := by
  have hp : pt8Of (ix2 t ⟨h * 128 + e, by omega⟩) = 8 * h.val + 7 := by
    show 8 * (8 * (t.val / 2048 - 0) + 1 * ((h.val * 128 + e.val) / 128 - 0)) + 7 = _
    omega
  have hN : 8 * h.val + 7 < cfg0.N := lt_of_lt_of_eq (by omega) N_0.symm
  have hl : loc8Of (ix2 t ⟨h * 128 + e, by omega⟩) = ix2 t e := by
    funext a
    match a with
    | ⟨0, _⟩ => exact Fin.ext (show t.val % 2048 = t.val by omega)
    | ⟨1, _⟩ => exact Fin.ext (show (h.val * 128 + e.val) % 128 = e.val by omega)
  show G8 m c (ix2 t ⟨h * 128 + e, by omega⟩) = _
  unfold G8
  rw [dif_pos (by rw [hp]; exact hN), ← outsAt0_sweep m c _ (by rw [hp]; exact hN), hl]
  simp only [hp]
  exact o8_at A h ⟨8 * h.val + 7, hN⟩ rfl t e

theorem G9_at (t : Fin 2048) (e : Fin 128) :
    (show Vec Ideal S2048x1024 .bf16 from G9 m c) (ix2 t ⟨h * 128 + e, by omega⟩) = ((headOf X D GQ GK B h).dv t e : EReal) := by
  have hp : pt9Of (ix2 t ⟨h * 128 + e, by omega⟩) = 8 * h.val + 7 := by
    show 8 * (8 * (t.val / 2048 - 0) + 1 * ((h.val * 128 + e.val) / 128 - 0)) + 7 = _
    omega
  have hN : 8 * h.val + 7 < cfg0.N := lt_of_lt_of_eq (by omega) N_0.symm
  have hl : loc9Of (ix2 t ⟨h * 128 + e, by omega⟩) = ix2 t e := by
    funext a
    match a with
    | ⟨0, _⟩ => exact Fin.ext (show t.val % 2048 = t.val by omega)
    | ⟨1, _⟩ => exact Fin.ext (show (h.val * 128 + e.val) % 128 = e.val by omega)
  show G9 m c (ix2 t ⟨h * 128 + e, by omega⟩) = _
  unfold G9
  rw [dif_pos (by rw [hp]; exact hN), ← outsAt0_sweep m c _ (by rw [hp]; exact hN), hl]
  simp only [hp]
  exact o9_at A h ⟨8 * h.val + 7, hN⟩ rfl t e

theorem G10_at (e : Fin 128) :
    (show Vec Ideal S8x1x128 .f32 from G10 m c) (ix3 h 0 e) = (dgain (headOf X D GQ GK B h).q (headOf X D GQ GK B h).dqn e : EReal) := by
  have hp : pt10Of (ix3 h 0 e) = 8 * h.val + 7 := by
    show 8 * (1 * (h.val / 1 - 0) + 1 * (0 / 1 - 0) + 1 * (e.val / 128 - 0)) + 7 = _
    omega
  have hN : 8 * h.val + 7 < cfg0.N := lt_of_lt_of_eq (by omega) N_0.symm
  have hl : loc10Of (ix3 h 0 e) = ix3 0 0 e := by
    funext a
    match a with
    | ⟨0, _⟩ => exact Fin.ext (show h.val % 1 = 0 by omega)
    | ⟨1, _⟩ => rfl
    | ⟨2, _⟩ => exact Fin.ext (show e.val % 128 = e.val by omega)
  show G10 m c (ix3 h 0 e) = _
  unfold G10
  rw [dif_pos (by rw [hp]; exact hN), ← outsAt0_sweep m c _ (by rw [hp]; exact hN), hl]
  simp only [hp]
  exact o10_at A h ⟨8 * h.val + 7, hN⟩ rfl 0 0 e

theorem G11_at (e : Fin 128) :
    (show Vec Ideal S8x1x128 .f32 from G11 m c) (ix3 h 0 e) = (dgain (headOf X D GQ GK B h).k (headOf X D GQ GK B h).dkn e : EReal) := by
  have hp : pt11Of (ix3 h 0 e) = 8 * h.val + 7 := by
    show 8 * (1 * (h.val / 1 - 0) + 1 * (0 / 1 - 0) + 1 * (e.val / 128 - 0)) + 7 = _
    omega
  have hN : 8 * h.val + 7 < cfg0.N := lt_of_lt_of_eq (by omega) N_0.symm
  have hl : loc11Of (ix3 h 0 e) = ix3 0 0 e := by
    funext a
    match a with
    | ⟨0, _⟩ => exact Fin.ext (show h.val % 1 = 0 by omega)
    | ⟨1, _⟩ => rfl
    | ⟨2, _⟩ => exact Fin.ext (show e.val % 128 = e.val by omega)
  show G11 m c (ix3 h 0 e) = _
  unfold G11
  rw [dif_pos (by rw [hp]; exact hN), ← outsAt0_sweep m c _ (by rw [hp]; exact hN), hl]
  simp only [hp]
  exact o11_at A h ⟨8 * h.val + 7, hN⟩ rfl 0 0 e

end Cert.Band.St

end
-- ==== Proof.RefA.lean ====
/- THE REFERENCE READ OVER THE REAL NUMBERS. Each named value of the reference's host run is read at an index
   (`pointwise`) and named as a function of Spec.lean's head: here the rows, the norms, the words and the scores. -/
module

public import proofs.«01_k».proof.Proof.Alg
public import proofs.«01_k».proof.Proof.Gen.ReferenceIdeal.Run
public import Idealize.ShloMosaic.Lib.Pipeline.ValueKit

@[expose] public section

set_option maxRecDepth 16384

noncomputable section

namespace Cert.Band.Ref

open Cert.ReferenceIdeal Cert.ReferenceIdeal.Gen Cert.ReferenceIdeal.Value Idealize.ShloMosaic Idealize.ShloMosaic.TcCoe
  Idealize.SL.Sem

/-! ## The words -/

/-- The place in the bias table as the host computes it from the distance of query and key. -/
def relWord (x : BitVec 32) : BitVec 32 :=
  Scalar.select (IntOp.cmpi .slt (IntOp.addi (IntOp.minsi 256#32 (IntOp.maxsi 4294967233#32 x)) 63#32) 0#32)
    (IntOp.addi (IntOp.addi (IntOp.minsi 256#32 (IntOp.maxsi 4294967233#32 x)) 63#32) 320#32)
    (IntOp.addi (IntOp.minsi 256#32 (IntOp.maxsi 4294967233#32 x)) 63#32)

theorem relWord_eq : ∀ d : Fin 4096, min (relWord (BitVec.ofNat 32 d.val - 2048#32)).toInt.toNat 319
    = min 2304 (max d.val 1985) + 63 - 2048 := by decide +kernel

theorem relWord_rel (t s : Fin 2048) :
    min (relWord (IntOp.subi (BitVec.ofNat 32 t.val) (BitVec.ofNat 32 s.val))).toInt.toNat 319 = (rel t s).val := by
  have h := relWord_eq ⟨t.val + 2048 - s.val, by omega⟩
  have e : BitVec.ofNat 32 (t.val + 2048 - s.val) - 2048#32
      = IntOp.subi (BitVec.ofNat 32 t.val) (BitVec.ofNat 32 s.val) := by
    apply BitVec.eq_of_toNat_eq
    simp only [IntOp.subi, BitVec.toNat_sub, BitVec.toNat_ofNat]
    omega
  rw [e] at h
  rw [h]
  simp only [rel]
  omega

/-- The chunk of a place, the host's division rounded down. -/
def chunkOf (x : BitVec 32) : BitVec 32 :=
  Scalar.select
    (IntOp.andi
      (IntOp.cmpi CmpIPredicate.ne (if x = 0 then (0 : BitVec 32) else if x.msb = true then -1 else 1)
        (if (64#32 : BitVec 32) = 0 then 0 else if BitVec.msb 64#32 = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem chunkOf_eq : ∀ t : Fin 2048, chunkOf (BitVec.ofNat 32 t.val) = BitVec.ofNat 32 (t.val / 64) := by decide +kernel

theorem vis_word (a b : Fin 32) :
    IntOp.andi (IntOp.cmpi CmpIPredicate.sle (BitVec.ofNat 32 a.val) (BitVec.ofNat 32 b.val))
      (IntOp.cmpi CmpIPredicate.sge (BitVec.ofNat 32 a.val) (IntOp.subi (BitVec.ofNat 32 b.val) 8#32))
    = BitVec.ofBool (decide (a.val ≤ b.val ∧ b.val ≤ a.val + 8)) := by
  revert a b; decide +kernel

theorem sel1 {α : Type} (x y : α) : Scalar.select (BitVec.ofBool true) x y = x := rfl
theorem sel0 {α : Type} (x y : α) : Scalar.select (BitVec.ofBool false) x y = y := rfl

/-! ## The table read at an index array, and the largest of a set -/

theorem gather_rel (x : S8x320.Idx → EReal) (idx : IVec S2048x2048x1 32) (h : Fin 8) (t s : Fin 2048) :
    Host.gather gather_S8x320_S2048x2048x1_S8x2048x2048_0_1_n_n_1_2_81 x idx (ix3 h t s)
      = x (ix2 h ⟨min (idx (ix3 t s 0)).toInt.toNat 319, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ =>
    have h1 : GatherDims.start gather_S8x320_S2048x2048x1_S8x2048x2048_0_1_n_n_1_2_81 (ix3 h t s) idx (0 : Fin 2) = 0 :=
      dif_neg (by decide)
    refine (congrArg (· + 0 + _) h1).trans ?_
    have h2 : GatherDims.offCoord gather_S8x320_S2048x2048x1_S8x2048x2048_0_1_n_n_1_2_81 (ix3 h t s) (0 : Fin 2) = h.val :=
      (dif_pos (by decide)).trans rfl
    simp only [Nat.zero_add]
    exact h2
  | ⟨1, _⟩ =>
    have h2 : GatherDims.offCoord gather_S8x320_S2048x2048x1_S8x2048x2048_0_1_n_n_1_2_81 (ix3 h t s) (1 : Fin 2) = 0 :=
      dif_neg (by decide)
    refine (congrArg (_ + 0 + ·) h2).trans ?_
    simp only [Nat.add_zero]
    refine (dif_pos (show (1 : Fin 2) ∈ gather_S8x320_S2048x2048x1_S8x2048x2048_0_1_n_n_1_2_81.startIndexMap by decide)).trans ?_
    have hsi : ∀ q, GatherDims.siIdx gather_S8x320_S2048x2048x1_S8x2048x2048_0_1_n_n_1_2_81 (ix3 h t s) q = ix3 t s 0 := by
      intro q
      funext b; refine Fin.ext ?_
      match b with
      | ⟨0, _⟩ => rfl
      | ⟨1, _⟩ => rfl
      | ⟨2, _⟩ => exact (Nat.lt_one_iff.1 q.isLt)
    rw [hsi]
    rfl

/-- The largest of a set of numbers none of which is above, one of which is not below all reals is a real. -/
theorem fold_real {ι : Type*} (S : Finset ι) (f : ι → EReal) (ht : ∀ i, f i ≠ ⊤) (i0 : ι)
    (h0 : i0 ∈ S) (hb : f i0 ≠ ⊥) : ∃ M : ℝ, max ⊥ (Finset.fold max ⊥ f S) = (M : EReal) := by
  have hlt : Finset.fold max (⊥ : EReal) f S < ⊤ :=
    (Finset.fold_max_lt _).2 ⟨bot_lt_top, fun w _ => lt_top_iff_ne_top.2 (ht w)⟩
  have hge : f i0 ≤ Finset.fold max (⊥ : EReal) f S := (Finset.le_fold_max _).2 (Or.inr ⟨i0, h0, le_rfl⟩)
  have hne : Finset.fold max (⊥ : EReal) f S ≠ ⊥ := fun e => hb (le_bot_iff.1 (e ▸ hge))
  rw [max_eq_right bot_le]
  exact ⟨_, (EReal.coe_toReal hlt.ne hne).symm⟩

/-! ## The values of the run -/

section
variable (V0 : Valuation τ sig (Elt Ideal)) (X : Fin 2048 → Fin 8192 → ℝ) (D : Fin 2048 → Fin 1024 → ℝ)
  (GQ GK : Fin 128 → ℝ) (B : Fin 8 → Fin 320 → ℝ)

/-- The reference's arguments are the real arrays `X`, `D`, `GQ`, `GK`, `B`. -/
structure Reads : Prop where
  h0 : ∀ t c, V0 (Proc.devRef .tc main_arg0) (ix2 t c) = (X t c : EReal)
  h1 : ∀ t c, V0 (Proc.devRef .tc main_arg1) (ix2 t c) = (D t c : EReal)
  h2 : ∀ e, V0 (Proc.devRef .tc main_arg2) (ix2 0 e) = (GQ e : EReal)
  h3 : ∀ e, V0 (Proc.devRef .tc main_arg3) (ix2 0 e) = (GK e : EReal)
  h4 : ∀ h u, V0 (Proc.devRef .tc main_arg4) (ix2 h u) = (B h u : EReal)

variable {V0 X D GQ GK B} (R : Reads V0 X D GQ GK B) (h : Fin 8)
include R

theorem v6 (t : Fin 2048) (e : Fin 128) : res_main_v6 V0 (ix3 h t e) = ((headOf X D GQ GK B h).q t e : EReal) := by
  pointwise [res_main_v6]
  exact R.h0 _ _

theorem v8 (t : Fin 2048) (e : Fin 128) : res_main_v8 V0 (ix3 h t e) = ((headOf X D GQ GK B h).k t e : EReal) := by
  pointwise [res_main_v8]
  exact R.h0 _ _

theorem v10 (t : Fin 2048) (e : Fin 128) : res_main_v10 V0 (ix3 h t e) = ((headOf X D GQ GK B h).v t e : EReal) := by
  pointwise [res_main_v10]
  exact R.h0 _ _

theorem v101 (t : Fin 2048) (e : Fin 128) : res_main_v101 V0 (ix3 h t e) = ((headOf X D GQ GK B h).dy t e : EReal) := by
  pointwise [res_main_v101]
  exact R.h1 _ _

theorem v17 (t : Fin 2048) (e : Fin 1) : res_main_v17 V0 (ix3 h t e) = (ms (headOf X D GQ GK B h).q t : EReal) := by
  pointwise [res_main_v17]
  simp only [v6 R]
  rw [ofBits_128, ofBits_eps]
  simp only [← EReal.coe_mul, ← coe_sum]
  rw [div_real (by norm_num), ← EReal.coe_add]
  rfl

theorem v32 (t : Fin 2048) (e : Fin 1) : res_main_v32 V0 (ix3 h t e) = (ms (headOf X D GQ GK B h).k t : EReal) := by
  pointwise [res_main_v32]
  simp only [v8 R]
  rw [ofBits_128, ofBits_eps]
  simp only [← EReal.coe_mul, ← coe_sum]
  rw [div_real (by norm_num), ← EReal.coe_add]
  rfl

theorem v18 (t : Fin 2048) (e : Fin 1) : res_main_v18 V0 (ix3 h t e) = (rms (headOf X D GQ GK B h).q t : EReal) := by
  pointwise [res_main_v18]
  rw [v17 R, rsqrt_real (ms_pos _ _)]
  rfl

theorem v33 (t : Fin 2048) (e : Fin 1) : res_main_v33 V0 (ix3 h t e) = (rms (headOf X D GQ GK B h).k t : EReal) := by
  pointwise [res_main_v33]
  rw [v32 R, rsqrt_real (ms_pos _ _)]
  rfl

theorem v23 (t : Fin 2048) (e : Fin 128) : res_main_v23 V0 (ix3 h t e) = (hat (headOf X D GQ GK B h).q t e : EReal) := by
  pointwise [res_main_v23]
  rw [v6 R, v18 R, ← EReal.coe_mul]
  rfl

theorem v38 (t : Fin 2048) (e : Fin 128) : res_main_v38 V0 (ix3 h t e) = (hat (headOf X D GQ GK B h).k t e : EReal) := by
  pointwise [res_main_v38]
  rw [v8 R, v33 R, ← EReal.coe_mul]
  rfl

theorem v3 (e : Fin 128) : res_main_v3 V0 (ix3 h 0 e) = ((headOf X D GQ GK B h).gq e : EReal) := by
  pointwise [res_main_v3]
  exact R.h2 _

theorem v4 (e : Fin 128) : res_main_v4 V0 (ix3 h 0 e) = ((headOf X D GQ GK B h).gk e : EReal) := by
  pointwise [res_main_v4]
  exact R.h3 _

theorem v25 (t : Fin 2048) (e : Fin 128) : res_main_v25 V0 (ix3 h t e) = ((headOf X D GQ GK B h).qn t e : EReal) := by
  pointwise [res_main_v25]
  rw [v23 R, v3 R, ← EReal.coe_mul]
  rfl

theorem v40 (t : Fin 2048) (e : Fin 128) : res_main_v40 V0 (ix3 h t e) = ((headOf X D GQ GK B h).kn t e : EReal) := by
  pointwise [res_main_v40]
  rw [v38 R, v4 R, ← EReal.coe_mul]
  rfl

omit R in
theorem v49 (t s : Fin 2048) : res_main_v49 V0 (ix2 t s) = IntOp.addi (IntOp.minsi 256#32 (IntOp.maxsi 4294967233#32
      (IntOp.subi (BitVec.ofNat 32 t.val) (BitVec.ofNat 32 s.val)))) 63#32 := by
  pointwise [res_main_v49, res_main_v44, res_main_v45]
  rfl

omit R in
theorem v68_1 (t s : Fin 2048) : res_main_v68_1 V0 (ix3 h t s) = BitVec.ofBool (decide (Vis t s)) := by
  pointwise [res_main_v68_1, res_main_v44, res_main_v45, res_main_call1_v0, res_main_call2_v0, res_main_call3_v0,
    res_main_call4_v0, res_main_call1_v2, res_main_call2_v2, res_main_call3_v2, res_main_call4_v2]
  simp only [show id (constantI S_ 32 64#32) ix0 = 64#32 from rfl]
  show IntOp.andi (IntOp.cmpi CmpIPredicate.sle (chunkOf (BitVec.ofNat 32 s.val)) (chunkOf (BitVec.ofNat 32 t.val)))
    (IntOp.cmpi CmpIPredicate.sge (chunkOf (BitVec.ofNat 32 s.val)) (IntOp.subi (chunkOf (BitVec.ofNat 32 t.val)) 8#32)) = _
  rw [chunkOf_eq, chunkOf_eq]
  exact vis_word ⟨s.val / 64, by omega⟩ ⟨t.val / 64, by omega⟩

theorem v68_0 (t s : Fin 2048) :
    res_main_v68_0 V0 (ix3 h t s) = if Vis t s then ((headOf X D GQ GK B h).score t s : EReal) else ⊥ := by
  pointwise [res_main_v68_0]
  rw [v68_1]
  by_cases hv : Vis t s
  · rw [if_pos hv, decide_eq_true hv]
    refine (sel1 _ _).trans ?_
    rw [gather_rel]
    simp only [v25 R, v40 R]
    simp only [← EReal.coe_mul, ← coe_sum]
    rw [ofBits_sc, ← EReal.coe_mul]
    have hidx : ∀ (w : BitVec 32) (hw : w = relWord (IntOp.subi (BitVec.ofNat 32 t.val) (BitVec.ofNat 32 s.val))) hlt,
        V0 (Proc.devRef .tc main_arg4) (ix2 h ⟨min w.toInt.toNat 319, hlt⟩) = ((headOf X D GQ GK B h).b (rel t s) : EReal) := by
      rintro w rfl hlt
      rw [R.h4]
      exact congrArg (fun u => (B h u : EReal)) (Fin.ext (relWord_rel t s))
    refine (congrArg (_ + ·) (hidx _ ?_ _)).trans ?_
    · pointwise []
      rw [v49]
      rfl
    · rw [← EReal.coe_add]
      rfl
  · rw [if_neg hv, decide_eq_false hv]
    exact (sel0 _ _).trans ofBits_neg_inf

end

end Cert.Band.Ref

end
-- ==== Proof.Ref.lean ====
/- THE REFERENCE READ OVER THE REAL NUMBERS, continued from RefA.lean: the weights, the probabilities, the cotangents
   and the five results. -/
module

public import proofs.«01_k».proof.Proof.RefA
public import proofs.«01_k».proof.Proof.Gen.ReferenceIdeal.Run
public import Idealize.ShloMosaic.Lib.Pipeline.ValueKit

@[expose] public section

set_option maxRecDepth 16384

noncomputable section

namespace Cert.Band.Ref

open Cert.ReferenceIdeal Cert.ReferenceIdeal.Gen Cert.ReferenceIdeal.Value Idealize.ShloMosaic Idealize.ShloMosaic.TcCoe
  Idealize.SL.Sem

section
variable (V0 : Valuation τ sig (Elt Ideal)) (X : Fin 2048 → Fin 8192 → ℝ) (D : Fin 2048 → Fin 1024 → ℝ)
  (GQ GK : Fin 128 → ℝ) (B : Fin 8 → Fin 320 → ℝ)

variable {V0 X D GQ GK B} (R : Reads V0 X D GQ GK B) (h : Fin 8)
include R

omit R in
theorem drop_at (t s : Fin 2048) : reducesTo_S8x2048x2048_S8x2048_d2.drop (ix3 h t s) = ix2 h t := by
  funext a; refine Fin.ext ?_
  match a with
  | ⟨0, _⟩ => rfl
  | ⟨1, _⟩ => rfl

theorem v68_ne_top (i : S8x2048x2048.Idx) : (show EReal from res_main_v68_0 V0 i) ≠ ⊤ := by
  obtain ⟨a, b, c, rfl⟩ : ∃ a b c, i = ix3 a b c := ⟨i 0, i 1, i 2, eq_ix3 i⟩
  rw [v68_0 R]
  split
  · exact EReal.coe_ne_top _
  · exact bot_ne_top

theorem v68_ne_bot (t : Fin 2048) : (show EReal from res_main_v68_0 V0 (ix3 h t t)) ≠ ⊥ := by
  rw [v68_0 R, if_pos (by unfold Vis; omega)]
  exact EReal.coe_ne_bot _

theorem v69 (t : Fin 2048) : ∃ M : ℝ, max (⊥ : EReal) (show EReal from res_main_v69 V0 (ix2 h t)) = (M : EReal) := by
  pointwise [res_main_v69]
  rw [ofBits_neg_inf]
  refine fold_real _ _ (v68_ne_top R) (ix3 h t t) ?_ (v68_ne_bot R h t)
  rw [Finset.mem_filter]
  exact ⟨Finset.mem_univ _, drop_at h t t⟩

omit R in
theorem exp_at (A : FVec Ideal S8x2048x2048 .f32) (M : FVec Ideal S8x2048 .f32) (t s : Fin 2048) :
    (Host.exp (subf A (broadcastInDim S8x2048x2048 ![0, 1, 2] bcast_S8x2048x1_S8x2048x2048_0_1_2
      (broadcastInDim S8x2048x1 ![0, 1] bcast_S8x2048_S8x2048x1_0_1
        (maximumf (broadcastInDim S8x2048 ![] bcast_S_S8x2048 (constant S_ .f32 0xFF800000#32)) M)))) :
          FVec Ideal S8x2048x2048 .f32) (ix3 h t s)
      = Ideal.exp ((show EReal from A (ix3 h t s)) - max ⊥ (show EReal from M (ix2 h t))) := by
  pointwise []
  rw [ofBits_neg_inf]

theorem v89 (t : Fin 2048) : ∃ M : ℝ, ∀ s, res_main_v89 V0 (ix3 h t s) = (((headOf X D GQ GK B h).wt t s * Real.exp (-M) : ℝ) : EReal) := by
  obtain ⟨M, hM⟩ := v69 R h t
  refine ⟨M, fun s => ?_⟩
  unfold res_main_v89
  refine (exp_at h _ _ t s).trans ?_
  rw [v68_0 R, hM]
  exact exp_shift (fun s : Fin 2048 => (headOf X D GQ GK B h).score t s) (fun s => Vis t s) M s

theorem v91 (t : Fin 2048) : res_main_v91 V0 (ix3 h t 0) = (∑ s, (res_main_v89 V0 (ix3 h t s) : EReal) : EReal) := by
  pointwise [res_main_v91]

omit R in
theorem wt_sum_pos (t : Fin 2048) : 0 < ∑ s, (headOf X D GQ GK B h).wt t s :=
  sum_wt_pos (fun s => (headOf X D GQ GK B h).score t s) (fun s => Vis t s) ⟨t, by unfold Vis; omega⟩

theorem v93 (t s : Fin 2048) : res_main_v93 V0 (ix3 h t s) = ((headOf X D GQ GK B h).prob t s : EReal) := by
  pointwise [res_main_v93]
  obtain ⟨M, hM⟩ := v89 R h t
  rw [v91 R]
  simp only [hM]
  rw [← coe_sum, ← Finset.sum_mul]
  have h1 := (wt_sum_pos (X := X) (D := D) (GQ := GQ) (GK := GK) (B := B) h t).ne'
  have h2 := (Real.exp_pos (-M)).ne'
  rw [div_real (mul_ne_zero h1 h2)]
  congr 1
  unfold Head.prob
  field_simp

theorem v104 (t s : Fin 2048) : res_main_v104 V0 (ix3 h t s) = ((headOf X D GQ GK B h).dp t s : EReal) := by
  pointwise [res_main_v104]
  simp only [v101 R, v10 R]
  simp only [← EReal.coe_mul, ← coe_sum]
  rfl

theorem v119 (t s : Fin 2048) : res_main_v119 V0 (ix3 h t s) = (((headOf X D GQ GK B h).ds t s * sc : ℝ) : EReal) := by
  pointwise [res_main_v119]
  rw [v68_1]
  by_cases hv : Vis t s
  · rw [decide_eq_true hv]
    refine (sel1 _ _).trans ?_
    obtain ⟨M, hM⟩ := v89 R h t
    have h1 := (wt_sum_pos (X := X) (D := D) (GQ := GQ) (GK := GK) (B := B) h t).ne'
    have h2 := (Real.exp_pos (-M)).ne'
    simp only [v91 R, v104 R, hM, ofBits_sc]
    rw [← coe_sum, ← Finset.sum_mul]
    simp only [← EReal.coe_mul]
    rw [div_real (mul_ne_zero h1 h2), ← EReal.coe_one, div_real (mul_ne_zero (mul_ne_zero h1 h2) (mul_ne_zero h1 h2))]
    simp only [← EReal.coe_mul, ← coe_sum, ← EReal.coe_neg, ← EReal.coe_add]
    congr 1
    have h3 : ∑ s', (headOf X D GQ GK B h).prob t s' * (headOf X D GQ GK B h).dp t s' = (∑ s', (headOf X D GQ GK B h).dp t s' * (headOf X D GQ GK B h).wt t s') * (1 / ∑ s', (headOf X D GQ GK B h).wt t s') := by
      rw [Finset.sum_mul]
      exact Finset.sum_congr rfl fun s' _ => by unfold Head.prob; ring
    have h4 : ∀ c : ℝ, ∑ x, (headOf X D GQ GK B h).dp t x * c * ((headOf X D GQ GK B h).wt t x * Real.exp (-M)) = (∑ x, (headOf X D GQ GK B h).dp t x * (headOf X D GQ GK B h).wt t x) * (c * Real.exp (-M)) := by
      intro c
      rw [Finset.sum_mul]
      exact Finset.sum_congr rfl fun s' _ => by ring
    rw [h4]
    simp only [Finset.univ_unique, Finset.sum_const, Finset.card_singleton, one_smul]
    unfold Head.ds
    rw [h3]
    unfold Head.prob
    field_simp
    ring
  · rw [decide_eq_false hv]
    refine (sel0 _ _).trans ?_
    rw [Head.ds_off _ hv, zero_mul]
    exact EReal.coe_zero.symm

theorem v121 (t : Fin 2048) (e : Fin 128) : res_main_v121 V0 (ix3 h t e) = ((headOf X D GQ GK B h).dqn t e : EReal) := by
  pointwise [res_main_v121]
  simp only [v119 R, v40 R]
  simp only [← EReal.coe_mul, ← coe_sum]
  rfl

theorem v120 (t : Fin 2048) (e : Fin 128) : res_main_v120 V0 (ix3 h t e) = ((headOf X D GQ GK B h).dkn t e : EReal) := by
  pointwise [res_main_v120]
  simp only [v119 R, v25 R]
  simp only [← EReal.coe_mul, ← coe_sum]
  rfl

theorem v126 (t : Fin 2048) (e : Fin 128) : res_main_v126 V0 (ix3 h t e) = (((headOf X D GQ GK B h).dkn t e * (headOf X D GQ GK B h).gk e : ℝ) : EReal) := by
  pointwise [res_main_v126]
  rw [v120 R, v4 R, ← EReal.coe_mul]

theorem v145 (t : Fin 2048) (e : Fin 128) : res_main_v145 V0 (ix3 h t e) = (((headOf X D GQ GK B h).dqn t e * (headOf X D GQ GK B h).gq e : ℝ) : EReal) := by
  pointwise [res_main_v145]
  rw [v121 R, v3 R, ← EReal.coe_mul]

theorem v155 (t : Fin 2048) (e : Fin 128) : res_main_v155 V0 (ix3 h t e)
    = (((∑ x, (headOf X D GQ GK B h).q t x * ((headOf X D GQ GK B h).dqn t x * (headOf X D GQ GK B h).gq x)) * (-(1 / 2) * (rms (headOf X D GQ GK B h).q t * (1 / ms (headOf X D GQ GK B h).q t))) * (1 / 128) : ℝ) : EReal) := by
  pointwise [res_main_v155]
  simp only [v6 R, v145 R, v18 R, v17 R]
  simp only [← EReal.coe_mul, ← coe_sum]
  rw [ofBits_128, ofBits_neg_half, div_real (ms_pos _ _).ne']
  simp only [← EReal.coe_mul]
  rw [div_real (by norm_num)]
  simp

theorem v136 (t : Fin 2048) (e : Fin 128) : res_main_v136 V0 (ix3 h t e)
    = (((∑ x, (headOf X D GQ GK B h).k t x * ((headOf X D GQ GK B h).dkn t x * (headOf X D GQ GK B h).gk x)) * (-(1 / 2) * (rms (headOf X D GQ GK B h).k t * (1 / ms (headOf X D GQ GK B h).k t))) * (1 / 128) : ℝ) : EReal) := by
  pointwise [res_main_v136]
  simp only [v8 R, v126 R, v33 R, v32 R]
  simp only [← EReal.coe_mul, ← coe_sum]
  rw [ofBits_128, ofBits_neg_half, div_real (ms_pos _ _).ne']
  simp only [← EReal.coe_mul]
  rw [div_real (by norm_num)]
  simp

omit R in
/-- The two ways to write the gradient through the norm. -/
theorem back_eq (x : Rows) (g : Fin 128 → ℝ) (dn : Rows) (t : Fin 2048) (e : Fin 128) :
    dn t e * g e * rms x t
      + x t e * ((∑ e', x t e' * (dn t e' * g e')) * (-(1 / 2) * (rms x t * (1 / ms x t))) * (1 / 128))
      + (∑ e', x t e' * (dn t e' * g e')) * (-(1 / 2) * (rms x t * (1 / ms x t))) * (1 / 128) * x t e
    = back x g dn t e := by
  have hr : 1 / ms x t = rms x t * rms x t := by
    unfold rms
    rw [← mul_inv, Real.mul_self_sqrt (ms_pos x t).le, one_div]
  have hs : ∑ e', dn t e' * g e' * hat x t e' = (∑ e', x t e' * (dn t e' * g e')) * rms x t := by
    rw [Finset.sum_mul]
    exact Finset.sum_congr rfl fun e' _ => by unfold hat; ring
  unfold back
  rw [hr, hs]
  unfold hat
  ring

theorem v166 (t : Fin 2048) (e : Fin 128) :
    truncf (F := Ideal) .bf16 (shapeCast S2048x1024 (transpose S2048x8x128 [1, 0, 2] (addf (addf (mulf (res_main_v145 V0)
      (broadcastInDim S8x2048x128 ![0, 1, 2] bcast_S8x2048x1_S8x2048x128_0_1_2 (res_main_v18 V0)))
      (mulf (res_main_v6 V0) (res_main_v155 V0))) (mulf (res_main_v155 V0) (res_main_v6 V0)))
      transposes_S8x2048x128_S2048x8x128_1_0_2) shapeCasts_S2048x8x128_S2048x1024) bitsLt_bf16_f32 (ix2 t ⟨h * 128 + e, by omega⟩)
    = (back (headOf X D GQ GK B h).q (headOf X D GQ GK B h).gq (headOf X D GQ GK B h).dqn t e : EReal) := by
  pointwise []
  rw [v145 R, v18 R, v6 R, v155 R]
  simp only [← EReal.coe_mul, ← EReal.coe_add]
  exact congrArg _ (back_eq _ _ _ t e)

theorem v167 (t : Fin 2048) (e : Fin 128) :
    truncf (F := Ideal) .bf16 (shapeCast S2048x1024 (transpose S2048x8x128 [1, 0, 2] (addf (addf (mulf (res_main_v126 V0)
      (broadcastInDim S8x2048x128 ![0, 1, 2] bcast_S8x2048x1_S8x2048x128_0_1_2 (res_main_v33 V0)))
      (mulf (res_main_v8 V0) (res_main_v136 V0))) (mulf (res_main_v136 V0) (res_main_v8 V0)))
      transposes_S8x2048x128_S2048x8x128_1_0_2) shapeCasts_S2048x8x128_S2048x1024) bitsLt_bf16_f32 (ix2 t ⟨h * 128 + e, by omega⟩)
    = (back (headOf X D GQ GK B h).k (headOf X D GQ GK B h).gk (headOf X D GQ GK B h).dkn t e : EReal) := by
  pointwise []
  rw [v126 R, v33 R, v8 R, v136 R]
  simp only [← EReal.coe_mul, ← EReal.coe_add]
  exact congrArg _ (back_eq _ _ _ t e)

theorem v168 (t : Fin 2048) (e : Fin 128) :
    truncf (F := Ideal) .bf16 (shapeCast S2048x1024 (transpose S2048x8x128 [1, 0, 2] (transpose S8x2048x128 [0, 2, 1]
      (Host.dotGeneral dot_S8x2048x128_S8x2048x2048_S8x128x2048_1_1_2_2_0_0 none (φ₁ := .f32) (φ₂ := .f32) (res_main_v101 V0) (res_main_v93 V0))
      transposes_S8x128x2048_S8x2048x128_0_2_1) transposes_S8x2048x128_S2048x8x128_1_0_2) shapeCasts_S2048x8x128_S2048x1024)
      bitsLt_bf16_f32 (ix2 t ⟨h * 128 + e, by omega⟩)
    = ((headOf X D GQ GK B h).dv t e : EReal) := by
  pointwise []
  simp only [v101 R, v93 R]
  simp only [← EReal.coe_mul, ← coe_sum]
  exact congrArg _ (Finset.sum_congr rfl fun _ _ => mul_comm _ _)

theorem v124 (e : Fin 128) :
    shapeCast S8x1x128 (Host.reduceAdd (mulf (F := Ideal) (res_main_v38 V0) (res_main_v120 V0)) (constant S_ .f32 0x00000000#32)
      reducesTo_S8x2048x128_S8x128_d1 h_S_) shapeCasts_S8x128_S8x1x128 (ix3 h 0 e) = (dgain (headOf X D GQ GK B h).k (headOf X D GQ GK B h).dkn e : EReal) := by
  pointwise []
  simp only [v38 R, v120 R]
  simp only [← EReal.coe_mul, ← coe_sum]
  exact congrArg _ (Finset.sum_congr rfl fun _ _ => mul_comm _ _)

theorem v143 (e : Fin 128) :
    shapeCast S8x1x128 (Host.reduceAdd (mulf (F := Ideal) (res_main_v23 V0) (res_main_v121 V0)) (constant S_ .f32 0x00000000#32)
      reducesTo_S8x2048x128_S8x128_d1 h_S_) shapeCasts_S8x128_S8x1x128 (ix3 h 0 e) = (dgain (headOf X D GQ GK B h).q (headOf X D GQ GK B h).dqn e : EReal) := by
  pointwise []
  simp only [v23 R, v121 R]
  simp only [← EReal.coe_mul, ← coe_sum]
  exact congrArg _ (Finset.sum_congr rfl fun _ _ => mul_comm _ _)

end

end Cert.Band.Ref

end
-- ==== Proof.Pre.lean ====
/- THE PRECONDITION READ BACK: where `finite` is one, every argument is an array of real numbers. -/
module

public import proofs.«01_k».proof.Pre_finite
public import Idealize.ShloMosaic.Lib.ReduceAll
public import Idealize.ShloMosaic.Lib.ValueIdx

@[expose] public section

noncomputable section

namespace Cert.Band.Pre

open Cert.Pre_finite Idealize.ShloMosaic

theorem facts : Cert.Pre_finite.Facts where
  bcast_S_S2048x8192 := by decide
  reducesTo_S2048x8192_S_d0_1 := by decide
  h_S_ := by decide
  bcast_S_S2048x1024 := by decide
  reducesTo_S2048x1024_S_d0_1 := by decide
  bcast_S_S1x128 := by decide
  reducesTo_S1x128_S_d0_1 := by decide
  bcast_S_S8x320 := by decide
  reducesTo_S8x320_S_d0_1 := by decide

/-- A number whose absolute value is under infinity is real. -/
theorem real_of_abs (x : EReal) (h : max x (-x) < ⊤) : x = ((x.toReal : ℝ) : EReal) := by
  refine (EReal.coe_toReal ?_ ?_).symm
  · rintro rfl
    exact absurd h (by simp)
  · rintro rfl
    exact absurd h (by simp)

/-- `jnp.all(jnp.isfinite …)` read back. -/
theorem real_of_all {s : Shape} {axes : List (Fin s.rank)} (x : FVec Ideal s .f32) (b : FVec Ideal s .f32) (hb : ∀ i, b i = (⊤ : EReal))
    (init : IVec S_ 1) (h : s.ReducesTo axes S_) (hu : 0 < S_.numel) (j : S_.Idx)
    (e : Host.reduce IntOp.andi (cmpf .olt (Host.absf x) b) init h hu j = 1#1) (i : s.Idx) : (show EReal from x i) = ((EReal.toReal (x i) : ℝ) : EReal) := by
  haveI : Subsingleton S_.Idx := ⟨fun a b => funext fun k => k.elim0⟩
  have := Host.reduce_andi_all _ _ _ _ j e i
  have h1 : Ideal.cmp .olt (max (x i : EReal) (-(x i : EReal))) (b i) = 1#1 := this
  rw [hb] at h1
  refine real_of_abs _ ?_
  by_contra hn
  have h2 : BitVec.ofBool (decide (max (x i : EReal) (-(x i : EReal)) < ⊤)) = 1#1 := h1
  rw [decide_eq_false hn] at h2
  exact absurd h2 (by decide)

theorem inf_at {s : Shape} (h : S_.BroadcastsInDim s (![] : Fin 0 → Fin s.rank)) (i : s.Idx) :
    broadcastInDim s ![] h (constant (F := Ideal) S_ .f32 0x7F800000#32) i = (⊤ : EReal) := by
  show Ideal.ofBits .f32 0x7F800000#32 = ⊤
  simp [Ideal.ofBits, Ideal.ieee]

/-- All five arguments are arrays of real numbers. -/
theorem reals (x0 : FVec Ideal S2048x8192 .f32) (x1 : FVec Ideal S2048x1024 .f32) (x2 x3 : FVec Ideal S1x128 .f32) (x4 : FVec Ideal S8x320 .f32)
    (j : S_.Idx) (h : (letI := facts; Cert.Pre_finite.fn (F := Ideal) x0 x1 x2 x3 x4) j = 1#1) :
    (∀ i, (show EReal from x0 i) = ((EReal.toReal (x0 i) : ℝ) : EReal)) ∧ (∀ i, (show EReal from x1 i) = ((EReal.toReal (x1 i) : ℝ) : EReal))
    ∧ (∀ i, (show EReal from x2 i) = ((EReal.toReal (x2 i) : ℝ) : EReal)) ∧ (∀ i, (show EReal from x3 i) = ((EReal.toReal (x3 i) : ℝ) : EReal))
    ∧ (∀ i, (show EReal from x4 i) = ((EReal.toReal (x4 i) : ℝ) : EReal)) := by
  obtain ⟨h3, e4⟩ := IntOp.andi_eq_one.1 h
  obtain ⟨h2, e3⟩ := IntOp.andi_eq_one.1 h3
  obtain ⟨h1, e2⟩ := IntOp.andi_eq_one.1 h2
  obtain ⟨e0, e1⟩ := IntOp.andi_eq_one.1 h1
  exact ⟨fun i => real_of_all x0 _ (inf_at _) _ _ _ j e0 i, fun i => real_of_all x1 _ (inf_at _) _ _ _ j e1 i,
    fun i => real_of_all x2 _ (inf_at _) _ _ _ j e2 i, fun i => real_of_all x3 _ (inf_at _) _ _ _ j e3 i,
    fun i => real_of_all x4 _ (inf_at _) _ _ _ j e4 i⟩

end Cert.Band.Pre

end
-- ==== Proof.Meet.lean ====
/- WHERE THE TWO PROGRAMS MEET: arguments of real numbers, read by the kernel and by the reference. -/
module

public import proofs.«01_k».proof.Proof.Results
public import proofs.«01_k».proof.Proof.Ref
public import proofs.«01_k».proof.Proof.Pre
public import proofs.«01_k».proof.Defs

@[expose] public section

set_option maxRecDepth 16384

noncomputable section

namespace Cert.Band

open Idealize.ShloMosaic Idealize.ShloMosaic.TcCoe Idealize.SL.Sem

section
variable (m : (ℓ : Loc Cert.KernelIdeal.nD Cert.KernelIdeal.τ Cert.KernelIdeal.sig) → Buf (Elt Ideal) ℓ) (c : Dev Cert.KernelIdeal.nD)

/-- The real numbers of the five arguments. -/
def rX (t : Fin 2048) (e : Fin 8192) : ℝ := EReal.toReal ((show Vec Ideal Cert.KernelIdeal.S2048x8192 .f32 from m ((c : Thread Cert.KernelIdeal.nD Cert.KernelIdeal.τ).loc Cert.KernelIdeal.main_arg0)) (ix2 t e))
def rD (t : Fin 2048) (e : Fin 1024) : ℝ := EReal.toReal ((show Vec Ideal Cert.KernelIdeal.S2048x1024 .f32 from m ((c : Thread Cert.KernelIdeal.nD Cert.KernelIdeal.τ).loc Cert.KernelIdeal.main_arg1)) (ix2 t e))
def rGQ (e : Fin 128) : ℝ := EReal.toReal ((show Vec Ideal Cert.KernelIdeal.S1x128 .f32 from m ((c : Thread Cert.KernelIdeal.nD Cert.KernelIdeal.τ).loc Cert.KernelIdeal.main_arg2)) (ix2 0 e))
def rGK (e : Fin 128) : ℝ := EReal.toReal ((show Vec Ideal Cert.KernelIdeal.S1x128 .f32 from m ((c : Thread Cert.KernelIdeal.nD Cert.KernelIdeal.τ).loc Cert.KernelIdeal.main_arg3)) (ix2 0 e))
def rB (h : Fin 8) (u : Fin 320) : ℝ := EReal.toReal ((show Vec Ideal Cert.KernelIdeal.S8x320 .f32 from m ((c : Thread Cert.KernelIdeal.nD Cert.KernelIdeal.τ).loc Cert.KernelIdeal.main_arg4)) (ix2 h u))

variable (hpre : letI := Pre.facts; Cert.Pre_KernelIdeal_finite m)
include hpre

theorem args : St.Args m c (rX m c) (rD m c) (rGQ m c) (rGK m c) (rB m c) := by
  have hc := congrFun (hpre c) (fun a => a.elim0)
  obtain ⟨r0, r1, r2, r3, r4⟩ := Pre.reals _ _ _ _ _ _ hc
  refine ⟨fun t e => r0 _, fun t e => r1 _, fun l e => ?_, fun l e => ?_, fun h u => r4 _⟩
  · obtain rfl : l = 0 := Subsingleton.elim _ _
    exact r2 _
  · obtain rfl : l = 0 := Subsingleton.elim _ _
    exact r3 _

/-- The reference's initial contents, where they are the kernel's. -/
theorem reads (V0 : Valuation Cert.ReferenceIdeal.τ Cert.ReferenceIdeal.sig (Elt Ideal))
    (e0 : V0 (Proc.devRef .tc Cert.ReferenceIdeal.main_arg0) = m ((c : Thread Cert.KernelIdeal.nD Cert.KernelIdeal.τ).loc Cert.KernelIdeal.main_arg0))
    (e1 : V0 (Proc.devRef .tc Cert.ReferenceIdeal.main_arg1) = m ((c : Thread Cert.KernelIdeal.nD Cert.KernelIdeal.τ).loc Cert.KernelIdeal.main_arg1))
    (e2 : V0 (Proc.devRef .tc Cert.ReferenceIdeal.main_arg2) = m ((c : Thread Cert.KernelIdeal.nD Cert.KernelIdeal.τ).loc Cert.KernelIdeal.main_arg2))
    (e3 : V0 (Proc.devRef .tc Cert.ReferenceIdeal.main_arg3) = m ((c : Thread Cert.KernelIdeal.nD Cert.KernelIdeal.τ).loc Cert.KernelIdeal.main_arg3))
    (e4 : V0 (Proc.devRef .tc Cert.ReferenceIdeal.main_arg4) = m ((c : Thread Cert.KernelIdeal.nD Cert.KernelIdeal.τ).loc Cert.KernelIdeal.main_arg4)) :
    Ref.Reads V0 (rX m c) (rD m c) (rGQ m c) (rGK m c) (rB m c) := by
  have A := args m c hpre
  exact ⟨fun t e => (congrFun e0 _).trans (A.h0 t e), fun t e => (congrFun e1 _).trans (A.h1 t e), fun e => (congrFun e2 _).trans (A.h2 0 e),
    fun e => (congrFun e3 _).trans (A.h3 0 e), fun h u => (congrFun e4 _).trans (A.h4 h u)⟩

end

/-- Two arrays of eight heads' columns are equal when they are so at every head, row and feature. -/
theorem ext_cols {x y : (⟨2, ![2048, 1024]⟩ : Shape).Idx → EReal}
    (h : ∀ (h : Fin 8) (t : Fin 2048) (e : Fin 128), x (ix2 t (⟨h * 128 + e, by omega⟩ : Fin 1024)) = y (ix2 t (⟨h * 128 + e, by omega⟩ : Fin 1024))) : x = y := by
  funext i
  obtain ⟨t, z, rfl⟩ : ∃ (t : Fin 2048) (z : Fin 1024), i = ix2 t z := ⟨i 0, i 1, eq_ix2 i⟩
  have := h ⟨z.val / 128, by omega⟩ t ⟨z.val % 128, Nat.mod_lt _ (by norm_num)⟩
  have hz : (⟨z.val / 128 * 128 + z.val % 128, by omega⟩ : Fin 1024) = z := Fin.ext (by dsimp only; omega)
  simpa only [hz] using this

/-- Two arrays of eight heads' gains are equal when they are so at every head and feature. -/
theorem ext_gain {x y : (⟨3, ![8, 1, 128]⟩ : Shape).Idx → EReal} (h : ∀ (h : Fin 8) (e : Fin 128), x (ix3 h 0 e) = y (ix3 h 0 e)) : x = y := by
  funext i
  obtain ⟨a, b, e, rfl⟩ : ∃ (a : Fin 8) (b : Fin 1) (e : Fin 128), i = ix3 a b e := ⟨i 0, i 1, i 2, eq_ix3 i⟩
  obtain rfl : b = 0 := Subsingleton.elim _ _
  exact h a e

end Cert.Band

end
-- ==== Proof.Grad3.lean ====
/- THE GRADIENT OF THE INPUT PROJECTION'S WEIGHTS: each element of the kernel's and of the reference's result is the
   product of a column of the normed rows with a column of the cotangent. -/
module

public import proofs.«01_k».proof.Proof.Gen.Kernel3Ideal.Value
public import proofs.«01_k».proof.Proof.Gen.Reference3Ideal.Run
public import proofs.«01_k».proof.Proof.Blocks

@[expose] public section

set_option maxRecDepth 16384

noncomputable section

namespace Cert.Grad3

open Idealize.ShloMosaic Idealize.ShloMosaic.TcCoe Idealize.SL.Sem Cert.Band

/-- Element `(b, r, e)` of the weight gradient, cut into four column blocks: `∑ k, h k r * d k (2048 b + e)`. -/
def grad (H : Vec Ideal (⟨2, ![2048, 2048]⟩ : Shape) .bf16) (D : Vec Ideal (⟨2, ![2048, 8192]⟩ : Shape) .bf16) (b : Fin 4) (r e : Fin 2048) : EReal :=
  ∑ k : Fin 2048, (show EReal from H (ix2 k r)) * (show EReal from D (ix2 k (⟨2048 * b + e, by omega⟩ : Fin 8192)))

section
open Cert.Kernel3Ideal Cert.Kernel3Ideal.Gen Cert.Kernel3Ideal.Value
variable (m : (ℓ : Loc nD τ sig) → Buf (Elt Ideal) ℓ) (c : Dev nD)

/-- The index maps of the three windows. -/
theorem idx : ∀ t : Fin cfg0.N, win0_0.index t = ![0, t.val % 2] ∧ win0_1.index t = ![0, t.val / 2] ∧ win0_2.index t = ![t.val / 2, t.val % 2, 0] :=
  (by decide +kernel : ∀ t : Fin grid0.N, _)

theorem blk0 (t : Fin cfg0.N) (k : Fin 2048) (r : Fin 1024) :
    (show Vec Ideal S2048x1024 .bf16 from iblk m c 0 t) (ix2 k r)
      = (show Vec Ideal S2048x2048 .bf16 from m ((c : Thread nD τ).loc main_arg0)) (ix2 k ⟨1024 * (t.val % 2) + r, by omega⟩) := by
  show iblk m c 0 t (ix2 k r) = m ((c : Thread nD τ).loc main_arg0) _
  blk_ext [iblk, V, idx t]

theorem blk1 (t : Fin cfg0.N) (k : Fin 2048) (e : Fin 2048) (h : 2048 * (t.val / 2) + e.val < 8192) :
    (show Vec Ideal S2048x2048 .bf16 from iblk m c 1 t) (ix2 k e)
      = (show Vec Ideal S2048x8192 .bf16 from m ((c : Thread nD τ).loc main_arg1)) (ix2 k ⟨2048 * (t.val / 2) + e, h⟩) := by
  show iblk m c 1 t (ix2 k e) = m ((c : Thread nD τ).loc main_arg1) _
  blk_ext [iblk, V, idx t]

/-- One product of the body. -/
theorem pay (x : Vec Ideal S2048x1024 .bf16) (y : Vec Ideal S2048x2048 .bf16) (r : Fin 1024) (e : Fin 2048) :
    k0_pay1 x y (ix3 0 r e) = ∑ k : Fin 2048, (show EReal from x (ix2 k r)) * (show EReal from y (ix2 k e)) := by
  pointwise [k0_pay1]

theorem arr_at (b : Fin 4) (r e : Fin 2048) :
    (show Vec Ideal S4x2048x2048 .bf16 from (dats m 0 c).arrAt 2 cfg0.N) (ix3 b r e)
      = grad (m ((c : Thread nD τ).loc main_arg0)) (m ((c : Thread nD τ).loc main_arg1)) b r e := by
  have hN : 2 * b.val + r.val / 1024 < cfg0.N := lt_of_lt_of_eq (by omega) N_0.symm
  set t : Fin cfg0.N := ⟨2 * b.val + r.val / 1024, hN⟩ with ht
  have h := congrFun (blocks2 m c t (flush0_2 t)) (ix3 0 (⟨r.val % 1024, Nat.mod_lt _ (by norm_num)⟩ : Fin 1024) e)
  rw [flushed2] at h
  have e2 : (show Vec Ideal S4x2048x2048 .bf16 from (dats m 0 c).arrAt 2 cfg0.N) (ix3 b r e)
      = ((cfg0.win 2).blk t).view.read (Elt Ideal) ((dats m 0 c).arrAt 2 cfg0.N) (ix3 0 (⟨r.val % 1024, Nat.mod_lt _ (by norm_num)⟩ : Fin 1024) e) := by
    generalize (dats m 0 c).arrAt 2 cfg0.N = arr
    symm
    show ((cfg0.win 2).blk t).view.read (Elt Ideal) arr (ix3 0 (⟨r.val % 1024, Nat.mod_lt _ (by norm_num)⟩ : Fin 1024) e) = arr (ix3 b r e)
    blk_ext [idx t]
    all_goals (have := t.isLt; simp only [ht]; omega)
  rw [e2, h]
  show out0_2 (iblk m c 0 t) (iblk m c 1 t) (ix3 0 (⟨r.val % 1024, Nat.mod_lt _ (by norm_num)⟩ : Fin 1024) e) = _
  unfold out0_2
  frame_out
  refine (pay _ _ _ _).trans (Finset.sum_congr rfl fun k _ => ?_)
  refine congrArg₂ (· * ·) ((blk0 m c t k _).trans ?_) ((blk1 m c t k e (by simp only [ht]; omega)).trans ?_)
  · exact congrArg _ (congrArg (ix2 k) (Fin.ext (by simp only [ht]; omega)))
  · exact congrArg _ (congrArg (ix2 k) (Fin.ext (by simp only [ht]; omega)))

end

section
open Cert.Reference3Ideal Cert.Reference3Ideal.Gen

theorem ref_at (H : Vec Ideal S2048x2048 .bf16) (D : Vec Ideal S2048x8192 .bf16) (b : Fin 4) (r e : Fin 2048) :
    (show FVec Ideal S4x2048x2048 .bf16 from truncf .bf16 (transpose S4x2048x2048 [1, 0, 2] (shapeCast _ (transpose S2048x8192 [1, 0] (Host.dotGeneral dot_S2048x8192_S2048x2048_S8192x2048_0_0_1_1_n_n none (extf .f32 (show FVec Ideal S2048x8192 .bf16 from D) bitsLt_bf16_f32) (extf .f32 (show FVec Ideal S2048x2048 .bf16 from H) bitsLt_bf16_f32)) transposes_S8192x2048_S2048x8192_1_0) shapeCasts_S2048x8192_S2048x4x2048) transposes_S2048x4x2048_S4x2048x2048_1_0_2) bitsLt_bf16_f32) (ix3 b r e)
      = grad H D b r e := by
  pointwise [grad]
  refine Finset.sum_congr rfl fun k _ => ?_
  rw [show (⟨b.val * 2048 + e.val, by omega⟩ : Fin 8192) = ⟨2048 * b.val + e.val, by omega⟩ from Fin.ext (by dsimp only; omega)]
  exact mul_comm (_ : EReal) _

end

/-- The kernel's array is the reference's. -/
theorem meet (m : (ℓ : Loc Cert.Kernel3Ideal.nD Cert.Kernel3Ideal.τ Cert.Kernel3Ideal.sig) → Buf (Elt Ideal) ℓ) (c : Dev Cert.Kernel3Ideal.nD)
    {x : (⟨3, ![4, 2048, 2048]⟩ : Shape).Idx → EReal}
    (hx : ∀ b r e, x (ix3 b r e) = grad (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) b r e) :
    x = (Cert.Kernel3Ideal.Gen.dats m 0 c).arrAt 2 Cert.Kernel3Ideal.cfg0.N := by
  funext i
  obtain ⟨b, r, e, rfl⟩ : ∃ (b : Fin 4) (r e : Fin 2048), i = ix3 b r e := ⟨i 0, i 1, i 2, eq_ix3 i⟩
  exact (hx b r e).trans (arr_at m c b r e).symm

end Cert.Grad3

end
-- ==== Proof.Grad4.lean ====
/- THE BACKWARD PASS OF THE GATED OUTPUT PROJECTION: each element of the kernel's and of the reference's four results,
   from a row of the cotangent, a row of the weights, a gate and the gated value. -/
module

public import proofs.«01_k».proof.Proof.Gen.Kernel4Ideal.Value
public import proofs.«01_k».proof.Proof.Gen.Reference4Ideal.Run
public import proofs.«01_k».proof.Proof.Blocks

@[expose] public section

set_option maxRecDepth 16384

noncomputable section

namespace Cert.Grad4

open Idealize.ShloMosaic Idealize.ShloMosaic.TcCoe Idealize.SL.Sem Cert.Band

/-- The logistic function, as both programs write it. -/
def sg (g : EReal) : EReal := Ideal.div 1 (1 + Ideal.exp (-g))

/-- The gradient of a gated value: of `y * (g * sg g)` by `y`. -/
def dval (s g : EReal) : EReal := s * (g * sg g)

/-- The gradient of a gate: of `y * (g * sg g)` by `g`, as the kernel writes it. -/
def dgate (s y g : EReal) : EReal := s * y * (sg g * (1 + g * (1 - sg g)))

theorem sg_real (g : ℝ) : sg g = ((1 * (1 / (1 + Real.exp (-g))) : ℝ) : EReal) := by
  unfold sg
  rw [← EReal.coe_neg, Ideal.exp_coe, ← EReal.coe_one, ← EReal.coe_add, div_real (by positivity)]

/-- The same as the product rule writes it, over real numbers. -/
theorem dgate_rule (s y g : ℝ) : (y : EReal) * s * sg g + g * (y * s) * (sg g * (1 - sg g)) = dgate s y g := by
  unfold dgate
  rw [sg_real]
  simp only [← EReal.coe_one, ← EReal.coe_mul, ← EReal.coe_sub, ← EReal.coe_add]
  exact congrArg _ (by ring)

/-- A row of the cotangent times a row of the weights. -/
def dmix (X : Vec Ideal (⟨2, ![2048, 2048]⟩ : Shape) .f32) (W : Vec Ideal (⟨2, ![2048, 2048]⟩ : Shape) .bf16) (t j : Fin 2048) : EReal :=
  ∑ k : Fin 2048, (show EReal from X (ix2 t k)) * (show EReal from W (ix2 j k))

section
open Cert.Kernel4Ideal Cert.Kernel4Ideal.Gen Cert.Kernel4Ideal.Value
variable (m : (ℓ : Loc nD τ sig) → Buf (Elt Ideal) ℓ) (c : Dev nD)

/-- The index maps of the ten windows. -/
theorem idx : ∀ t : Fin cfg0.N, win0_0.index t = ![t.val, 0] ∧ win0_1.index t = ![t.val, 0] ∧ win0_2.index t = ![t.val, 0]
    ∧ win0_3.index t = ![t.val, 3] ∧ win0_4.index t = ![t.val, 7] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

theorem blk0 (t : Fin cfg0.N) (r : Fin 256) (e : Fin 2048) (h : 256 * t.val + r.val < 2048) :
    (show Vec Ideal S256x2048 .f32 from iblk m c 0 t) (ix2 r e) = (show Vec Ideal S2048x2048 .f32 from m ((c : Thread nD τ).loc main_arg0)) (ix2 ⟨256 * t.val + r, h⟩ e) := by
  show iblk m c 0 t (ix2 r e) = m ((c : Thread nD τ).loc main_arg0) _
  blk_ext [iblk, V, idx t]

theorem blk1 (t : Fin cfg0.N) (r : Fin 256) (e : Fin 1024) (h : 256 * t.val + r.val < 2048) :
    (show Vec Ideal S256x1024 .f32 from iblk m c 1 t) (ix2 r e) = (show Vec Ideal S2048x1024 .f32 from m ((c : Thread nD τ).loc main_arg1)) (ix2 ⟨256 * t.val + r, h⟩ e) := by
  show iblk m c 1 t (ix2 r e) = m ((c : Thread nD τ).loc main_arg1) _
  blk_ext [iblk, V, idx t]

theorem blk2 (t : Fin cfg0.N) (r : Fin 256) (e : Fin 1024) (h : 256 * t.val + r.val < 2048) :
    (show Vec Ideal S256x1024 .f32 from iblk m c 2 t) (ix2 r e) = (show Vec Ideal S2048x1024 .f32 from m ((c : Thread nD τ).loc main_arg2)) (ix2 ⟨256 * t.val + r, h⟩ e) := by
  show iblk m c 2 t (ix2 r e) = m ((c : Thread nD τ).loc main_arg2) _
  blk_ext [iblk, V, idx t]

theorem blk3 (t : Fin cfg0.N) (r : Fin 256) (e : Fin 1024) (h : 256 * t.val + r.val < 2048) :
    (show Vec Ideal S256x1024 .f32 from iblk m c 3 t) (ix2 r e) = (show Vec Ideal S2048x8192 .f32 from m ((c : Thread nD τ).loc main_arg3)) (ix2 ⟨256 * t.val + r, h⟩ ⟨3072 + e, by omega⟩) := by
  show iblk m c 3 t (ix2 r e) = m ((c : Thread nD τ).loc main_arg3) _
  blk_ext [iblk, V, idx t]

theorem blk4 (t : Fin cfg0.N) (r : Fin 256) (e : Fin 1024) (h : 256 * t.val + r.val < 2048) :
    (show Vec Ideal S256x1024 .f32 from iblk m c 4 t) (ix2 r e) = (show Vec Ideal S2048x8192 .f32 from m ((c : Thread nD τ).loc main_arg3)) (ix2 ⟨256 * t.val + r, h⟩ ⟨7168 + e, by omega⟩) := by
  show iblk m c 4 t (ix2 r e) = m ((c : Thread nD τ).loc main_arg3) _
  blk_ext [iblk, V, idx t]

theorem blk5 (t : Fin cfg0.N) (r e : Fin 2048) :
    (show Vec Ideal S2048x2048 .bf16 from iblk m c 5 t) (ix2 r e) = (show Vec Ideal S2048x2048 .bf16 from m ((c : Thread nD τ).loc main_arg4)) (ix2 r e) := by
  show iblk m c 5 t (ix2 r e) = m ((c : Thread nD τ).loc main_arg4) _
  blk_ext [iblk, V, idx t]

section
variable (x0 : Vec Ideal S256x2048 .f32) (x1 x2 x3 x4 : Vec Ideal S256x1024 .f32) (x5 : Vec Ideal S2048x2048 .bf16) (r : Fin 256) (e : Fin 1024)

theorem out6 : (show Vec Ideal S256x1024 .f32 from out0_6 x0 x1 x2 x3 x4 x5) (ix2 r e)
    = dval (∑ k : Fin 2048, (show EReal from x0 (ix2 r k)) * (show EReal from x5 (ix2 (⟨e, by omega⟩ : Fin 2048) k))) (x3 (ix2 r e)) := by
  show out0_6 x0 x1 x2 x3 x4 x5 (ix2 r e) = _
  unfold_out out0_6
  frame_out
  pointwise [k0_pay7, k0_pay6, k0_pay5, k0_pay4]
  simp only [dval, sg, zero_sub]
theorem out7 : (show Vec Ideal S256x1024 .f32 from out0_7 x0 x1 x2 x3 x4 x5) (ix2 r e)
    = dval (∑ k : Fin 2048, (show EReal from x0 (ix2 r k)) * (show EReal from x5 (ix2 (⟨1024 + e, by omega⟩ : Fin 2048) k))) (x4 (ix2 r e)) := by
  show out0_7 x0 x1 x2 x3 x4 x5 (ix2 r e) = _
  unfold_out out0_7
  frame_out
  pointwise [k0_pay2, k0_pay1, k0_pay9, k0_pay10, k0_pay4]
  simp only [dval, sg, zero_sub]
theorem out8 : (show Vec Ideal S256x1024 .bf16 from out0_8 x0 x1 x2 x3 x4 x5) (ix2 r e)
    = dgate (∑ k : Fin 2048, (show EReal from x0 (ix2 r k)) * (show EReal from x5 (ix2 (⟨e, by omega⟩ : Fin 2048) k))) (x1 (ix2 r e)) (x3 (ix2 r e)) := by
  show out0_8 x0 x1 x2 x3 x4 x5 (ix2 r e) = _
  unfold_out out0_8
  frame_out
  pointwise [k0_pay8, k0_pay6, k0_pay5, k0_pay4]
  simp only [dgate, sg, zero_sub]
theorem out9 : (show Vec Ideal S256x1024 .bf16 from out0_9 x0 x1 x2 x3 x4 x5) (ix2 r e)
    = dgate (∑ k : Fin 2048, (show EReal from x0 (ix2 r k)) * (show EReal from x5 (ix2 (⟨1024 + e, by omega⟩ : Fin 2048) k))) (x2 (ix2 r e)) (x4 (ix2 r e)) := by
  show out0_9 x0 x1 x2 x3 x4 x5 (ix2 r e) = _
  unfold_out out0_9
  frame_out
  pointwise [k0_pay3, k0_pay1, k0_pay9, k0_pay10, k0_pay4]
  simp only [dgate, sg, zero_sub]
end

theorem row_at (t : Fin cfg0.N) (q : Fin 2048) (r : Fin 256) (h : 256 * t.val + r.val < 2048) (hq : 256 * t.val + r.val = q.val) (j : Fin 2048) :
    ∑ k : Fin 2048, (show EReal from (show Vec Ideal S256x2048 .f32 from iblk m c 0 t) (ix2 r k)) * (show EReal from (show Vec Ideal S2048x2048 .bf16 from iblk m c 5 t) (ix2 j k))
      = dmix (m ((c : Thread nD τ).loc main_arg0)) (m ((c : Thread nD τ).loc main_arg4)) q j := by
  refine Finset.sum_congr rfl fun k _ => congrArg₂ (· * ·) ((blk0 m c t r k h).trans ?_) (blk5 m c t j k)
  exact congrArg _ (congrArg (ix2 · k) (Fin.ext hq))

theorem arr6 (q : Fin 2048) (e : Fin 1024) : (show Vec Ideal S2048x1024 .f32 from (dats m 0 c).arrAt 6 cfg0.N) (ix2 q e)
    = dval (dmix (m ((c : Thread nD τ).loc main_arg0)) (m ((c : Thread nD τ).loc main_arg4)) q (⟨e, by omega⟩ : Fin 2048))
        (m ((c : Thread nD τ).loc main_arg3) (ix2 q (⟨3072 + e, by omega⟩ : Fin 8192))) := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks6 m c t (flush0_6 t)) (ix2 (⟨q.val % 256, Nat.mod_lt _ (by norm_num)⟩ : Fin 256) e)
  rw [flushed6] at h
  have e2 : (show Vec Ideal S2048x1024 .f32 from (dats m 0 c).arrAt 6 cfg0.N) (ix2 q e)
      = ((cfg0.win 6).blk t).view.read (Elt Ideal) ((dats m 0 c).arrAt 6 cfg0.N) (ix2 (⟨q.val % 256, Nat.mod_lt _ (by norm_num)⟩ : Fin 256) e) := by
    generalize (dats m 0 c).arrAt 6 cfg0.N = arr
    symm
    show ((cfg0.win 6).blk t).view.read (Elt Ideal) arr (ix2 (⟨q.val % 256, Nat.mod_lt _ (by norm_num)⟩ : Fin 256) e) = arr (ix2 q e)
    blk_ext [idx t]
    all_goals (simp only [ht]; omega)
  rw [e2, h]
  refine (out6 (iblk m c 0 t) (iblk m c 1 t) (iblk m c 2 t) (iblk m c 3 t) (iblk m c 4 t) (iblk m c 5 t) _ e).trans ?_
  have hrow := row_at m c t q ⟨q.val % 256, Nat.mod_lt _ (by norm_num)⟩ (by dsimp only; omega) hr
  have hq : (⟨256 * t.val + q.val % 256, by omega⟩ : Fin 2048) = q := Fin.ext hr
  have hg := blk3 m c t ⟨q.val % 256, Nat.mod_lt _ (by norm_num)⟩ e (by dsimp only; omega)
  dsimp only at hg
  rw [hq] at hg
  exact congr (congrArg dval (hrow _)) hg

theorem arr7 (q : Fin 2048) (e : Fin 1024) : (show Vec Ideal S2048x1024 .f32 from (dats m 0 c).arrAt 7 cfg0.N) (ix2 q e)
    = dval (dmix (m ((c : Thread nD τ).loc main_arg0)) (m ((c : Thread nD τ).loc main_arg4)) q (⟨1024 + e, by omega⟩ : Fin 2048))
        (m ((c : Thread nD τ).loc main_arg3) (ix2 q (⟨7168 + e, by omega⟩ : Fin 8192))) := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks7 m c t (flush0_7 t)) (ix2 (⟨q.val % 256, Nat.mod_lt _ (by norm_num)⟩ : Fin 256) e)
  rw [flushed7] at h
  have e2 : (show Vec Ideal S2048x1024 .f32 from (dats m 0 c).arrAt 7 cfg0.N) (ix2 q e)
      = ((cfg0.win 7).blk t).view.read (Elt Ideal) ((dats m 0 c).arrAt 7 cfg0.N) (ix2 (⟨q.val % 256, Nat.mod_lt _ (by norm_num)⟩ : Fin 256) e) := by
    generalize (dats m 0 c).arrAt 7 cfg0.N = arr
    symm
    show ((cfg0.win 7).blk t).view.read (Elt Ideal) arr (ix2 (⟨q.val % 256, Nat.mod_lt _ (by norm_num)⟩ : Fin 256) e) = arr (ix2 q e)
    blk_ext [idx t]
    all_goals (simp only [ht]; omega)
  rw [e2, h]
  refine (out7 (iblk m c 0 t) (iblk m c 1 t) (iblk m c 2 t) (iblk m c 3 t) (iblk m c 4 t) (iblk m c 5 t) _ e).trans ?_
  have hrow := row_at m c t q ⟨q.val % 256, Nat.mod_lt _ (by norm_num)⟩ (by dsimp only; omega) hr
  have hq : (⟨256 * t.val + q.val % 256, by omega⟩ : Fin 2048) = q := Fin.ext hr
  have hg := blk4 m c t ⟨q.val % 256, Nat.mod_lt _ (by norm_num)⟩ e (by dsimp only; omega)
  dsimp only at hg
  rw [hq] at hg
  exact congr (congrArg dval (hrow _)) hg

theorem arr8 (q : Fin 2048) (e : Fin 1024) : (show Vec Ideal S2048x1024 .bf16 from (dats m 0 c).arrAt 8 cfg0.N) (ix2 q e)
    = dgate (dmix (m ((c : Thread nD τ).loc main_arg0)) (m ((c : Thread nD τ).loc main_arg4)) q (⟨e, by omega⟩ : Fin 2048)) (m ((c : Thread nD τ).loc main_arg1) (ix2 q e))
        (m ((c : Thread nD τ).loc main_arg3) (ix2 q (⟨3072 + e, by omega⟩ : Fin 8192))) := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks8 m c t (flush0_8 t)) (ix2 (⟨q.val % 256, Nat.mod_lt _ (by norm_num)⟩ : Fin 256) e)
  rw [flushed8] at h
  have e2 : (show Vec Ideal S2048x1024 .bf16 from (dats m 0 c).arrAt 8 cfg0.N) (ix2 q e)
      = ((cfg0.win 8).blk t).view.read (Elt Ideal) ((dats m 0 c).arrAt 8 cfg0.N) (ix2 (⟨q.val % 256, Nat.mod_lt _ (by norm_num)⟩ : Fin 256) e) := by
    generalize (dats m 0 c).arrAt 8 cfg0.N = arr
    symm
    show ((cfg0.win 8).blk t).view.read (Elt Ideal) arr (ix2 (⟨q.val % 256, Nat.mod_lt _ (by norm_num)⟩ : Fin 256) e) = arr (ix2 q e)
    blk_ext [idx t]
    all_goals (simp only [ht]; omega)
  rw [e2, h]
  refine (out8 (iblk m c 0 t) (iblk m c 1 t) (iblk m c 2 t) (iblk m c 3 t) (iblk m c 4 t) (iblk m c 5 t) _ e).trans ?_
  have hrow := row_at m c t q ⟨q.val % 256, Nat.mod_lt _ (by norm_num)⟩ (by dsimp only; omega) hr
  have hq : (⟨256 * t.val + q.val % 256, by omega⟩ : Fin 2048) = q := Fin.ext hr
  have hg := blk3 m c t ⟨q.val % 256, Nat.mod_lt _ (by norm_num)⟩ e (by dsimp only; omega)
  have hy := blk1 m c t ⟨q.val % 256, Nat.mod_lt _ (by norm_num)⟩ e (by dsimp only; omega)
  dsimp only at hg hy
  rw [hq] at hg hy
  exact congr (congr (congrArg dgate (hrow _)) hy) hg

theorem arr9 (q : Fin 2048) (e : Fin 1024) : (show Vec Ideal S2048x1024 .bf16 from (dats m 0 c).arrAt 9 cfg0.N) (ix2 q e)
    = dgate (dmix (m ((c : Thread nD τ).loc main_arg0)) (m ((c : Thread nD τ).loc main_arg4)) q (⟨1024 + e, by omega⟩ : Fin 2048)) (m ((c : Thread nD τ).loc main_arg2) (ix2 q e))
        (m ((c : Thread nD τ).loc main_arg3) (ix2 q (⟨7168 + e, by omega⟩ : Fin 8192))) := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks9 m c t (flush0_9 t)) (ix2 (⟨q.val % 256, Nat.mod_lt _ (by norm_num)⟩ : Fin 256) e)
  rw [flushed9] at h
  have e2 : (show Vec Ideal S2048x1024 .bf16 from (dats m 0 c).arrAt 9 cfg0.N) (ix2 q e)
      = ((cfg0.win 9).blk t).view.read (Elt Ideal) ((dats m 0 c).arrAt 9 cfg0.N) (ix2 (⟨q.val % 256, Nat.mod_lt _ (by norm_num)⟩ : Fin 256) e) := by
    generalize (dats m 0 c).arrAt 9 cfg0.N = arr
    symm
    show ((cfg0.win 9).blk t).view.read (Elt Ideal) arr (ix2 (⟨q.val % 256, Nat.mod_lt _ (by norm_num)⟩ : Fin 256) e) = arr (ix2 q e)
    blk_ext [idx t]
    all_goals (simp only [ht]; omega)
  rw [e2, h]
  refine (out9 (iblk m c 0 t) (iblk m c 1 t) (iblk m c 2 t) (iblk m c 3 t) (iblk m c 4 t) (iblk m c 5 t) _ e).trans ?_
  have hrow := row_at m c t q ⟨q.val % 256, Nat.mod_lt _ (by norm_num)⟩ (by dsimp only; omega) hr
  have hq : (⟨256 * t.val + q.val % 256, by omega⟩ : Fin 2048) = q := Fin.ext hr
  have hg := blk4 m c t ⟨q.val % 256, Nat.mod_lt _ (by norm_num)⟩ e (by dsimp only; omega)
  have hy := blk2 m c t ⟨q.val % 256, Nat.mod_lt _ (by norm_num)⟩ e (by dsimp only; omega)
  dsimp only at hg hy
  rw [hq] at hg hy
  exact congr (congr (congrArg dgate (hrow _)) hy) hg

end

section
open Cert.Reference4Ideal Cert.Reference4Ideal.Gen

variable (m0 : FVec Ideal S2048x2048 .f32) (m1 m2 : FVec Ideal S2048x1024 .f32) (m3 : FVec Ideal S2048x8192 .f32) (m4 : FVec Ideal S2048x2048 .bf16)

/-- A row's product over real numbers is real. -/
theorem dmix_real (h0 : ∀ i, (show EReal from m0 i) = ((EReal.toReal (m0 i) : ℝ) : EReal)) (h4 : ∀ i, (show EReal from m4 i) = ((EReal.toReal (m4 i) : ℝ) : EReal)) (t j : Fin 2048) :
    ∃ s : ℝ, dmix m0 m4 t j = s := by
  refine ⟨∑ k : Fin 2048, EReal.toReal (m0 (ix2 t k)) * EReal.toReal (m4 (ix2 j k)), ?_⟩
  rw [coe_sum]
  refine Finset.sum_congr rfl fun k _ => ?_
  rw [EReal.coe_mul, ← h0, ← h4]

theorem ref16 (t : Fin 2048) (e : Fin 1024) :
    (show FVec Ideal S2048x1024 .f32 from mulf (extractStridedSlice S2048x1024 ![0, 0] (Host.dotGeneral dot_S2048x2048_S2048x2048_S2048x2048_1_1_0_0_n_n none m0 (extf .f32 m4 bitsLt_bf16_f32)) slices_S2048x2048_S2048x1024_0_0) (mulf (extractStridedSlice S2048x1024 ![0, 3072] m3 slices_S2048x8192_S2048x1024_0_3072) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 3072] m3 slices_S2048x8192_S2048x1024_0_3072))))))) (ix2 t e) = dval (dmix m0 m4 t (⟨e, by omega⟩ : Fin 2048)) (m3 (ix2 t (⟨3072 + e, by omega⟩ : Fin 8192))) := by
  pointwise [dval, sg, dmix]

theorem ref13 (t : Fin 2048) (e : Fin 1024) :
    (show FVec Ideal S2048x1024 .f32 from mulf (extractStridedSlice S2048x1024 ![0, 1024] (Host.dotGeneral dot_S2048x2048_S2048x2048_S2048x2048_1_1_0_0_n_n none m0 (extf .f32 m4 bitsLt_bf16_f32)) slices_S2048x2048_S2048x1024_0_1024) (mulf (extractStridedSlice S2048x1024 ![0, 7168] m3 slices_S2048x8192_S2048x1024_0_7168) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 7168] m3 slices_S2048x8192_S2048x1024_0_7168))))))) (ix2 t e) = dval (dmix m0 m4 t (⟨1024 + e, by omega⟩ : Fin 2048)) (m3 (ix2 t (⟨7168 + e, by omega⟩ : Fin 8192))) := by
  pointwise [dval, sg, dmix]

theorem ref18 (t : Fin 2048) (e : Fin 1024)
    (h0 : ∀ i, (show EReal from m0 i) = ((EReal.toReal (m0 i) : ℝ) : EReal)) (h1 : ∀ i, (show EReal from m1 i) = ((EReal.toReal (m1 i) : ℝ) : EReal))
    (h3 : ∀ i, (show EReal from m3 i) = ((EReal.toReal (m3 i) : ℝ) : EReal)) (h4 : ∀ i, (show EReal from m4 i) = ((EReal.toReal (m4 i) : ℝ) : EReal)) :
    (show FVec Ideal S2048x1024 .bf16 from truncf .bf16 (addf (mulf (mulf m1 (extractStridedSlice S2048x1024 ![0, 0] (Host.dotGeneral dot_S2048x2048_S2048x2048_S2048x2048_1_1_0_0_n_n none m0 (extf .f32 m4 bitsLt_bf16_f32)) slices_S2048x2048_S2048x1024_0_0)) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 3072] m3 slices_S2048x8192_S2048x1024_0_3072)))))) (mulf (mulf (extractStridedSlice S2048x1024 ![0, 3072] m3 slices_S2048x8192_S2048x1024_0_3072) (mulf m1 (extractStridedSlice S2048x1024 ![0, 0] (Host.dotGeneral dot_S2048x2048_S2048x2048_S2048x2048_1_1_0_0_n_n none m0 (extf .f32 m4 bitsLt_bf16_f32)) slices_S2048x2048_S2048x1024_0_0))) (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 3072] m3 slices_S2048x8192_S2048x1024_0_3072))))) (subf (broadcastInDim S2048x1024 ![] bcast_S_S2048x1024 (constant S_ .f32 0x3F800000#32)) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 3072] m3 slices_S2048x8192_S2048x1024_0_3072))))))))) bitsLt_bf16_f32) (ix2 t e) = dgate (dmix m0 m4 t (⟨e, by omega⟩ : Fin 2048)) (m1 (ix2 t e)) (m3 (ix2 t (⟨3072 + e, by omega⟩ : Fin 8192))) := by
  obtain ⟨s, hs⟩ := dmix_real m0 m4 h0 h4 t (⟨e, by omega⟩ : Fin 2048)
  have E := dgate_rule s (EReal.toReal (m1 (ix2 t e))) (EReal.toReal (m3 (ix2 t (⟨3072 + e, by omega⟩ : Fin 8192))))
  rw [← hs, ← h1, ← h3] at E
  refine Eq.trans ?_ E
  pointwise [sg, dmix]

theorem ref19 (t : Fin 2048) (e : Fin 1024)
    (h0 : ∀ i, (show EReal from m0 i) = ((EReal.toReal (m0 i) : ℝ) : EReal)) (h2 : ∀ i, (show EReal from m2 i) = ((EReal.toReal (m2 i) : ℝ) : EReal))
    (h3 : ∀ i, (show EReal from m3 i) = ((EReal.toReal (m3 i) : ℝ) : EReal)) (h4 : ∀ i, (show EReal from m4 i) = ((EReal.toReal (m4 i) : ℝ) : EReal)) :
    (show FVec Ideal S2048x1024 .bf16 from truncf .bf16 (addf (mulf (mulf m2 (extractStridedSlice S2048x1024 ![0, 1024] (Host.dotGeneral dot_S2048x2048_S2048x2048_S2048x2048_1_1_0_0_n_n none m0 (extf .f32 m4 bitsLt_bf16_f32)) slices_S2048x2048_S2048x1024_0_1024)) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 7168] m3 slices_S2048x8192_S2048x1024_0_7168)))))) (mulf (mulf (extractStridedSlice S2048x1024 ![0, 7168] m3 slices_S2048x8192_S2048x1024_0_7168) (mulf m2 (extractStridedSlice S2048x1024 ![0, 1024] (Host.dotGeneral dot_S2048x2048_S2048x2048_S2048x2048_1_1_0_0_n_n none m0 (extf .f32 m4 bitsLt_bf16_f32)) slices_S2048x2048_S2048x1024_0_1024))) (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 7168] m3 slices_S2048x8192_S2048x1024_0_7168))))) (subf (broadcastInDim S2048x1024 ![] bcast_S_S2048x1024 (constant S_ .f32 0x3F800000#32)) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 7168] m3 slices_S2048x8192_S2048x1024_0_7168))))))))) bitsLt_bf16_f32) (ix2 t e) = dgate (dmix m0 m4 t (⟨1024 + e, by omega⟩ : Fin 2048)) (m2 (ix2 t e)) (m3 (ix2 t (⟨7168 + e, by omega⟩ : Fin 8192))) := by
  obtain ⟨s, hs⟩ := dmix_real m0 m4 h0 h4 t (⟨1024 + e, by omega⟩ : Fin 2048)
  have E := dgate_rule s (EReal.toReal (m2 (ix2 t e))) (EReal.toReal (m3 (ix2 t (⟨7168 + e, by omega⟩ : Fin 8192))))
  rw [← hs, ← h2, ← h3] at E
  refine Eq.trans ?_ E
  pointwise [sg, dmix]

end

end Cert.Grad4

end
-- ==== Proof.Grad5.lean ====
/- THE GRADIENT OF THE OUTPUT PROJECTION'S WEIGHTS: each element of the kernel's and of the reference's result is the
   product of a column of the gated rows with a column of the cotangent. -/
module

public import proofs.«01_k».proof.Proof.Gen.Kernel5Ideal.Value
public import proofs.«01_k».proof.Proof.Gen.Reference5Ideal.Run
public import proofs.«01_k».proof.Proof.Blocks

@[expose] public section

set_option maxRecDepth 16384

noncomputable section

namespace Cert.Grad5

open Idealize.ShloMosaic Idealize.ShloMosaic.TcCoe Idealize.SL.Sem Cert.Band

/-- Element `(b, r, e)` of the weight gradient, cut into four row blocks: `∑ k, x k (512 b + r) * d k e`. -/
def grad (X : Vec Ideal (⟨2, ![2048, 2048]⟩ : Shape) .bf16) (D : Vec Ideal (⟨2, ![2048, 2048]⟩ : Shape) .f32) (b : Fin 4) (r : Fin 512) (e : Fin 2048) : EReal :=
  ∑ k : Fin 2048, (show EReal from X (ix2 k (⟨512 * b + r, by omega⟩ : Fin 2048))) * (show EReal from D (ix2 k e))

section
open Cert.Kernel5Ideal Cert.Kernel5Ideal.Gen Cert.Kernel5Ideal.Value
variable (m : (ℓ : Loc nD τ sig) → Buf (Elt Ideal) ℓ) (c : Dev nD)

/-- The index maps of the three windows. -/
theorem idx : ∀ t : Fin cfg0.N, win0_0.index t = ![0, t.val % 4] ∧ win0_1.index t = ![0, t.val / 4] ∧ win0_2.index t = ![t.val % 4, 0, t.val / 4] :=
  (by decide +kernel : ∀ t : Fin grid0.N, _)

theorem blk0 (t : Fin cfg0.N) (k : Fin 2048) (r : Fin 512) :
    (show Vec Ideal S2048x512 .bf16 from iblk m c 0 t) (ix2 k r)
      = (show Vec Ideal S2048x2048 .bf16 from m ((c : Thread nD τ).loc main_arg0)) (ix2 k ⟨512 * (t.val % 4) + r, by omega⟩) := by
  show iblk m c 0 t (ix2 k r) = m ((c : Thread nD τ).loc main_arg0) _
  blk_ext [iblk, V, idx t]

theorem blk1 (t : Fin cfg0.N) (k : Fin 2048) (e : Fin 1024) (h : 1024 * (t.val / 4) + e.val < 2048) :
    (show Vec Ideal S2048x1024 .f32 from iblk m c 1 t) (ix2 k e)
      = (show Vec Ideal S2048x2048 .f32 from m ((c : Thread nD τ).loc main_arg1)) (ix2 k ⟨1024 * (t.val / 4) + e, h⟩) := by
  show iblk m c 1 t (ix2 k e) = m ((c : Thread nD τ).loc main_arg1) _
  blk_ext [iblk, V, idx t]

/-- One product of the body. -/
theorem pay (x : Vec Ideal S2048x512 .bf16) (y : Vec Ideal S2048x1024 .f32) (r : Fin 512) (e : Fin 1024) :
    k0_pay1 x y (ix3 0 r e) = ∑ k : Fin 2048, (show EReal from x (ix2 k r)) * (show EReal from y (ix2 k e)) := by
  pointwise [k0_pay1]

theorem arr_at (b : Fin 4) (r : Fin 512) (e : Fin 2048) :
    (show Vec Ideal S4x512x2048 .bf16 from (dats m 0 c).arrAt 2 cfg0.N) (ix3 b r e)
      = grad (m ((c : Thread nD τ).loc main_arg0)) (m ((c : Thread nD τ).loc main_arg1)) b r e := by
  have hN : 4 * (e.val / 1024) + b.val < cfg0.N := lt_of_lt_of_eq (by omega) N_0.symm
  set t : Fin cfg0.N := ⟨4 * (e.val / 1024) + b.val, hN⟩ with ht
  have h := congrFun (blocks2 m c t (flush0_2 t)) (ix3 0 r (⟨e.val % 1024, Nat.mod_lt _ (by norm_num)⟩ : Fin 1024))
  rw [flushed2] at h
  have e2 : (show Vec Ideal S4x512x2048 .bf16 from (dats m 0 c).arrAt 2 cfg0.N) (ix3 b r e)
      = ((cfg0.win 2).blk t).view.read (Elt Ideal) ((dats m 0 c).arrAt 2 cfg0.N) (ix3 0 r (⟨e.val % 1024, Nat.mod_lt _ (by norm_num)⟩ : Fin 1024)) := by
    generalize (dats m 0 c).arrAt 2 cfg0.N = arr
    symm
    show ((cfg0.win 2).blk t).view.read (Elt Ideal) arr (ix3 0 r (⟨e.val % 1024, Nat.mod_lt _ (by norm_num)⟩ : Fin 1024)) = arr (ix3 b r e)
    blk_ext [idx t]
    all_goals (have := t.isLt; simp only [ht]; omega)
  rw [e2, h]
  show out0_2 (iblk m c 0 t) (iblk m c 1 t) (ix3 0 r (⟨e.val % 1024, Nat.mod_lt _ (by norm_num)⟩ : Fin 1024)) = _
  unfold out0_2
  frame_out
  refine (pay _ _ _ _).trans (Finset.sum_congr rfl fun k _ => ?_)
  refine congrArg₂ (· * ·) ((blk0 m c t k _).trans ?_) ((blk1 m c t k _ (by simp only [ht]; omega)).trans ?_)
  · exact congrArg _ (congrArg (ix2 k) (Fin.ext (by simp only [ht]; omega)))
  · exact congrArg _ (congrArg (ix2 k) (Fin.ext (by simp only [ht]; omega)))

end

section
open Cert.Reference5Ideal Cert.Reference5Ideal.Gen

theorem ref_at (X : Vec Ideal S2048x2048 .bf16) (D : Vec Ideal S2048x2048 .f32) (b : Fin 4) (r : Fin 512) (e : Fin 2048) :
    (show FVec Ideal S4x512x2048 .bf16 from truncf .bf16 (shapeCast _ (transpose S2048x2048 [1, 0] (Host.dotGeneral dot_S2048x2048_S2048x2048_S2048x2048_0_0_1_1_n_n none (show FVec Ideal S2048x2048 .f32 from D) (extf .f32 (show FVec Ideal S2048x2048 .bf16 from X) bitsLt_bf16_f32)) transposes_S2048x2048_S2048x2048_1_0) shapeCasts_S2048x2048_S4x512x2048) bitsLt_bf16_f32) (ix3 b r e)
      = grad X D b r e := by
  pointwise [grad]
  refine Finset.sum_congr rfl fun k _ => ?_
  rw [show (⟨b.val * 512 + r.val, by omega⟩ : Fin 2048) = ⟨512 * b.val + r.val, by omega⟩ from Fin.ext (by dsimp only; omega)]
  exact mul_comm (_ : EReal) _

end

/-- The kernel's array is the reference's. -/
theorem meet (m : (ℓ : Loc Cert.Kernel5Ideal.nD Cert.Kernel5Ideal.τ Cert.Kernel5Ideal.sig) → Buf (Elt Ideal) ℓ) (c : Dev Cert.Kernel5Ideal.nD)
    {x : (⟨3, ![4, 512, 2048]⟩ : Shape).Idx → EReal}
    (hx : ∀ b r e, x (ix3 b r e) = grad (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) b r e) :
    x = (Cert.Kernel5Ideal.Gen.dats m 0 c).arrAt 2 Cert.Kernel5Ideal.cfg0.N := by
  funext i
  obtain ⟨b, r, e, rfl⟩ : ∃ (b : Fin 4) (r : Fin 512) (e : Fin 2048), i = ix3 b r e := ⟨i 0, i 1, i 2, eq_ix3 i⟩
  exact (hx b r e).trans (arr_at m c b r e).symm

end Cert.Grad5

end
-- ==== Proof.Grad6.lean ====
/- THE GATED OUTPUT PROJECTION, FORWARD: each element of the kernel's and of the reference's three results, from the
   gated values of a row, the weights, the residual row and the gain of the norm. -/
module

public import proofs.«01_k».proof.Proof.Gen.Kernel6Ideal.Value
public import proofs.«01_k».proof.Proof.Gen.Reference6Ideal.Run
public import proofs.«01_k».proof.Proof.Grad4

@[expose] public section

set_option maxRecDepth 16384

noncomputable section

namespace Cert.Grad6

open Idealize.ShloMosaic Idealize.ShloMosaic.TcCoe Idealize.SL.Sem Cert.Band Cert.Grad4

/-- A gated value. -/
def gv (y g : EReal) : EReal := y * (g * sg g)

section
variable (YA YB : Vec Ideal (⟨2, ![2048, 1024]⟩ : Shape) .f32) (P : Vec Ideal (⟨2, ![2048, 8192]⟩ : Shape) .f32)

/-- The gated values of the left half of a row. -/
def mixL (t : Fin 2048) (e : Fin 1024) : EReal := gv (YA (ix2 t e)) (P (ix2 t (⟨3072 + e, by omega⟩ : Fin 8192)))

/-- The gated values of the right half of a row. -/
def mixR (t : Fin 2048) (e : Fin 1024) : EReal := gv (YB (ix2 t e)) (P (ix2 t (⟨7168 + e, by omega⟩ : Fin 8192)))
end

/-- The residual plus a row of gated values times a column of the weights. -/
def aft (x : EReal) (a b : Fin 1024 → EReal) (W : Vec Ideal (⟨2, ![2048, 2048]⟩ : Shape) .bf16) (j : Fin 2048) : EReal :=
  x + ∑ k : Fin 1024, a k * (show EReal from W (ix2 (⟨k, by omega⟩ : Fin 2048) j))
    + ∑ k : Fin 1024, b k * (show EReal from W (ix2 (⟨1024 + k, by omega⟩ : Fin 2048) j))

/-- A row divided by its root mean square, times the gain. -/
def nrm (a : Fin 2048 → EReal) (g : EReal) (e : Fin 2048) : EReal :=
  a e * Ideal.rsqrt (Ideal.div (∑ k : Fin 2048, a k * a k) (Ideal.ofBits .f32 0x45000000#32) + Ideal.ofBits .f32 0x358637BD#32) * g

theorem sum_halves (f : Fin 2048 → EReal) :
    ∑ k, f k = ∑ k : Fin 1024, f (⟨k, by omega⟩ : Fin 2048) + ∑ k : Fin 1024, f (⟨1024 + k, by omega⟩ : Fin 2048) :=
  Fin.sum_univ_add (a := 1024) (b := 1024) f

section
open Cert.Kernel6Ideal Cert.Kernel6Ideal.Gen Cert.Kernel6Ideal.Value
variable (m : (ℓ : Loc nD τ sig) → Buf (Elt Ideal) ℓ) (c : Dev nD)

/-- The index maps of the ten windows. -/
theorem idx : ∀ t : Fin cfg0.N, win0_0.index t = ![t.val, 0] ∧ win0_1.index t = ![t.val, 0] ∧ win0_2.index t = ![t.val, 0]
    ∧ win0_3.index t = ![t.val, 3] ∧ win0_4.index t = ![t.val, 7] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

theorem blk0 (t : Fin cfg0.N) (q : Fin 2048) (r : Fin 256) (e : Fin 2048) (h : 256 * t.val + r.val = q.val) :
    (show Vec Ideal S256x2048 .f32 from iblk m c 0 t) (ix2 r e) = (show Vec Ideal S2048x2048 .f32 from m ((c : Thread nD τ).loc main_arg0)) (ix2 q e) := by
  obtain ⟨q, hq⟩ := q
  obtain rfl : 256 * t.val + r.val = q := h
  show iblk m c 0 t (ix2 r e) = m ((c : Thread nD τ).loc main_arg0) _
  blk_ext [iblk, V, idx t]

theorem blk1 (t : Fin cfg0.N) (q : Fin 2048) (r : Fin 256) (e : Fin 1024) (h : 256 * t.val + r.val = q.val) :
    (show Vec Ideal S256x1024 .f32 from iblk m c 1 t) (ix2 r e) = (show Vec Ideal S2048x1024 .f32 from m ((c : Thread nD τ).loc main_arg1)) (ix2 q e) := by
  obtain ⟨q, hq⟩ := q
  obtain rfl : 256 * t.val + r.val = q := h
  show iblk m c 1 t (ix2 r e) = m ((c : Thread nD τ).loc main_arg1) _
  blk_ext [iblk, V, idx t]

theorem blk2 (t : Fin cfg0.N) (q : Fin 2048) (r : Fin 256) (e : Fin 1024) (h : 256 * t.val + r.val = q.val) :
    (show Vec Ideal S256x1024 .f32 from iblk m c 2 t) (ix2 r e) = (show Vec Ideal S2048x1024 .f32 from m ((c : Thread nD τ).loc main_arg2)) (ix2 q e) := by
  obtain ⟨q, hq⟩ := q
  obtain rfl : 256 * t.val + r.val = q := h
  show iblk m c 2 t (ix2 r e) = m ((c : Thread nD τ).loc main_arg2) _
  blk_ext [iblk, V, idx t]

theorem blk3 (t : Fin cfg0.N) (q : Fin 2048) (r : Fin 256) (e : Fin 1024) (h : 256 * t.val + r.val = q.val) :
    (show Vec Ideal S256x1024 .f32 from iblk m c 3 t) (ix2 r e) = (show Vec Ideal S2048x8192 .f32 from m ((c : Thread nD τ).loc main_arg3)) (ix2 q ⟨3072 + e, by omega⟩) := by
  obtain ⟨q, hq⟩ := q
  obtain rfl : 256 * t.val + r.val = q := h
  show iblk m c 3 t (ix2 r e) = m ((c : Thread nD τ).loc main_arg3) _
  blk_ext [iblk, V, idx t]

theorem blk4 (t : Fin cfg0.N) (q : Fin 2048) (r : Fin 256) (e : Fin 1024) (h : 256 * t.val + r.val = q.val) :
    (show Vec Ideal S256x1024 .f32 from iblk m c 4 t) (ix2 r e) = (show Vec Ideal S2048x8192 .f32 from m ((c : Thread nD τ).loc main_arg3)) (ix2 q ⟨7168 + e, by omega⟩) := by
  obtain ⟨q, hq⟩ := q
  obtain rfl : 256 * t.val + r.val = q := h
  show iblk m c 4 t (ix2 r e) = m ((c : Thread nD τ).loc main_arg3) _
  blk_ext [iblk, V, idx t]

theorem blk5 (t : Fin cfg0.N) (r e : Fin 2048) :
    (show Vec Ideal S2048x2048 .bf16 from iblk m c 5 t) (ix2 r e) = (show Vec Ideal S2048x2048 .bf16 from m ((c : Thread nD τ).loc main_arg4)) (ix2 r e) := by
  show iblk m c 5 t (ix2 r e) = m ((c : Thread nD τ).loc main_arg4) _
  blk_ext [iblk, V, idx t]

theorem blk6 (t : Fin cfg0.N) (r : Fin 1) (e : Fin 2048) :
    (show Vec Ideal S1x2048 .f32 from iblk m c 6 t) (ix2 r e) = (show Vec Ideal S1x2048 .f32 from m ((c : Thread nD τ).loc main_arg5)) (ix2 r e) := by
  show iblk m c 6 t (ix2 r e) = m ((c : Thread nD τ).loc main_arg5) _
  blk_ext [iblk, V, idx t]

section
variable (x0 : Vec Ideal S256x2048 .f32) (x1 x2 x3 x4 : Vec Ideal S256x1024 .f32) (x5 : Vec Ideal S2048x2048 .bf16) (x6 : Vec Ideal S1x2048 .f32) (r : Fin 256)

theorem pay3 (y g : Vec Ideal S256x1024 .f32) (e : Fin 1024) : k0_pay3 y g (ix2 r e) = gv (y (ix2 r e)) (g (ix2 r e)) := by
  pointwise [k0_pay3]
  simp only [gv, sg, zero_sub]

theorem pay4 (y g : Vec Ideal S256x1024 .f32) (e : Fin 1024) : k0_pay4 y g (ix2 r e) = gv (y (ix2 r e)) (g (ix2 r e)) := by
  pointwise [k0_pay4]
  simp only [gv, sg, zero_sub]

theorem out7l (e : Fin 1024) : (show Vec Ideal S256x2048 .bf16 from out0_7 x0 x1 x2 x3 x4 x5 x6) (ix2 r (⟨e, by omega⟩ : Fin 2048))
    = gv (x1 (ix2 r e)) (x3 (ix2 r e)) := by
  show out0_7 x0 x1 x2 x3 x4 x5 x6 (ix2 r _) = _
  unfold_out out0_7
  refine (View.canon_cons_of_not_mem _ _ fun hm => ?_).trans ?_
  · have := ((Rect.mem_set_unit (s := S256x2048) (inb := inb_S256x2048_S256x1024_0_1024)).1 hm (1 : Fin 2)).1
    have : 1024 ≤ e.val := this
    omega
  · have hj : ix2 r (⟨e, by omega⟩ : Fin 2048) = r0_1.emb (ix2 r e) := by
      funext a
      refine Fin.ext ?_
      match a with
      | ⟨0, _⟩ => show r.val = 0 + 1 * r.val; omega
      | ⟨1, _⟩ => show e.val = 0 + 1 * e.val; omega
    rw [hj]
    refine (View.canon_cons_emb r0_1 _ _ _).trans ((pay3 r _ _ e).trans ?_)
    pointwise []

theorem out7r (e : Fin 1024) : (show Vec Ideal S256x2048 .bf16 from out0_7 x0 x1 x2 x3 x4 x5 x6) (ix2 r (⟨1024 + e, by omega⟩ : Fin 2048))
    = gv (x2 (ix2 r e)) (x4 (ix2 r e)) := by
  show out0_7 x0 x1 x2 x3 x4 x5 x6 (ix2 r _) = _
  unfold_out out0_7
  have hj : ix2 r (⟨1024 + e, by omega⟩ : Fin 2048) = r0_2.emb (ix2 r e) := by
    funext a
    refine Fin.ext ?_
    match a with
    | ⟨0, _⟩ => show r.val = 0 + 1 * r.val; omega
    | ⟨1, _⟩ => show 1024 + e.val = 1024 + 1 * e.val; omega
  rw [hj]
  refine (View.canon_cons_emb r0_2 _ _ _).trans ((pay4 r _ _ e).trans ?_)
  pointwise []

/-- The residual stream after the projection, at a row of a block. -/
def arow (e : Fin 2048) : EReal := aft (x0 (ix2 r e)) (fun k => gv (x1 (ix2 r k)) (x3 (ix2 r k))) (fun k => gv (x2 (ix2 r k)) (x4 (ix2 r k))) x5 e

theorem pay1 (e : Fin 2048) : k0_pay1 (k0_pay4 x2 x4) (k0_pay5 x1 x3 x0 (View.ld x5 r0_4)) (View.ld x5 r0_5) (constant S256x2048 .f32 0x00000000#32) (ix2 r e) = arow x0 x1 x2 x3 x4 x5 r e := by
  pointwise [k0_pay1, k0_pay5, pay3, pay4]
  simp only [arow, aft]

theorem out8 (e : Fin 2048) : (show Vec Ideal S256x2048 .f32 from out0_8 x0 x1 x2 x3 x4 x5 x6) (ix2 r e) = arow x0 x1 x2 x3 x4 x5 r e := by
  show out0_8 x0 x1 x2 x3 x4 x5 x6 (ix2 r e) = _
  unfold_out out0_8
  frame_out
  exact pay1 x0 x1 x2 x3 x4 x5 r e

theorem out9 (e : Fin 2048) : (show Vec Ideal S256x2048 .bf16 from out0_9 x0 x1 x2 x3 x4 x5 x6) (ix2 r e) = nrm (arow x0 x1 x2 x3 x4 x5 r) (x6 (ix2 0 e)) e := by
  show out0_9 x0 x1 x2 x3 x4 x5 x6 (ix2 r e) = _
  unfold_out out0_9
  frame_out
  pointwise [k0_pay2, pay1]
  rfl
end
end

/-- The residual stream after the projection, of the argument arrays. -/
def afterRow (x : Vec Ideal (⟨2, ![2048, 2048]⟩ : Shape) .f32) (YA YB : Vec Ideal (⟨2, ![2048, 1024]⟩ : Shape) .f32) (P : Vec Ideal (⟨2, ![2048, 8192]⟩ : Shape) .f32) (W : Vec Ideal (⟨2, ![2048, 2048]⟩ : Shape) .bf16) (q e : Fin 2048) : EReal :=
  aft (x (ix2 q e)) (mixL YA P q) (mixR YB P q) W e

section
open Cert.Kernel6Ideal Cert.Kernel6Ideal.Gen Cert.Kernel6Ideal.Value
variable (m : (ℓ : Loc nD τ sig) → Buf (Elt Ideal) ℓ) (c : Dev nD)

theorem afterRow_congr {x x' : Vec Ideal (⟨2, ![2048, 2048]⟩ : Shape) .f32} {YA YA' YB YB' : Vec Ideal (⟨2, ![2048, 1024]⟩ : Shape) .f32} {P P' : Vec Ideal (⟨2, ![2048, 8192]⟩ : Shape) .f32} {W W' : Vec Ideal (⟨2, ![2048, 2048]⟩ : Shape) .bf16}
    (e0 : x = x') (e1 : YA = YA') (e2 : YB = YB') (e3 : P = P') (e4 : W = W') : afterRow x YA YB P W = afterRow x' YA' YB' P' W' := by
  subst e0 e1 e2 e3 e4; rfl

theorem nrm_congr {a a' : Fin 2048 → EReal} {g g' : Vec Ideal (⟨2, ![1, 2048]⟩ : Shape) .f32} (ea : a = a') (eg : g = g') (e : Fin 2048) :
    nrm a (g (ix2 0 e)) e = nrm a' (g' (ix2 0 e)) e := by
  subst ea eg; rfl

theorem row_at (t : Fin cfg0.N) (q : Fin 2048) (r : Fin 256) (h : 256 * t.val + r.val = q.val) (e : Fin 2048) :
    arow (iblk m c 0 t) (iblk m c 1 t) (iblk m c 2 t) (iblk m c 3 t) (iblk m c 4 t) (iblk m c 5 t) r e
      = afterRow (m ((c : Thread nD τ).loc main_arg0)) (m ((c : Thread nD τ).loc main_arg1)) (m ((c : Thread nD τ).loc main_arg2)) (m ((c : Thread nD τ).loc main_arg3)) (m ((c : Thread nD τ).loc main_arg4)) q e := by
  have h0 := blk0 m c t q r e h
  have h1 := fun k => blk1 m c t q r k h
  have h2 := fun k => blk2 m c t q r k h
  have h3 := fun k => blk3 m c t q r k h
  have h4 := fun k => blk4 m c t q r k h
  have h5 := fun k j => blk5 m c t k j
  unfold arow afterRow aft mixL mixR
  refine congrArg₂ (· + ·) (congrArg₂ (· + ·) h0 ?_) ?_
  · exact Finset.sum_congr rfl fun k _ => congrArg₂ (· * ·) (congrArg₂ gv (h1 k) (h3 k)) (h5 _ _)
  · exact Finset.sum_congr rfl fun k _ => congrArg₂ (· * ·) (congrArg₂ gv (h2 k) (h4 k)) (h5 _ _)

theorem arr7l (q : Fin 2048) (e : Fin 1024) : (show Vec Ideal S2048x2048 .bf16 from (dats m 0 c).arrAt 7 cfg0.N) (ix2 q (⟨e, by omega⟩ : Fin 2048))
    = mixL (m ((c : Thread nD τ).loc main_arg1)) (m ((c : Thread nD τ).loc main_arg3)) q e := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks7 m c t (flush0_7 t)) (ix2 (⟨q.val % 256, Nat.mod_lt _ (by norm_num)⟩ : Fin 256) (⟨e, by omega⟩ : Fin 2048))
  rw [flushed7] at h
  have e2 : (show Vec Ideal S2048x2048 .bf16 from (dats m 0 c).arrAt 7 cfg0.N) (ix2 q (⟨e, by omega⟩ : Fin 2048))
      = ((cfg0.win 7).blk t).view.read (Elt Ideal) ((dats m 0 c).arrAt 7 cfg0.N) (ix2 (⟨q.val % 256, Nat.mod_lt _ (by norm_num)⟩ : Fin 256) (⟨e, by omega⟩ : Fin 2048)) := by
    generalize (dats m 0 c).arrAt 7 cfg0.N = arr
    symm
    show ((cfg0.win 7).blk t).view.read (Elt Ideal) arr (ix2 (⟨q.val % 256, Nat.mod_lt _ (by norm_num)⟩ : Fin 256) (⟨e, by omega⟩ : Fin 2048)) = arr (ix2 q (⟨e, by omega⟩ : Fin 2048))
    blk_ext [idx t]
    all_goals (simp only [ht]; omega)
  rw [e2, h]
  refine (out7l (iblk m c 0 t) (iblk m c 1 t) (iblk m c 2 t) (iblk m c 3 t) (iblk m c 4 t) (iblk m c 5 t) (iblk m c 6 t) ⟨q.val % 256, Nat.mod_lt _ (by norm_num)⟩ e).trans ?_
  exact congrArg₂ gv (blk1 m c t q _ e hr) (blk3 m c t q _ e hr)

theorem arr7r (q : Fin 2048) (e : Fin 1024) : (show Vec Ideal S2048x2048 .bf16 from (dats m 0 c).arrAt 7 cfg0.N) (ix2 q (⟨1024 + e, by omega⟩ : Fin 2048))
    = mixR (m ((c : Thread nD τ).loc main_arg2)) (m ((c : Thread nD τ).loc main_arg3)) q e := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks7 m c t (flush0_7 t)) (ix2 (⟨q.val % 256, Nat.mod_lt _ (by norm_num)⟩ : Fin 256) (⟨1024 + e, by omega⟩ : Fin 2048))
  rw [flushed7] at h
  have e2 : (show Vec Ideal S2048x2048 .bf16 from (dats m 0 c).arrAt 7 cfg0.N) (ix2 q (⟨1024 + e, by omega⟩ : Fin 2048))
      = ((cfg0.win 7).blk t).view.read (Elt Ideal) ((dats m 0 c).arrAt 7 cfg0.N) (ix2 (⟨q.val % 256, Nat.mod_lt _ (by norm_num)⟩ : Fin 256) (⟨1024 + e, by omega⟩ : Fin 2048)) := by
    generalize (dats m 0 c).arrAt 7 cfg0.N = arr
    symm
    show ((cfg0.win 7).blk t).view.read (Elt Ideal) arr (ix2 (⟨q.val % 256, Nat.mod_lt _ (by norm_num)⟩ : Fin 256) (⟨1024 + e, by omega⟩ : Fin 2048)) = arr (ix2 q (⟨1024 + e, by omega⟩ : Fin 2048))
    blk_ext [idx t]
    all_goals (simp only [ht]; omega)
  rw [e2, h]
  refine (out7r (iblk m c 0 t) (iblk m c 1 t) (iblk m c 2 t) (iblk m c 3 t) (iblk m c 4 t) (iblk m c 5 t) (iblk m c 6 t) ⟨q.val % 256, Nat.mod_lt _ (by norm_num)⟩ e).trans ?_
  exact congrArg₂ gv (blk2 m c t q _ e hr) (blk4 m c t q _ e hr)

theorem arr8 (q : Fin 2048) (e : Fin 2048) : (show Vec Ideal S2048x2048 .f32 from (dats m 0 c).arrAt 8 cfg0.N) (ix2 q e)
    = afterRow (m ((c : Thread nD τ).loc main_arg0)) (m ((c : Thread nD τ).loc main_arg1)) (m ((c : Thread nD τ).loc main_arg2)) (m ((c : Thread nD τ).loc main_arg3)) (m ((c : Thread nD τ).loc main_arg4)) q e := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks8 m c t (flush0_8 t)) (ix2 (⟨q.val % 256, Nat.mod_lt _ (by norm_num)⟩ : Fin 256) e)
  rw [flushed8] at h
  have e2 : (show Vec Ideal S2048x2048 .f32 from (dats m 0 c).arrAt 8 cfg0.N) (ix2 q e)
      = ((cfg0.win 8).blk t).view.read (Elt Ideal) ((dats m 0 c).arrAt 8 cfg0.N) (ix2 (⟨q.val % 256, Nat.mod_lt _ (by norm_num)⟩ : Fin 256) e) := by
    generalize (dats m 0 c).arrAt 8 cfg0.N = arr
    symm
    show ((cfg0.win 8).blk t).view.read (Elt Ideal) arr (ix2 (⟨q.val % 256, Nat.mod_lt _ (by norm_num)⟩ : Fin 256) e) = arr (ix2 q e)
    blk_ext [idx t]
    all_goals (simp only [ht]; omega)
  rw [e2, h]
  exact (out8 (iblk m c 0 t) (iblk m c 1 t) (iblk m c 2 t) (iblk m c 3 t) (iblk m c 4 t) (iblk m c 5 t) (iblk m c 6 t) ⟨q.val % 256, Nat.mod_lt _ (by norm_num)⟩ e).trans (row_at m c t q _ hr e)

theorem arr9 (q : Fin 2048) (e : Fin 2048) : (show Vec Ideal S2048x2048 .bf16 from (dats m 0 c).arrAt 9 cfg0.N) (ix2 q e)
    = nrm (afterRow (m ((c : Thread nD τ).loc main_arg0)) (m ((c : Thread nD τ).loc main_arg1)) (m ((c : Thread nD τ).loc main_arg2)) (m ((c : Thread nD τ).loc main_arg3)) (m ((c : Thread nD τ).loc main_arg4)) q) ((m ((c : Thread nD τ).loc main_arg5)) (ix2 0 e)) e := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks9 m c t (flush0_9 t)) (ix2 (⟨q.val % 256, Nat.mod_lt _ (by norm_num)⟩ : Fin 256) e)
  rw [flushed9] at h
  have e2 : (show Vec Ideal S2048x2048 .bf16 from (dats m 0 c).arrAt 9 cfg0.N) (ix2 q e)
      = ((cfg0.win 9).blk t).view.read (Elt Ideal) ((dats m 0 c).arrAt 9 cfg0.N) (ix2 (⟨q.val % 256, Nat.mod_lt _ (by norm_num)⟩ : Fin 256) e) := by
    generalize (dats m 0 c).arrAt 9 cfg0.N = arr
    symm
    show ((cfg0.win 9).blk t).view.read (Elt Ideal) arr (ix2 (⟨q.val % 256, Nat.mod_lt _ (by norm_num)⟩ : Fin 256) e) = arr (ix2 q e)
    blk_ext [idx t]
    all_goals (simp only [ht]; omega)
  rw [e2, h]
  refine (out9 (iblk m c 0 t) (iblk m c 1 t) (iblk m c 2 t) (iblk m c 3 t) (iblk m c 4 t) (iblk m c 5 t) (iblk m c 6 t) ⟨q.val % 256, Nat.mod_lt _ (by norm_num)⟩ e).trans ?_
  rw [show arow (iblk m c 0 t) (iblk m c 1 t) (iblk m c 2 t) (iblk m c 3 t) (iblk m c 4 t) (iblk m c 5 t) (⟨q.val % 256, Nat.mod_lt _ (by norm_num)⟩ : Fin 256) = afterRow (m ((c : Thread nD τ).loc main_arg0)) (m ((c : Thread nD τ).loc main_arg1)) (m ((c : Thread nD τ).loc main_arg2)) (m ((c : Thread nD τ).loc main_arg3)) (m ((c : Thread nD τ).loc main_arg4)) q from funext fun j => row_at m c t q _ hr j]
  exact congrArg (nrm _ · e) (blk6 m c t 0 e)
end

section
open Cert.Reference6Ideal Cert.Reference6Ideal.Gen Cert.Reference6Ideal.Value

section
variable (m1 m2 : Vec Ideal S2048x1024 .f32) (m3 : Vec Ideal S2048x8192 .f32)

/-- The reference's gated values, the two halves beside each other. -/
def gated : FVec Ideal S2048x2048 .f32 :=
  concatenate S2048x2048 1 [⟨S2048x1024, (mulf m1 (mulf (extractStridedSlice S2048x1024 ![0, 3072] m3 slices_S2048x8192_S2048x1024_0_3072) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 3072] m3 slices_S2048x8192_S2048x1024_0_3072)))))))⟩, ⟨S2048x1024, (mulf m2 (mulf (extractStridedSlice S2048x1024 ![0, 7168] m3 slices_S2048x8192_S2048x1024_0_7168) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 7168] m3 slices_S2048x8192_S2048x1024_0_7168)))))))⟩] concatenates_S2048x1024_S2048x1024_S2048x2048_d1

theorem gated_l (t : Fin 2048) (e : Fin 1024) : gated m1 m2 m3 (ix2 t (⟨e, by omega⟩ : Fin 2048)) = mixL m1 m3 t e := by
  unfold gated
  refine (concatenate_pair_apply_left (t := S2048x2048) (s₁ := S2048x1024) (s₂ := S2048x1024) (1 : Fin 2) _ _ _ _ rfl (ix2 t e) fun b => ?_).trans ?_
  · match b with
    | ⟨0, _⟩ => rfl
    | ⟨1, _⟩ => rfl
  · pointwise [mixL, gv, sg]

theorem gated_r (t : Fin 2048) (e : Fin 1024) : gated m1 m2 m3 (ix2 t (⟨1024 + e, by omega⟩ : Fin 2048)) = mixR m2 m3 t e := by
  unfold gated
  refine (concatenate_pair_apply_right (t := S2048x2048) (s₁ := S2048x1024) (s₂ := S2048x1024) (1 : Fin 2) _ _ _ _ rfl rfl (ix2 t e) (fun b hb => ?_) ?_).trans ?_
  · match b with
    | ⟨0, _⟩ => rfl
    | ⟨1, _⟩ => exact absurd rfl hb
  · exact Nat.add_comm _ _
  · pointwise [mixR, gv, sg]
end

variable (m0 : Vec Ideal S2048x2048 .f32) (m1 m2 : Vec Ideal S2048x1024 .f32) (m3 : Vec Ideal S2048x8192 .f32) (m4 : Vec Ideal S2048x2048 .bf16) (m5 : Vec Ideal S1x2048 .f32)

theorem after_row (M : FVec Ideal S2048x2048 .f32) (t e : Fin 2048) :
    (show FVec Ideal S2048x2048 .f32 from addf m0 (Host.dotGeneral dot_S2048x2048_S2048x2048_S2048x2048_1_0_0_1_n_n none (M) (extf .f32 m4 bitsLt_bf16_f32))) (ix2 t e)
      = (show EReal from m0 (ix2 t e)) + ∑ k : Fin 2048, (show EReal from M (ix2 t k)) * (show EReal from m4 (ix2 k e)) := by
  pointwise []

theorem ref9 (t e : Fin 2048) : (show FVec Ideal S2048x2048 .f32 from addf m0 (Host.dotGeneral dot_S2048x2048_S2048x2048_S2048x2048_1_0_0_1_n_n none ((gated m1 m2 m3)) (extf .f32 m4 bitsLt_bf16_f32))) (ix2 t e) = afterRow m0 m1 m2 m3 m4 t e := by
  refine (after_row m0 m4 _ t e).trans ?_
  rw [sum_halves]
  simp only [gated_l, gated_r]
  exact (add_assoc _ _ _).symm

theorem norm_row (A : FVec Ideal S2048x2048 .f32) (t e : Fin 2048) :
    (show FVec Ideal S2048x2048 .bf16 from truncf .bf16 (mulf (mulf A (broadcastInDim S2048x2048 ![0, 1] bcast_S2048x1_S2048x2048_0_1 (Host.rsqrt (addf (Host.divf (broadcastInDim S2048x1 ![0] bcast_S2048_S2048x1_0 (Host.reduceAdd (mulf A A) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 m5)) bitsLt_bf16_f32) (ix2 t e) = nrm (fun j => A (ix2 t j)) (m5 (ix2 0 e)) e := by
  pointwise [nrm]

theorem ref23 (t e : Fin 2048) :
    (show FVec Ideal S2048x2048 .bf16 from truncf .bf16 (mulf (mulf (addf m0 (Host.dotGeneral dot_S2048x2048_S2048x2048_S2048x2048_1_0_0_1_n_n none (gated m1 m2 m3) (extf .f32 m4 bitsLt_bf16_f32))) (broadcastInDim S2048x2048 ![0, 1] bcast_S2048x1_S2048x2048_0_1 (Host.rsqrt (addf (Host.divf (broadcastInDim S2048x1 ![0] bcast_S2048_S2048x1_0 (Host.reduceAdd (mulf (addf m0 (Host.dotGeneral dot_S2048x2048_S2048x2048_S2048x2048_1_0_0_1_n_n none (gated m1 m2 m3) (extf .f32 m4 bitsLt_bf16_f32))) (addf m0 (Host.dotGeneral dot_S2048x2048_S2048x2048_S2048x2048_1_0_0_1_n_n none (gated m1 m2 m3) (extf .f32 m4 bitsLt_bf16_f32)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 m5)) bitsLt_bf16_f32) (ix2 t e) = nrm (afterRow m0 m1 m2 m3 m4 t) (m5 (ix2 0 e)) e := by
  refine (norm_row m5 _ t e).trans ?_
  exact congrArg (nrm · _ e) (funext fun j => ref9 m0 m1 m2 m3 m4 t j)
end

end Cert.Grad6

end
-- ==== Proof.PreMore.lean ====
/- THE PRECONDITION of the output projection's backward pass, read back: every argument is an array of real numbers. -/
module

public import proofs.«01_k».proof.Pre_finite4
public import proofs.«01_k».proof.Proof.Pre

@[expose] public section

noncomputable section

namespace Cert.Band.Pre

open Idealize.ShloMosaic

theorem facts4 : Cert.Pre_finite4.Facts where
  bcast_S_S2048x2048 := by decide
  reducesTo_S2048x2048_S_d0_1 := by decide
  h_S_ := by decide
  bcast_S_S2048x1024 := by decide
  reducesTo_S2048x1024_S_d0_1 := by decide
  bitsLt_bf16_f32 := by decide
  bcast_S_S2048x8192 := by decide
  reducesTo_S2048x8192_S_d0_1 := by decide

theorem reals4 (x0 : FVec Ideal Cert.Pre_finite4.S2048x2048 .f32) (x1 x2 : FVec Ideal Cert.Pre_finite4.S2048x1024 .f32) (x3 : FVec Ideal Cert.Pre_finite4.S2048x8192 .f32)
    (x4 : FVec Ideal Cert.Pre_finite4.S2048x2048 .bf16)
    (j : Cert.Pre_finite4.S_.Idx) (h : (letI := facts4; Cert.Pre_finite4.fn (F := Ideal) x0 x1 x2 x3 x4) j = 1#1) :
    (∀ i, (show EReal from x0 i) = ((EReal.toReal (x0 i) : ℝ) : EReal)) ∧ (∀ i, (show EReal from x1 i) = ((EReal.toReal (x1 i) : ℝ) : EReal))
    ∧ (∀ i, (show EReal from x2 i) = ((EReal.toReal (x2 i) : ℝ) : EReal)) ∧ (∀ i, (show EReal from x3 i) = ((EReal.toReal (x3 i) : ℝ) : EReal))
    ∧ (∀ i, (show EReal from x4 i) = ((EReal.toReal (x4 i) : ℝ) : EReal)) := by
  obtain ⟨h3, e4⟩ := IntOp.andi_eq_one.1 h
  obtain ⟨h2, e3⟩ := IntOp.andi_eq_one.1 h3
  obtain ⟨h1, e2⟩ := IntOp.andi_eq_one.1 h2
  obtain ⟨e0, e1⟩ := IntOp.andi_eq_one.1 h1
  exact ⟨fun i => real_of_all x0 _ (inf_at _) _ _ _ j e0 i, fun i => real_of_all x1 _ (inf_at _) _ _ _ j e1 i,
    fun i => real_of_all x2 _ (inf_at _) _ _ _ j e2 i, fun i => real_of_all x3 _ (inf_at _) _ _ _ j e3 i,
    fun i => real_of_all (s := Cert.Pre_finite4.S2048x2048) (extf .f32 x4 (by decide)) _ (inf_at _) _ _ _ j e4 i⟩

end Cert.Band.Pre

end
-- ==== Proof.Pairs.lean ====
/- THE PROJECTIONS' CALLS: for each, the frame of its reference, and the equality of the kernel's and the reference's
   results over the extended reals. -/
module

public import proofs.«01_k».proof.Proof.Grad3
public import proofs.«01_k».proof.Proof.Grad4
public import proofs.«01_k».proof.Proof.Grad5
public import proofs.«01_k».proof.Proof.Grad6
public import proofs.«01_k».proof.Proof.PreMore
public import proofs.«01_k».proof.Defs

@[expose] public section

set_option maxRecDepth 16384

noncomputable section

namespace Cert.Proof

open Idealize.ShloMosaic Idealize.SL.Sem

theorem frame_reference3 : Cert.quiescent_Reference3Ideal :=
  fun m g _ => (θ_run Cert.Reference3Ideal.defs _ _).mono
    (fun r h => ⟨fun c => (h c).2, sem_eq_zero_of_no_sems rfl r.2⟩) (Cert.Reference3Ideal.Value.run m g)

theorem frame_reference4 : Cert.quiescent_Reference4Ideal :=
  fun m g _ => (θ_run Cert.Reference4Ideal.defs _ _).mono
    (fun r h => ⟨fun c => (h c).2.2.2.2, sem_eq_zero_of_no_sems rfl r.2⟩) (Cert.Reference4Ideal.Value.run m g)

theorem frame_reference5 : Cert.quiescent_Reference5Ideal :=
  fun m g _ => (θ_run Cert.Reference5Ideal.defs _ _).mono
    (fun r h => ⟨fun c => (h c).2, sem_eq_zero_of_no_sems rfl r.2⟩) (Cert.Reference5Ideal.Value.run m g)

theorem frame_reference6 : Cert.quiescent_Reference6Ideal :=
  fun m g _ => (θ_run Cert.Reference6Ideal.defs _ _).mono
    (fun r h => ⟨fun c => (h c).2.2.2, sem_eq_zero_of_no_sems rfl r.2⟩) (Cert.Reference6Ideal.Value.run m g)

/-- Two arrays with the same rows and columns are equal. -/
theorem ext2 {a b : ℕ} {x y : (⟨2, ![a, b]⟩ : Shape).Idx → EReal} (h : ∀ i j, x (ix2 i j) = y (ix2 i j)) : x = y := by
  funext i
  obtain ⟨t, z, rfl⟩ : ∃ (t : Fin a) (z : Fin b), i = ix2 t z := ⟨i 0, i 1, eq_ix2 i⟩
  exact h t z

/-- The same, the columns in two halves of 1024. -/
theorem ext_halves {x y : (⟨2, ![2048, 2048]⟩ : Shape).Idx → EReal} (hl : ∀ t (e : Fin 1024), x (ix2 t (⟨e, by omega⟩ : Fin 2048)) = y (ix2 t (⟨e, by omega⟩ : Fin 2048)))
    (hr : ∀ t (e : Fin 1024), x (ix2 t (⟨1024 + e, by omega⟩ : Fin 2048)) = y (ix2 t (⟨1024 + e, by omega⟩ : Fin 2048))) : x = y := by
  refine ext2 fun t j => ?_
  by_cases hj : j.val < 1024
  · exact hl t ⟨j.val, hj⟩
  · have h := hr t ⟨j.val - 1024, by omega⟩
    have e : (⟨1024 + (j.val - 1024), by omega⟩ : Fin 2048) = j := Fin.ext (by dsimp only; omega)
    simpa only [e] using h

theorem algebraic3 : Cert.algebraic_Kernel3Ideal_Reference3Ideal := by
  pair_intro
  · run_from Cert.Kernel3Ideal.Value.run_blocks m g
  · run_from Cert.Reference3Ideal.Value.run m' g'
    exact Cert.Grad3.meet m c fun b r e => Cert.Grad3.ref_at _ _ b r e

theorem algebraic4 : letI := Cert.Band.Pre.facts4; Cert.algebraic_Kernel4Ideal_Reference4Ideal_pre_finite4 := by
  letI := Cert.Band.Pre.facts4
  pair_intro
  · run_from Cert.Kernel4Ideal.Value.run_blocks m g
  · run_from Cert.Reference4Ideal.Value.run m' g'
    all_goals obtain ⟨r0, r1, r2, r3, r4⟩ := Cert.Band.Pre.reals4 _ _ _ _ _ _ (congrFun (hpre c) (fun a => a.elim0))
    · exact ext2 fun t e => (Cert.Grad4.ref16 _ _ _ t e).trans (Cert.Grad4.arr6 m c t e).symm
    · exact ext2 fun t e => (Cert.Grad4.ref13 _ _ _ t e).trans (Cert.Grad4.arr7 m c t e).symm
    · exact ext2 fun t e => (Cert.Grad4.ref18 _ _ _ _ t e r0 r1 r3 r4).trans (Cert.Grad4.arr8 m c t e).symm
    · exact ext2 fun t e => (Cert.Grad4.ref19 _ _ _ _ t e r0 r2 r3 r4).trans (Cert.Grad4.arr9 m c t e).symm

theorem algebraic5 : Cert.algebraic_Kernel5Ideal_Reference5Ideal := by
  pair_intro
  · run_from Cert.Kernel5Ideal.Value.run_blocks m g
  · run_from Cert.Reference5Ideal.Value.run m' g'
    exact Cert.Grad5.meet m c fun b r e => Cert.Grad5.ref_at _ _ b r e

theorem algebraic6 : Cert.algebraic_Kernel6Ideal_Reference6Ideal := by
  pair_intro
  · run_from Cert.Kernel6Ideal.Value.run_blocks m g
  · run_from Cert.Reference6Ideal.Value.run m' g'
    all_goals obtain ⟨e0, e1, e2, e3, e4, e5⟩ := hagree c
    · refine ext_halves (fun t e => (Cert.Grad6.gated_l _ _ _ t e).trans (Eq.trans ?_ (Cert.Grad6.arr7l m c t e).symm))
        fun t e => (Cert.Grad6.gated_r _ _ _ t e).trans (Eq.trans ?_ (Cert.Grad6.arr7r m c t e).symm)
      · exact congrArg₂ (fun a b => Cert.Grad6.mixL a b t e) e1 e3
      · exact congrArg₂ (fun a b => Cert.Grad6.mixR a b t e) e2 e3
    · refine ext2 fun t e => (Cert.Grad6.ref9 _ _ _ _ _ t e).trans (Eq.trans ?_ (Cert.Grad6.arr8 m c t e).symm)
      exact congrFun (congrFun (Cert.Grad6.afterRow_congr rfl e1 e2 e3 rfl) t) e
    · refine ext2 fun t e => (Cert.Grad6.ref23 _ _ _ _ _ _ t e).trans (Eq.trans ?_ (Cert.Grad6.arr9 m c t e).symm)
      exact Cert.Grad6.nrm_congr (congrFun (Cert.Grad6.afterRow_congr e0 e1 e2 e3 e4) t) e5 e

end Cert.Proof

end
-- ==== Proof.Spec2.lean ====
/- THE BACKWARD PASS OF THE INPUT PROJECTION AND OF THE NORM BEFORE IT, over real numbers: the gradient of the normed
   input, of the input, and of the norm's gain. -/
module

public import proofs.«01_k».proof.Proof.Alg

@[expose] public section

noncomputable section

namespace Cert.Grad2

open Idealize.ShloMosaic Cert.Band

/-- The mean square of a row, and the epsilon. -/
def ms (a : Fin 2048 → ℝ) : ℝ := (∑ e, a e * a e) * (1 / 2048) + eps

/-- The reciprocal root mean square of a row. -/
def rms (a : Fin 2048 → ℝ) : ℝ := (√(ms a))⁻¹

theorem ms_pos (a : Fin 2048 → ℝ) : 0 < ms a :=
  add_pos_of_nonneg_of_pos (mul_nonneg (Finset.sum_nonneg fun _ _ => mul_self_nonneg _) (by norm_num)) eps_pos

theorem ofBits_2048 : Ideal.ofBits .f32 0x45000000#32 = ((2048 : ℝ) : EReal) := by
  simp [Ideal.ofBits, Ideal.ieee, -EReal.coe_mul]; norm_num

theorem ms_eq (a : Fin 2048 → ℝ) :
    Ideal.div (∑ e, (a e : EReal) * (a e : EReal)) (Ideal.ofBits .f32 0x45000000#32) + Ideal.ofBits .f32 0x358637BD#32 = (ms a : EReal) := by
  simp only [← EReal.coe_mul, ← coe_sum, ofBits_2048, ofBits_eps]
  rw [div_real (by norm_num), ← EReal.coe_add]
  rfl

/-- The gradient of an element of the normed input: a row of the cotangent times a row of the weights. -/
def dh (P W : Fin 2048 → Fin 8192 → ℝ) (r e : Fin 2048) : ℝ := ∑ k, P r k * W e k

/-- The gradient of an element of a row, from the row `x`, the gradient `d` of its normed row, the gain `g` and the
    gradient `y` that passes by. -/
def dxRow (x d g : Fin 2048 → ℝ) (y : ℝ) (e : Fin 2048) : ℝ :=
  y + rms x * (d e * g e - x e * rms x * ((∑ k, d k * g k * (x k * rms x)) * (1 / 2048)))

/-- The gradient of the gain. -/
def dgain (X D : Fin 2048 → Fin 2048 → ℝ) (e : Fin 2048) : ℝ := ∑ r, D r e * (X r e * rms (X r))

/-- The square of the reciprocal root is the reciprocal. -/
theorem rms_sq (x : Fin 2048 → ℝ) : rms x * rms x = 1 / ms x := by
  unfold rms
  rw [← mul_inv, Real.mul_self_sqrt (ms_pos x).le, one_div]

/-- The gradient as the product rule gives it. -/
theorem dxRow_rule (x d g : Fin 2048 → ℝ) (y : ℝ) (e : Fin 2048) :
    y + d e * g e * rms x + x e * ((∑ k, x k * (d k * g k)) * (-(1 / 2) * (rms x * (1 / ms x))) * (1 / 2048))
      + (∑ k, x k * (d k * g k)) * (-(1 / 2) * (rms x * (1 / ms x))) * (1 / 2048) * x e = dxRow x d g y e := by
  unfold dxRow
  have h : (∑ k, d k * g k * (x k * rms x)) = (∑ k, x k * (d k * g k)) * rms x := by
    rw [Finset.sum_mul]
    exact Finset.sum_congr rfl fun k _ => by ring
  rw [h, ← rms_sq]
  ring

end Cert.Grad2

end
-- ==== Proof.Grad2.lean ====
/- THE BACKWARD PASS OF THE INPUT PROJECTION AND OF THE NORM BEFORE IT, the kernel: what each grid point reads, what it
   leaves in the scratch and in both results, and what the results are, over real arguments. -/
module

public import proofs.«01_k».proof.Proof.Gen.Kernel2Ideal.Value
public import proofs.«01_k».proof.Proof.Spec2
public import Idealize.ShloMosaic.Lib.Claim
public import Idealize.ShloMosaic.Lib.Pipeline.ValueKit
public import Idealize.ShloMosaic.Lib.Pipeline.ReadBack

@[expose] public section

set_option maxRecDepth 16384

noncomputable section

namespace Cert.Grad2

open Cert.Kernel2Ideal Cert.Kernel2Ideal.Gen Idealize.ShloMosaic Idealize.ShloMosaic.TcCoe Idealize.SL.Sem Cert.Band

variable (m : (ℓ : Loc nD τ sig) → Buf (Elt Ideal) ℓ) (c : Dev nD)

/-- The index maps of the argument windows. -/
theorem idx : ∀ t : Fin cfg0.N, win0_0.index t = ![t.val / 8, t.val % 8] ∧ win0_1.index t = ![t.val % 8, 0]
    ∧ win0_2.index t = ![t.val / 8, 0] ∧ win0_3.index t = ![t.val / 8, 0] ∧ win0_4.index t = ![0, 0] :=
  (by decide +kernel : ∀ t : Fin grid0.N, _)

/-- The scratch at a block's first column block: one product. -/
theorem sc_first (t : Fin cfg0.N) (h0 : t.val % 8 = 0) :
    (outsAt0 m c t.val t.isLt).2.2 = k0_pay3 (F := Ideal) (k0_pay1 (F := Ideal)) (iblk m c 0 t) (iblk m c 1 t) := by
  by_cases h1 : t.val % 32 = 0
  · rw [outsAt0_A m c t h0 h1 (by omega)]
    frame_out
    try simp only [read_unread_whole]
    try rfl
  · rw [outsAt0_D m c t h0 h1 (by omega)]
    frame_out
    try simp only [read_unread_whole]
    try rfl

/-- The scratch at a later column block: what it held and one product. -/
theorem sc_next (t : Fin cfg0.N) (h0 : ¬t.val % 8 = 0) :
    (outsAt0 m c t.val t.isLt).2.2 = k0_pay3 (F := Ideal) (outsAt0 m c (t.val - 1) (by omega)).2.2 (iblk m c 0 t) (iblk m c 1 t) := by
  by_cases h2 : t.val % 8 = 7
  · rw [outsAt0_C m c t h0 (by omega) h2]
    frame_out
    try simp only [read_unread_whole]
    try rfl
  · rw [outsAt0_B m c t h0 (by omega) h2]
    frame_out
    try simp only [read_unread_whole]
    try rfl

/-- The gain's gradient at the very first point: zero. -/
theorem dg_zero (t : Fin cfg0.N) (h1 : t.val % 32 = 0) : (outsAt0 m c t.val t.isLt).2.1 = k0_pay2 (F := Ideal) := by
  rw [outsAt0_A m c t (by omega) h1 (by omega)]
  frame_out
  try simp only [read_unread_whole]
  try rfl

/-- The gain's gradient stays until a row block is complete. -/
theorem dg_stay (t : Fin cfg0.N) (h1 : ¬t.val % 32 = 0) (h2 : ¬t.val % 8 = 7) :
    (outsAt0 m c t.val t.isLt).2.1 = (outsAt0 m c (t.val - 1) (by omega)).2.1 := by
  by_cases h0 : t.val % 8 = 0
  · rw [outsAt0_D m c t h0 h1 h2]
    frame_out
    try simp only [read_unread_whole]
    try rfl
  · rw [outsAt0_B m c t h0 h1 h2]
    frame_out
    try simp only [read_unread_whole]
    try rfl

/-- The gain's gradient at the end of a row block. -/
theorem dg_add (t : Fin cfg0.N) (h2 : t.val % 8 = 7) :
    (outsAt0 m c t.val t.isLt).2.1 = k0_pay7 (F := Ideal) (iblk m c 2 t)
      (k0_pay3 (F := Ideal) (outsAt0 m c (t.val - 1) (by omega)).2.2 (iblk m c 0 t) (iblk m c 1 t)) (outsAt0 m c (t.val - 1) (by omega)).2.1 := by
  rw [outsAt0_C m c t (by omega) (by omega) h2]
  frame_out
  try simp only [read_unread_whole]
  try rfl

/-- The input's gradient at the end of a row block. -/
theorem dx_at (t : Fin cfg0.N) (h2 : t.val % 8 = 7) :
    (outsAt0 m c t.val t.isLt).1 = k0_pay6 (F := Ideal) (iblk m c 2 t)
      (k0_pay3 (F := Ideal) (outsAt0 m c (t.val - 1) (by omega)).2.2 (iblk m c 0 t) (iblk m c 1 t)) (iblk m c 4 t) (iblk m c 3 t) := by
  rw [outsAt0_C m c t (by omega) (by omega) h2]
  frame_out
  try simp only [read_unread_whole]
  try rfl

theorem V_v0 : V m c main_v0 = transpose S8192x2048 [1, 0] (m ((c : Thread nD τ).loc main_arg1)) transposes_S2048x8192_S8192x2048_1_0 := by
  generalize hx : transpose S8192x2048 [1, 0] (m ((c : Thread nD τ).loc main_arg1)) transposes_S2048x8192_S8192x2048_1_0 = x
  show StableHlo.after [hostOps0].flatten _ _ = _
  simp only [List.flatten_cons, List.flatten_nil, List.append_nil, List.cons_append, List.nil_append, hostOps0]
  entry_read
  exact hx

/-! ## The payloads over real numbers -/

/-- The device's arguments are the real arrays `P`, `W`, `X`, `Y`, `G`. -/
structure Args (P W : Fin 2048 → Fin 8192 → ℝ) (X Y : Fin 2048 → Fin 2048 → ℝ) (G : Fin 2048 → ℝ) : Prop where
  h0 : ∀ t e, (show Vec Ideal S2048x8192 .bf16 from m ((c : Thread nD τ).loc main_arg0)) (ix2 t e) = (P t e : EReal)
  h1 : ∀ t e, (show Vec Ideal S2048x8192 .bf16 from m ((c : Thread nD τ).loc main_arg1)) (ix2 t e) = (W t e : EReal)
  h2 : ∀ t e, (show Vec Ideal S2048x2048 .f32 from m ((c : Thread nD τ).loc main_arg2)) (ix2 t e) = (X t e : EReal)
  h3 : ∀ t e, (show Vec Ideal S2048x2048 .f32 from m ((c : Thread nD τ).loc main_arg3)) (ix2 t e) = (Y t e : EReal)
  h4 : ∀ l e, (show Vec Ideal S1x2048 .f32 from m ((c : Thread nD τ).loc main_arg4)) (ix2 l e) = (G e : EReal)

theorem pay1_real (r : Fin 512) (e : Fin 2048) : k0_pay1 (F := Ideal) (ix2 r e) = ((0 : ℝ) : EReal) := by
  pointwise [k0_pay1]
  try exact EReal.coe_zero.symm

theorem pay2_real (r : Fin 8) (e : Fin 2048) : k0_pay2 (F := Ideal) (ix2 r e) = ((0 : ℝ) : EReal) := by
  pointwise [k0_pay2]
  try exact EReal.coe_zero.symm

theorem pay3_real {a : Vec Ideal S512x2048 .f32} {x : Vec Ideal S512x1024 .bf16} {y : Vec Ideal S1024x2048 .bf16}
    {A : Fin 512 → Fin 2048 → ℝ} {p : Fin 512 → Fin 1024 → ℝ} {w : Fin 1024 → Fin 2048 → ℝ}
    (ha : ∀ r e, a (ix2 r e) = (A r e : EReal)) (hx : ∀ r k, x (ix2 r k) = (p r k : EReal)) (hy : ∀ k e, y (ix2 k e) = (w k e : EReal))
    (r : Fin 512) (e : Fin 2048) : k0_pay3 (F := Ideal) a x y (ix2 r e) = ((A r e + ∑ k, p r k * w k e : ℝ) : EReal) := by
  pointwise [k0_pay3]
  simp only [ha, hx, hy, ← EReal.coe_mul, ← coe_sum, ← EReal.coe_add]

section
variable {x : Vec Ideal S512x2048 .f32} {X : Fin 512 → Fin 2048 → ℝ} (hx : ∀ r e, x (ix2 r e) = (X r e : EReal))
include hx

theorem pay4_real (r : Fin 512) (l : Fin 1) : k0_pay4 (F := Ideal) x (ix2 r l) = (rms (X r) : EReal) := by
  pointwise [k0_pay4]
  simp only [hx]
  rw [ms_eq, rsqrt_real (ms_pos _)]
  rfl

theorem pay5_real (r : Fin 512) (e : Fin 2048) : k0_pay5 (F := Ideal) x (ix2 r e) = ((X r e * rms (X r) : ℝ) : EReal) := by
  pointwise [k0_pay5]
  simp only [hx, pay4_real hx, ← EReal.coe_mul]

variable {a : Vec Ideal S512x2048 .f32} {D : Fin 512 → Fin 2048 → ℝ} (ha : ∀ r e, a (ix2 r e) = (D r e : EReal))
include ha

theorem pay6_real {g : Vec Ideal S1x2048 .f32} {G : Fin 2048 → ℝ} (hg : ∀ l e, g (ix2 l e) = (G e : EReal))
    {y : Vec Ideal S512x2048 .f32} {Y : Fin 512 → Fin 2048 → ℝ} (hy : ∀ r e, y (ix2 r e) = (Y r e : EReal)) (r : Fin 512) (e : Fin 2048) :
    k0_pay6 (F := Ideal) x a g y (ix2 r e) = (dxRow (X r) (D r) G (Y r e) e : EReal) := by
  pointwise [k0_pay6]
  simp only [hg, ha, hy, pay4_real hx, pay5_real hx, ← EReal.coe_mul, ← coe_sum, ofBits_2048]
  rw [div_real (by norm_num)]
  simp only [← EReal.coe_mul, ← EReal.coe_sub, ← EReal.coe_add]
  rfl

theorem pay7_real {q : Vec Ideal S8x2048 .f32} {Q : Fin 2048 → ℝ} (hq : ∀ l e, q (ix2 l e) = (Q e : EReal)) (l : Fin 8) (e : Fin 2048) :
    k0_pay7 (F := Ideal) x a q (ix2 l e) = ((Q e + ∑ r, D r e * (X r e * rms (X r)) : ℝ) : EReal) := by
  pointwise [k0_pay7]
  simp only [hq, ha, pay5_real hx, ← EReal.coe_mul, ← coe_sum, ← EReal.coe_add]

end

/-! ## The blocks -/

variable {m c} {P W : Fin 2048 → Fin 8192 → ℝ} {X Y : Fin 2048 → Fin 2048 → ℝ} {G : Fin 2048 → ℝ}

/-- Row `r` of row block `i`. -/
abbrev row (t : Fin cfg0.N) (r : Fin 512) : Fin 2048 := ⟨512 * (t.val / 8) + r.val, by have h := lt_of_lt_of_eq t.isLt N_0; omega⟩

/-- Column `k` of column block `t % 8`. -/
abbrev col (t : Fin cfg0.N) (k : Fin 1024) : Fin 8192 := ⟨1024 * (t.val % 8) + k.val, by omega⟩

theorem blk0 (A : Args m c P W X Y G) (t : Fin cfg0.N) (r : Fin 512) (k : Fin 1024) :
    (show Vec Ideal S512x1024 .bf16 from iblk m c 0 t) (ix2 r k) = (P (row t r) (col t k) : EReal) := by
  refine Eq.trans ?_ (A.h0 (row t r) (col t k))
  show iblk m c 0 t (ix2 r k) = m ((c : Thread nD τ).loc main_arg0) _
  blk_ext [iblk, V, idx t]

theorem blk1 (A : Args m c P W X Y G) (t : Fin cfg0.N) (k : Fin 1024) (e : Fin 2048) :
    (show Vec Ideal S1024x2048 .bf16 from iblk m c 1 t) (ix2 k e) = (W e (col t k) : EReal) := by
  refine Eq.trans ?_ (A.h1 e (col t k))
  have h : (show Vec Ideal S1024x2048 .bf16 from iblk m c 1 t) (ix2 k e) = (show Vec Ideal S8192x2048 .bf16 from V m c main_v0) (ix2 (col t k) e) := by
    show iblk m c 1 t (ix2 k e) = V m c main_v0 _
    unfold iblk
    generalize V m c main_v0 = y
    blk_ext [idx t]
  rw [h]
  refine (congrFun (V_v0 m c) _).trans ?_
  generalize m ((c : Thread nD τ).loc main_arg1) = y
  pointwise []

theorem blk2 (A : Args m c P W X Y G) (t : Fin cfg0.N) (r : Fin 512) (e : Fin 2048) :
    (show Vec Ideal S512x2048 .f32 from iblk m c 2 t) (ix2 r e) = (X (row t r) e : EReal) := by
  refine Eq.trans ?_ (A.h2 (row t r) e)
  show iblk m c 2 t (ix2 r e) = m ((c : Thread nD τ).loc main_arg2) _
  blk_ext [iblk, V, idx t]

theorem blk3 (A : Args m c P W X Y G) (t : Fin cfg0.N) (r : Fin 512) (e : Fin 2048) :
    (show Vec Ideal S512x2048 .f32 from iblk m c 3 t) (ix2 r e) = (Y (row t r) e : EReal) := by
  refine Eq.trans ?_ (A.h3 (row t r) e)
  show iblk m c 3 t (ix2 r e) = m ((c : Thread nD τ).loc main_arg3) _
  blk_ext [iblk, V, idx t]

theorem blk4 (A : Args m c P W X Y G) (t : Fin cfg0.N) (l : Fin 1) (e : Fin 2048) :
    (show Vec Ideal S1x2048 .f32 from iblk m c 4 t) (ix2 l e) = (G e : EReal) := by
  refine Eq.trans ?_ (A.h4 l e)
  show iblk m c 4 t (ix2 l e) = m ((c : Thread nD τ).loc main_arg4) _
  blk_ext [iblk, V, idx t]

end Cert.Grad2

end
-- ==== Proof.Sweep2.lean ====
/- THE BACKWARD PASS OF THE INPUT PROJECTION, the kernel across its grid: the scratch holds the sum over the column blocks
   seen so far, the gain's gradient the sum over the row blocks completed so far; from them both results. -/
module

public import proofs.«01_k».proof.Proof.Grad2

@[expose] public section

set_option maxRecDepth 16384

noncomputable section

namespace Cert.Grad2

open Cert.Kernel2Ideal Cert.Kernel2Ideal.Gen Cert.Kernel2Ideal.Value Idealize.ShloMosaic Idealize.ShloMosaic.TcCoe Idealize.SL.Sem Cert.Band

variable {m : (ℓ : Loc nD τ sig) → Buf (Elt Ideal) ℓ} {c : Dev nD}
variable {P W : Fin 2048 → Fin 8192 → ℝ} {X Y : Fin 2048 → Fin 2048 → ℝ} {G : Fin 2048 → ℝ}

/-- A function of the first `n` numbers, zero beyond them. -/
def ext0 {n : ℕ} (f : Fin n → ℝ) (j : ℕ) : ℝ := if h : j < n then f ⟨j, h⟩ else 0

theorem ext0_at {n : ℕ} (f : Fin n → ℝ) {j : ℕ} (h : j < n) : ext0 f j = f ⟨j, h⟩ := dif_pos h

theorem sum_ext0 {n : ℕ} (f : Fin n → ℝ) : ∑ j ∈ Finset.range n, ext0 f j = ∑ j, f j := by
  rw [Finset.sum_range]
  exact Finset.sum_congr rfl fun j _ => ext0_at f j.isLt

/-- One block more of a sum over blocks of `b`. -/
theorem sum_block {n b : ℕ} (f : Fin n → ℝ) (s : ℕ) (h : b * s + b ≤ n) :
    ∑ j ∈ Finset.range (b * (s + 1)), ext0 f j
      = ∑ j ∈ Finset.range (b * s), ext0 f j + ∑ k : Fin b, f ⟨b * s + k.val, by omega⟩ := by
  rw [Nat.mul_succ, Finset.sum_range_add, Finset.sum_range (n := b)]
  exact congrArg _ (Finset.sum_congr rfl fun k _ => ext0_at f _)

/-- The sum that the scratch holds at row `r`, column `e`, after `s` column blocks. -/
def part (P W : Fin 2048 → Fin 8192 → ℝ) (r e : Fin 2048) (s : ℕ) : ℝ := ∑ j ∈ Finset.range (1024 * s), ext0 (fun k => P r k * W e k) j

theorem part_all (r e : Fin 2048) : part P W r e 8 = dh P W r e := sum_ext0 (n := 8192) _

theorem part_succ (r e : Fin 2048) (s : ℕ) (h : s < 8) :
    part P W r e (s + 1) = part P W r e s + ∑ k : Fin 1024, P r ⟨1024 * s + k.val, by omega⟩ * W e ⟨1024 * s + k.val, by omega⟩ :=
  sum_block (fun k => P r k * W e k) s (by omega)

/-- The scratch after point `n`. -/
theorem scratch (A : Args m c P W X Y G) : ∀ (n : ℕ) (hn : n < cfg0.N) (r : Fin 512) (e : Fin 2048),
    (outsAt0 m c n hn).2.2 (ix2 r e) = (part P W (row ⟨n, hn⟩ r) e (n % 8 + 1) : EReal) := by
  intro n
  induction n with
  | zero =>
    intro hn r e
    rw [sc_first m c ⟨0, hn⟩ (by rfl)]
    refine (pay3_real pay1_real (blk0 A ⟨0, hn⟩) (blk1 A ⟨0, hn⟩) r e).trans (congrArg _ ?_)
    rw [part_succ _ _ _ (by omega)]
    refine congrArg₂ (fun a b : ℝ => a + b) ?_ rfl
    exact (Finset.sum_range_zero _).symm
  | succ n ih =>
    intro hn r e
    by_cases h0 : (n + 1) % 8 = 0
    · rw [sc_first m c ⟨n + 1, hn⟩ h0]
      refine (pay3_real pay1_real (blk0 A ⟨n + 1, hn⟩) (blk1 A ⟨n + 1, hn⟩) r e).trans (congrArg _ ?_)
      rw [part_succ _ _ _ (by omega)]
      refine congrArg₂ (fun a b : ℝ => a + b) ?_ rfl
      rw [h0]
      exact (Finset.sum_range_zero _).symm
    · rw [sc_next m c ⟨n + 1, hn⟩ h0]
      refine (pay3_real (ih (by omega)) (blk0 A ⟨n + 1, hn⟩) (blk1 A ⟨n + 1, hn⟩) r e).trans (congrArg _ ?_)
      rw [part_succ (row ⟨n + 1, hn⟩ r) e ((n + 1) % 8) (by omega)]
      refine congrArg₂ (fun a b : ℝ => a + b) ?_ rfl
      have e1 : row ⟨n, by omega⟩ r = row ⟨n + 1, hn⟩ r := Fin.ext (by dsimp only [row]; omega)
      rw [e1, show n % 8 + 1 = (n + 1) % 8 by omega]

/-- The scratch at the end of a row block. -/
theorem scratch_end (A : Args m c P W X Y G) (t : Fin cfg0.N) (h2 : t.val % 8 = 7) (r : Fin 512) (e : Fin 2048) :
    k0_pay3 (F := Ideal) (outsAt0 m c (t.val - 1) (by omega)).2.2 (iblk m c 0 t) (iblk m c 1 t) (ix2 r e) = (dh P W (row t r) e : EReal) := by
  rw [← sc_next m c t (by omega), scratch A t.val t.isLt r e, h2, part_all]

/-- The gain's gradient after point `n`: the rows of the completed row blocks. -/
theorem gain (A : Args m c P W X Y G) : ∀ (n : ℕ) (hn : n < cfg0.N) (l : Fin 8) (e : Fin 2048),
    (outsAt0 m c n hn).2.1 (ix2 l e)
      = ((∑ j ∈ Finset.range (512 * ((n + 1) / 8)), ext0 (fun r => dh P W r e * (X r e * rms (X r))) j : ℝ) : EReal) := by
  intro n
  induction n with
  | zero =>
    intro hn l e
    rw [dg_zero m c ⟨0, hn⟩ (by rfl)]
    exact (pay2_real l e).trans (congrArg _ (Finset.sum_range_zero _).symm)
  | succ n ih =>
    intro hn l e
    have hN := lt_of_lt_of_eq hn N_0
    by_cases h2 : (n + 1) % 8 = 7
    · rw [dg_add m c ⟨n + 1, hn⟩ h2]
      refine (pay7_real (blk2 A ⟨n + 1, hn⟩) (scratch_end A ⟨n + 1, hn⟩ h2) (fun l e => ih (by omega) l e) l e).trans (congrArg _ ?_)
      rw [show (n + 1 + 1) / 8 = (n + 1) / 8 + 1 by omega]
      exact (sum_block (b := 512) (fun r => dh P W r e * (X r e * rms (X r))) ((n + 1) / 8) (by omega)).symm
    · by_cases h1 : (n + 1) % 32 = 0
      · omega
      rw [dg_stay m c ⟨n + 1, hn⟩ h1 h2]
      refine (ih (by omega) l e).trans ?_
      rw [show (n + 1 + 1) / 8 = (n + 1) / 8 by omega]

/-- The kernel's first result: the input's gradient. -/
theorem out_dx (A : Args m c P W X Y G) (r e : Fin 2048) :
    (show Vec Ideal S2048x2048 .f32 from G5 m c) (ix2 r e) = (dxRow (X r) (dh P W r) G (Y r e) e : EReal) := by
  have hp : 8 * (r.val / 512) + 7 < cfg0.N := lt_of_lt_of_eq (by omega) N_0.symm
  have h : G5 m c (ix2 r e) = (outsAt0 m c (8 * (r.val / 512) + 7) hp).1 (ix2 (⟨r.val % 512, Nat.mod_lt _ (by norm_num)⟩ : Fin 512) e) := by
    have e0 : pt5Of (ix2 r e) = 8 * (r.val / 512) + 7 := by
      show 8 * (1 * (r.val / 512 - 0) + 1 * (e.val / 2048 - 0)) + 7 = _
      omega
    have e1 : loc5Of (ix2 r e) = ix2 (⟨r.val % 512, Nat.mod_lt _ (by norm_num)⟩ : Fin 512) e := by
      funext a
      match a with
      | ⟨0, _⟩ => rfl
      | ⟨1, _⟩ => exact Fin.ext (Nat.mod_eq_of_lt e.isLt)
    unfold G5
    rw [dif_pos (by rw [e0]; exact hp), e1, outsAt0_sweep m c _ hp]
    rw [fold0_congr m c _ _ _ (by omega) e0]
  refine h.trans ?_
  have h2 : (8 * (r.val / 512) + 7) % 8 = 7 := by omega
  rw [dx_at m c ⟨_, hp⟩ h2]
  refine (pay6_real (blk2 A ⟨_, hp⟩) (scratch_end A ⟨_, hp⟩ h2) (blk4 A ⟨_, hp⟩) (blk3 A ⟨_, hp⟩) _ e).trans ?_
  have e3 : row ⟨8 * (r.val / 512) + 7, hp⟩ (⟨r.val % 512, Nat.mod_lt _ (by norm_num)⟩ : Fin 512) = r := Fin.ext (by dsimp only [row]; omega)
  rw [e3]

/-- The kernel's second result: the gain's gradient, in each of eight rows. -/
theorem out_dg (A : Args m c P W X Y G) (l : Fin 8) (e : Fin 2048) :
    (show Vec Ideal S8x2048 .f32 from G6 m c) (ix2 l e) = (dgain X (dh P W) e : EReal) := by
  have hp : 31 < cfg0.N := lt_of_lt_of_eq (by decide) N_0.symm
  have h : G6 m c (ix2 l e) = (outsAt0 m c 31 hp).2.1 (ix2 l e) := by
    rw [G6_last, outsAt0_sweep m c 31 hp]
  exact h.trans ((gain A 31 hp l e).trans (congrArg _ (sum_ext0 (n := 2048) _)))

end Cert.Grad2

end
-- ==== Proof.Ref2.lean ====
/- THE BACKWARD PASS OF THE INPUT PROJECTION AND OF THE NORM BEFORE IT, the reference read over real numbers. -/
module

public import proofs.«01_k».proof.Proof.Spec2
public import proofs.«01_k».proof.Proof.Gen.Reference2Ideal.Run
public import Idealize.ShloMosaic.Lib.Pipeline.ValueKit

@[expose] public section

set_option maxRecDepth 16384

noncomputable section

namespace Cert.Grad2

open Cert.Reference2Ideal Cert.Reference2Ideal.Gen Cert.Reference2Ideal.Value Idealize.ShloMosaic Idealize.ShloMosaic.TcCoe
  Idealize.SL.Sem Cert.Band

/-- The gradient of the normed input. -/
def refDh (p w : FVec Ideal S2048x8192 .bf16) : FVec Ideal S2048x2048 .f32 :=
  Host.dotGeneral dot_S2048x8192_S2048x8192_S2048x2048_1_1_0_0_n_n none (extf .f32 p bitsLt_bf16_f32) (extf .f32 w bitsLt_bf16_f32)

/-- The mean squares of the rows, with the epsilon. -/
def refMs (x : FVec Ideal S2048x2048 .f32) : FVec Ideal S2048x1 .f32 :=
  addf (Host.divf (broadcastInDim S2048x1 ![0] bcast_S2048_S2048x1_0 (Host.reduceAdd (mulf x x) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))

/-- The gradient of a row's mean square, spread over the row. -/
def refQ (x d : FVec Ideal S2048x2048 .f32) (r v : FVec Ideal S2048x1 .f32) (g : FVec Ideal S1x2048 .f32) : FVec Ideal S2048x2048 .f32 :=
  broadcastInDim S2048x2048 ![0] bcast_S2048_S2048x2048_0 (Host.reduceAdd (Host.divf (mulf (shapeCast _ (Host.reduceAdd (mulf x (mulf d (broadcastInDim S2048x2048 ![0, 1] bcast_S1x2048_S2048x2048_0_1 g))) (constant S_ .f32 0x00000000#32) reducesTo_S2048x2048_S2048_d1 h_S_) shapeCasts_S2048_S2048x1)
    (mulf (broadcastInDim S2048x1 ![] bcast_S_S2048x1 (constant S_ .f32 0xBF000000#32)) (Host.divf r v))) (broadcastInDim S2048x1 ![] bcast_S_S2048x1 (constant S_ .f32 0x45000000#32))) (constant S_ .f32 0x00000000#32) reducesTo_S2048x1_S2048_d1 h_S_)

/-- The input's gradient. -/
def refDx (x y d q : FVec Ideal S2048x2048 .f32) (r : FVec Ideal S2048x1 .f32) (g : FVec Ideal S1x2048 .f32) : FVec Ideal S2048x2048 .f32 :=
  addf (addf (addf y (mulf (mulf d (broadcastInDim S2048x2048 ![0, 1] bcast_S1x2048_S2048x2048_0_1 g)) (broadcastInDim S2048x2048 ![0, 1] bcast_S2048x1_S2048x2048_0_1 r)))
    (mulf x q)) (mulf q x)

/-- The gain's gradient, repeated. -/
def refDg (x d : FVec Ideal S2048x2048 .f32) (r : FVec Ideal S2048x1 .f32) : FVec Ideal S8x2048 .f32 :=
  broadcastInDim S8x2048 ![0, 1] bcast_S1x2048_S8x2048_0_1 (shapeCast _ (Host.reduceAdd (mulf (mulf x (broadcastInDim S2048x2048 ![0, 1] bcast_S2048x1_S2048x2048_0_1 r)) d) (constant S_ .f32 0x00000000#32) reducesTo_S2048x2048_S2048_d0 h_S_) shapeCasts_S2048_S1x2048)

theorem refDh_real {p w : FVec Ideal S2048x8192 .bf16} {P W : Fin 2048 → Fin 8192 → ℝ} (hp : ∀ t k, p (ix2 t k) = (P t k : EReal))
    (hw : ∀ t k, w (ix2 t k) = (W t k : EReal)) (r e : Fin 2048) : refDh p w (ix2 r e) = (dh P W r e : EReal) := by
  pointwise [refDh]
  simp only [hp, hw, ← EReal.coe_mul, ← coe_sum]
  rfl

section
variable {x d : FVec Ideal S2048x2048 .f32} {X D : Fin 2048 → Fin 2048 → ℝ} (hx : ∀ r e, x (ix2 r e) = (X r e : EReal))
include hx

theorem refMs_real (r : Fin 2048) (l : Fin 1) : refMs x (ix2 r l) = (ms (X r) : EReal) := by
  pointwise [refMs]
  simp only [hx]
  exact ms_eq _

theorem refR_real (r : Fin 2048) (l : Fin 1) : Host.rsqrt (refMs x) (ix2 r l) = (rms (X r) : EReal) := by
  have h := refMs_real hx r l
  generalize refMs x = v at h ⊢
  pointwise []
  rw [h, rsqrt_real (ms_pos _)]
  rfl

variable {r v : FVec Ideal S2048x1 .f32} (hr : ∀ t l, r (ix2 t l) = (rms (X t) : EReal)) (hd : ∀ r e, d (ix2 r e) = (D r e : EReal))
include hr hd

theorem refDg_real (l : Fin 8) (e : Fin 2048) : refDg x d r (ix2 l e) = (dgain X D e : EReal) := by
  pointwise [refDg]
  simp only [hx, hr, hd, ← EReal.coe_mul, ← coe_sum]
  refine congrArg _ (Finset.sum_congr rfl fun k _ => ?_)
  ring

variable {g : FVec Ideal S1x2048 .f32} {G : Fin 2048 → ℝ} (hg : ∀ l e, g (ix2 l e) = (G e : EReal))
include hg

theorem refQ_real (hv : ∀ t l, v (ix2 t l) = (ms (X t) : EReal)) (t e : Fin 2048) :
    refQ x d r v g (ix2 t e) = (((∑ k, X t k * (D t k * G k)) * (-(1 / 2) * (rms (X t) * (1 / ms (X t)))) * (1 / 2048) : ℝ) : EReal) := by
  pointwise [refQ]
  simp only [hx, hd, hg, hr, hv, ← EReal.coe_mul, ← coe_sum]
  rw [ofBits_2048, ofBits_neg_half, div_real (ms_pos _).ne']
  simp only [← EReal.coe_mul]
  rw [div_real (by norm_num)]
  simp

theorem refDx_real (hv : ∀ t l, v (ix2 t l) = (ms (X t) : EReal)) {y : FVec Ideal S2048x2048 .f32} {Y : Fin 2048 → Fin 2048 → ℝ}
    (hy : ∀ r e, y (ix2 r e) = (Y r e : EReal)) (t e : Fin 2048) :
    refDx x y d (refQ x d r v g) r g (ix2 t e) = (dxRow (X t) (D t) G (Y t e) e : EReal) := by
  have hq := refQ_real hx hr hd hg hv
  generalize refQ x d r v g = q at hq ⊢
  pointwise [refDx]
  simp only [hx, hd, hg, hr, hy, hq, ← EReal.coe_mul, ← EReal.coe_add]
  exact congrArg _ (dxRow_rule (X t) (D t) G (Y t e) e)

end

section
variable (m : (ℓ : Loc nD τ sig) → Buf (Elt Ideal) ℓ) (c : Dev nD)

theorem res_dx : res_out0 m c = refDx (m ((c.tc : Thread nD τ).loc main_arg2)) (m ((c.tc : Thread nD τ).loc main_arg3))
    (refDh (m ((c.tc : Thread nD τ).loc main_arg0)) (m ((c.tc : Thread nD τ).loc main_arg1)))
    (refQ (m ((c.tc : Thread nD τ).loc main_arg2)) (refDh (m ((c.tc : Thread nD τ).loc main_arg0)) (m ((c.tc : Thread nD τ).loc main_arg1)))
      (Host.rsqrt (refMs (m ((c.tc : Thread nD τ).loc main_arg2)))) (refMs (m ((c.tc : Thread nD τ).loc main_arg2))) (m ((c.tc : Thread nD τ).loc main_arg4)))
    (Host.rsqrt (refMs (m ((c.tc : Thread nD τ).loc main_arg2)))) (m ((c.tc : Thread nD τ).loc main_arg4)) := by
  unfold res_out0 res_main_v38 refDx refQ refDh refMs
  rfl

end

end Cert.Grad2

end
-- ==== Proof.Pre2.lean ====
/- THE PRECONDITION of the input projection's backward pass, read back: every argument is an array of real numbers. -/
module

public import proofs.«01_k».proof.Pre_finite2
public import proofs.«01_k».proof.Proof.Pre

@[expose] public section

noncomputable section

namespace Cert.Band.Pre

open Idealize.ShloMosaic

theorem facts2 : Cert.Pre_finite2.Facts where
  bitsLt_bf16_f32 := by decide
  bcast_S_S2048x8192 := by decide
  reducesTo_S2048x8192_S_d0_1 := by decide
  h_S_ := by decide
  bcast_S_S2048x2048 := by decide
  reducesTo_S2048x2048_S_d0_1 := by decide
  bcast_S_S1x2048 := by decide
  reducesTo_S1x2048_S_d0_1 := by decide

theorem reals2 (x0 x1 : FVec Ideal Cert.Pre_finite2.S2048x8192 .bf16) (x2 x3 : FVec Ideal Cert.Pre_finite2.S2048x2048 .f32) (x4 : FVec Ideal Cert.Pre_finite2.S1x2048 .f32)
    (j : Cert.Pre_finite2.S_.Idx) (h : (letI := facts2; Cert.Pre_finite2.fn (F := Ideal) x0 x1 x2 x3 x4) j = 1#1) :
    (∀ i, (show EReal from x0 i) = ((EReal.toReal (x0 i) : ℝ) : EReal)) ∧ (∀ i, (show EReal from x1 i) = ((EReal.toReal (x1 i) : ℝ) : EReal))
    ∧ (∀ i, (show EReal from x2 i) = ((EReal.toReal (x2 i) : ℝ) : EReal)) ∧ (∀ i, (show EReal from x3 i) = ((EReal.toReal (x3 i) : ℝ) : EReal))
    ∧ (∀ i, (show EReal from x4 i) = ((EReal.toReal (x4 i) : ℝ) : EReal)) := by
  obtain ⟨h3, e4⟩ := IntOp.andi_eq_one.1 h
  obtain ⟨h2, e3⟩ := IntOp.andi_eq_one.1 h3
  obtain ⟨h1, e2⟩ := IntOp.andi_eq_one.1 h2
  obtain ⟨e0, e1⟩ := IntOp.andi_eq_one.1 h1
  exact ⟨fun i => real_of_all (s := Cert.Pre_finite2.S2048x8192) (extf .f32 x0 (by decide)) _ (inf_at _) _ _ _ j e0 i,
    fun i => real_of_all (s := Cert.Pre_finite2.S2048x8192) (extf .f32 x1 (by decide)) _ (inf_at _) _ _ _ j e1 i,
    fun i => real_of_all x2 _ (inf_at _) _ _ _ j e2 i, fun i => real_of_all x3 _ (inf_at _) _ _ _ j e3 i,
    fun i => real_of_all x4 _ (inf_at _) _ _ _ j e4 i⟩

end Cert.Band.Pre

end
-- ==== Proof.Pair2.lean ====
/- THE CLAIMS ABOUT THE INPUT PROJECTION'S BACKWARD PASS: the reference runs, and both results of the kernel are the
   reference's, from real arguments. -/
module

public import proofs.«01_k».proof.Defs
public import proofs.«01_k».proof.Proof.Sweep2
public import proofs.«01_k».proof.Proof.Ref2
public import proofs.«01_k».proof.Proof.Pre2
public import proofs.«01_k».proof.Proof.Pairs

@[expose] public section

set_option maxRecDepth 16384

noncomputable section

namespace Cert.Proof

open Idealize.ShloMosaic Idealize.ShloMosaic.TcCoe Idealize.SL.Sem Cert.Band

theorem frame_reference2 : Cert.quiescent_Reference2Ideal :=
  fun m g _ => (θ_run Cert.Reference2Ideal.defs _ _).mono
    (fun r h => ⟨fun c => (h c).2.2, sem_eq_zero_of_no_sems rfl r.2⟩) (Cert.Reference2Ideal.Value.run m g)

section
open Cert.Kernel2Ideal

/-- The kernel's arguments as real arrays, of arguments that the precondition admits. -/
theorem args2 {m : (ℓ : Loc nD τ sig) → Buf (Elt Ideal) ℓ} (c : Dev nD)
    (r0 : ∀ i, (show EReal from (show Vec Ideal S2048x8192 .bf16 from m ((c : Thread nD τ).loc main_arg0)) i) = ((EReal.toReal ((show Vec Ideal S2048x8192 .bf16 from m ((c : Thread nD τ).loc main_arg0)) i) : ℝ) : EReal))
    (r1 : ∀ i, (show EReal from (show Vec Ideal S2048x8192 .bf16 from m ((c : Thread nD τ).loc main_arg1)) i) = ((EReal.toReal ((show Vec Ideal S2048x8192 .bf16 from m ((c : Thread nD τ).loc main_arg1)) i) : ℝ) : EReal))
    (r2 : ∀ i, (show EReal from (show Vec Ideal S2048x2048 .f32 from m ((c : Thread nD τ).loc main_arg2)) i) = ((EReal.toReal ((show Vec Ideal S2048x2048 .f32 from m ((c : Thread nD τ).loc main_arg2)) i) : ℝ) : EReal))
    (r3 : ∀ i, (show EReal from (show Vec Ideal S2048x2048 .f32 from m ((c : Thread nD τ).loc main_arg3)) i) = ((EReal.toReal ((show Vec Ideal S2048x2048 .f32 from m ((c : Thread nD τ).loc main_arg3)) i) : ℝ) : EReal))
    (r4 : ∀ i, (show EReal from (show Vec Ideal S1x2048 .f32 from m ((c : Thread nD τ).loc main_arg4)) i) = ((EReal.toReal ((show Vec Ideal S1x2048 .f32 from m ((c : Thread nD τ).loc main_arg4)) i) : ℝ) : EReal)) :
    ∃ P W X Y G, Cert.Grad2.Args m c P W X Y G := by
  generalize hx0 : (show Vec Ideal S2048x8192 .bf16 from m ((c : Thread nD τ).loc main_arg0)) = x0 at r0
  generalize hx1 : (show Vec Ideal S2048x8192 .bf16 from m ((c : Thread nD τ).loc main_arg1)) = x1 at r1
  generalize hx2 : (show Vec Ideal S2048x2048 .f32 from m ((c : Thread nD τ).loc main_arg2)) = x2 at r2
  generalize hx3 : (show Vec Ideal S2048x2048 .f32 from m ((c : Thread nD τ).loc main_arg3)) = x3 at r3
  generalize hx4 : (show Vec Ideal S1x2048 .f32 from m ((c : Thread nD τ).loc main_arg4)) = x4 at r4
  refine ⟨fun t e => EReal.toReal (x0 (ix2 t e)), fun t e => EReal.toReal (x1 (ix2 t e)), fun t e => EReal.toReal (x2 (ix2 t e)),
    fun t e => EReal.toReal (x3 (ix2 t e)), fun e => EReal.toReal (x4 (ix2 0 e)), ?_⟩
  constructor
  · exact fun t e => (congrFun hx0 _).trans (r0 (ix2 t e))
  · exact fun t e => (congrFun hx1 _).trans (r1 (ix2 t e))
  · exact fun t e => (congrFun hx2 _).trans (r2 (ix2 t e))
  · exact fun t e => (congrFun hx3 _).trans (r3 (ix2 t e))
  · intro l e
    obtain rfl : l = 0 := Subsingleton.elim _ _
    exact (congrFun hx4 _).trans (r4 (ix2 0 e))

end

set_option maxHeartbeats 4000000 in
theorem algebraic2 : letI := Cert.Band.Pre.facts2; Cert.algebraic_Kernel2Ideal_Reference2Ideal_pre_finite2 := by
  letI := Cert.Band.Pre.facts2
  pair_intro
  · run_from Cert.Kernel2Ideal.Value.run m g
  · run_from Cert.Reference2Ideal.Value.run m' g'
    all_goals
      obtain ⟨r0, r1, r2, r3, r4⟩ := Cert.Band.Pre.reals2 _ _ _ _ _ _ (congrFun (hpre c) (fun a => a.elim0))
      obtain ⟨P, W, X, Y, G, A⟩ := args2 c r0 r1 r2 r3 r4
      obtain ⟨e0, e1, e2, e3, e4⟩ := hagree c
    · refine (Cert.Grad2.res_dx m' c).trans (ext2 fun t e => Eq.trans ?_ (Cert.Grad2.out_dx A t e).symm)
      rw [e0, e1, e2, e3, e4]
      exact Cert.Grad2.refDx_real A.h2 (Cert.Grad2.refR_real A.h2) (Cert.Grad2.refDh_real A.h0 A.h1) A.h4 (Cert.Grad2.refMs_real A.h2) A.h3 t e
    · refine ext2 fun l e => Eq.trans ?_ (Cert.Grad2.out_dg A l e).symm
      exact Cert.Grad2.refDg_real A.h2 (Cert.Grad2.refR_real A.h2) (Cert.Grad2.refDh_real A.h0 A.h1) l e

end Cert.Proof

end
-- ==== Proof.Fwd7.lean ====
/- THE INPUT PROJECTION, FORWARD, RUNS: the kernel's second result, the transposed weight, is stored at the first of the
   two points of a column block and written back at the second, which stores nothing into it. The run, for any float
   values, with what the two result blocks hold after each point. -/
module

public import proofs.«01_k».proof.Proof.Gen.Kernel7Ideal.Frame
public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Fwd7

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point does what -/

/-- The body's condition: the point is the first of its column block. -/
abbrev first (i : grid0.Coords) : Prop := k0_cond1 i = 1#1

theorem first_iff : ∀ t : Fin cfg0.N, first (grid0.coords t) ↔ t.val % 2 = 0 :=
  (by decide +kernel : ∀ t : Fin grid0.N, first (grid0.coords t) ↔ t.val % 2 = 0)

theorem live_in0 : ∀ t : Fin cfg0.N, cfg0.idle 0 (grid0.coords t) = false := fun _ => rfl
theorem live_in1 : ∀ t : Fin cfg0.N, cfg0.idle 1 (grid0.coords t) = false := fun _ => rfl
theorem live_out : ∀ t : Fin cfg0.N, cfg0.idle 2 (grid0.coords t) = false := fun _ => rfl

theorem live_even : ∀ t : Fin cfg0.N, t.val % 2 = 0 → cfg0.idle 3 (grid0.coords t) = false :=
  (by decide +kernel : ∀ t : Fin grid0.N, t.val % 2 = 0 → cfg0.idle 3 (grid0.coords t) = false)
theorem idle_odd : ∀ t : Fin cfg0.N, ¬t.val % 2 = 0 → cfg0.idle 3 (grid0.coords t) = true :=
  (by decide +kernel : ∀ t : Fin grid0.N, ¬t.val % 2 = 0 → cfg0.idle 3 (grid0.coords t) = true)
theorem back_odd (t : Fin cfg0.N) (h : ¬t.val % 2 = 0) : (cfg0.win 3).flush t = true := (flush0_3 t).2 (by omega)

/-- Whether the transposed weight's buffer holds nothing yet: at the even points. -/
def empty : ℕ → Bool := fun n => n % 2 == 0

theorem empty_step : ∀ t : Fin cfg0.N,
    empty (t.val + 1) = ((cfg0.win 3).flush t || (cfg0.idle 3 (cfg0.grid.coords t) && empty t.val)) := by decide +kernel

theorem fresh_odd (t : Fin cfg0.N) (h : ¬t.val % 2 = 0) : cfg0.fresh 3 t.val = false := by
  rw [Pipeline.Cfg.fresh_tab cfg0 3 empty rfl empty_step t.val (Nat.le_of_lt t.isLt)]
  exact beq_eq_false_iff_ne.2 h

/-! ## The body's two runs -/

abbrev VP : View sig .tc .vmem S1024x1024 .f32 := (Memref.whole cc0_stg2_0 : Memref sig .tc .vmem S1024x1024 .f32).view
abbrev VW : View sig .tc .vmem S1024x2048 .bf16 := (Memref.whole cc0_stg3_0 : Memref sig .tc .vmem S1024x2048 .bf16).view
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)

section
variable (c : Dev nD) (i : grid0.Coords) (arg2 : Memref sig .tc .vmem S1024x2048 .bf16) (harg2 : arg2.IsWhole)
  (arg3 : Memref sig .tc .vmem S1x2048x1024 .bf16) (harg3 : arg3.IsWhole) (arg4 : Memref sig .tc .vmem S1024x1024 .f32) (harg4 : arg4.IsWhole)
  (arg5 : Memref sig .tc .vmem S1024x2048 .bf16) (harg5 : arg5.IsWhole) (x0 : Vec F S1024x2048 .bf16) (x1 : Vec F S1x2048x1024 .bf16)

set_option maxHeartbeats 1000000 in
/-- The body at the first point of a column block: the pieces that it stores into the two result blocks, with its triple. -/
def runFirst (h : first i) :
    Σ' (L2 : List (View.Piece (Elt F) S1024x1024 .f32)), { L3 : List (View.Piece (Elt F) S1024x2048 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0_in_proj i arg2 harg2 arg3 harg3 arg4 harg4 arg5 harg5) K } := by
  refine ⟨?_, ?_, fun E K => ?run⟩
  case run =>
    simp only [cc0_in_proj_eq_skeleton]; unfold cc0_in_proj_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := sl_exact h)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 1000000 in
/-- The body at the second point: the transposed weight's block is not touched. -/
def runSecond (h : ¬first i) :
    { L2 : List (View.Piece (Elt F) S1024x1024 .f32) //
      ∀ (x3 : Vec F S1024x2048 .bf16) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare x3) -∗ K ⟨⟩))
          ⊢ wp frame (wpE (defs₀ (F := F)) Variants.none c none) E (cc0_in_proj i arg2 harg2 arg3 harg3 arg4 harg4 arg5 harg5) K } := by
  refine ⟨?_, fun x3 E K => ?run⟩
  case run =>
    simp only [cc0_in_proj_eq_skeleton]; unfold cc0_in_proj_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := sl_exact h)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact H3

variable (h : first i) (h' : ¬first i)

theorem cover_first2 (y : S1024x1024.Idx) :
    ∃ pc ∈ (runFirst c i arg2 harg2 arg3 harg3 arg4 harg4 arg5 harg5 x0 x1 h).1, y ∈ pc.1.set :=
  View.cover_of_tiledL (runFirst c i arg2 harg2 arg3 harg3 arg4 harg4 arg5 harg5 x0 x1 h).1 S1024x1024.size (by sl_kernel_rfl) y

theorem cover_first3 (y : S1024x2048.Idx) :
    ∃ pc ∈ (runFirst c i arg2 harg2 arg3 harg3 arg4 harg4 arg5 harg5 x0 x1 h).2.1, y ∈ pc.1.set :=
  View.cover_of_tiledL (runFirst c i arg2 harg2 arg3 harg3 arg4 harg4 arg5 harg5 x0 x1 h).2.1 S128x2048.size (by sl_kernel_rfl) y

theorem cover_second2 (y : S1024x1024.Idx) :
    ∃ pc ∈ (runSecond c i arg2 harg2 arg3 harg3 arg4 harg4 arg5 harg5 x0 x1 h').1, y ∈ pc.1.set :=
  View.cover_of_tiledL (runSecond c i arg2 harg2 arg3 harg3 arg4 harg4 arg5 harg5 x0 x1 h').1 S1024x1024.size (by sl_kernel_rfl) y

/-- What the first point leaves in the product's block. -/
def prodFirst : Vec F S1024x1024 .f32 :=
  VP.read (Elt F) (VP.writes (Elt F) VP.junk (runFirst c i arg2 harg2 arg3 harg3 arg4 harg4 arg5 harg5 x0 x1 h).1)

/-- What the second point leaves in the product's block. -/
def prodSecond : Vec F S1024x1024 .f32 :=
  VP.read (Elt F) (VP.writes (Elt F) VP.junk (runSecond c i arg2 harg2 arg3 harg3 arg4 harg4 arg5 harg5 x0 x1 h').1)

/-- What the first point leaves in the transposed weight's block. -/
def turned : Vec F S1024x2048 .bf16 :=
  VW.read (Elt F) (VW.writes (Elt F) VW.junk (runFirst c i arg2 harg2 arg3 harg3 arg4 harg4 arg5 harg5 x0 x1 h).2.1)

theorem prodFirst_eq : prodFirst c i arg2 harg2 arg3 harg3 arg4 harg4 arg5 harg5 x0 x1 h = k0_pay1 x0 x1 := by
  unfold prodFirst runFirst
  simp (disch := decide) only [View.read_writes_junk_eq_canon, View.canon_cons_unit_lit', View.ld_unit_lit', View.readCov_unit_lit',
    View.readCov_cons_unit_lit', View.readAt_eq_ld, Memref.IsWhole.read_unread]

theorem prodSecond_eq : prodSecond c i arg2 harg2 arg3 harg3 arg4 harg4 arg5 harg5 x0 x1 h' = k0_pay1 x0 x1 := by
  unfold prodSecond runSecond
  simp (disch := decide) only [View.read_writes_junk_eq_canon, View.canon_cons_unit_lit', View.ld_unit_lit', View.readCov_unit_lit',
    View.readCov_cons_unit_lit', View.readAt_eq_ld, Memref.IsWhole.read_unread]

end

/-! ## What the blocks hold, point by point -/

/-- The first point of a point's column block. -/
def base (t : Fin cfg0.N) : Fin cfg0.N := ⟨t.val - t.val % 2, Nat.lt_of_le_of_lt (Nat.sub_le _ _) t.isLt⟩

theorem base_even (t : Fin cfg0.N) : (base t).val % 2 = 0 := by show (t.val - t.val % 2) % 2 = 0; omega
theorem base_of_even (t : Fin cfg0.N) (h : t.val % 2 = 0) : base t = t := Fin.ext (by show t.val - t.val % 2 = t.val; omega)
theorem base_pred (t : Fin cfg0.N) (h : ¬t.val % 2 = 0) (hl) : base ⟨t.val - 1, hl⟩ = base t :=
  Fin.ext (by show t.val - 1 - (t.val - 1) % 2 = t.val - t.val % 2; omega)

/-- The transposed weight's block as an even point leaves it. -/
def wtAt (c : Dev nD) (t : Fin cfg0.N) (h : t.val % 2 = 0) : Vec F S1024x2048 .bf16 :=
  turned c (grid0.coords t) (ms0 t) (hs0 t) (ms1 t) (hs1 t) (ms2 t) (hs2 t) (ms3 t) (hs3 t) (iblk m c 0 t) (iblk m c 1 t) ((first_iff t).mpr h)

/-- The transposed weight's block after any point: as the first point of its column block left it. -/
def wtBlk (c : Dev nD) (t : Fin cfg0.N) : Vec F S1024x2048 .bf16 := wtAt m c (base t) (base_even t)

theorem wtBlk_even (c : Dev nD) (t : Fin cfg0.N) (h : t.val % 2 = 0) : wtBlk m c t = wtAt m c t h := by
  have : ∀ (s : Fin cfg0.N) (hs : s.val % 2 = 0), s = t → wtAt m c s hs = wtAt m c t h := by rintro s hs rfl; rfl
  exact this _ _ (base_of_even t h)

theorem wtBlk_pred (c : Dev nD) (t : Fin cfg0.N) (h : ¬t.val % 2 = 0) (hl) : wtBlk m c ⟨t.val - 1, hl⟩ = wtBlk m c t := by
  have : ∀ (s u : Fin cfg0.N) (hs : s.val % 2 = 0) (hu : u.val % 2 = 0), s = u → wtAt m c s hs = wtAt m c u hu := by rintro s u hs hu rfl; rfl
  exact this _ _ _ _ (base_pred t h hl)

/-- The pipeline's proof data: the arrays as the region finds them, the blocks after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
    | ⟨3, _⟩ => wtBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay1 (iblk m c 0 t) (iblk m c 1 t) := by dsimp only [dats]
theorem after3 (c : Dev nD) (t : Fin cfg0.N) : (dats m 0 c).after 3 t = wtBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- A point that leaves the transposed weight alone has it as the point before had. -/
theorem carried (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  rw [after3, after3]
  by_cases h : t.val % 2 = 0
  · rw [live_even t h] at hi
    exact absurd hi Bool.false_ne_true
  · exact (wtBlk_pred m c t h _).symm

theorem before3 (c : Dev nD) (t : Fin cfg0.N) (h : ¬t.val % 2 = 0) (d) : (dats m 0 c).before 3 t d = wtBlk m c t := by
  rw [Dat.before_out_traj _ 3 rfl (fun _ _ => rfl) (carried m c) t.val t rfl d, if_neg (by rw [fresh_odd t h]; exact Bool.false_ne_true)]
  exact (after3 m c _).trans (wtBlk_pred m c t h _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the first of a column block stores both results, the second stores the product and returns
    the transposed weight as it found it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare (iblk m c 0 t) from by
      unfold Dat.leavesExact; rw [live_in0 t, after0],
    show (dats m 0 c).leavesExact 1 t = owns (c : Thread nD τ) (ms1 t) fullShare (iblk m c 1 t) from by
      unfold Dat.leavesExact; rw [live_in1 t, after1],
    show (dats m 0 c).leavesExact 2 t = owns (c : Thread nD τ) (ms2 t) fullShare (k0_pay1 (iblk m c 0 t) (iblk m c 1 t)) from by
      unfold Dat.leavesExact; rw [live_out t, after2]]
  by_cases h : t.val % 2 = 0
  · rw [show (dats m 0 c).leavesExact 3 t = owns (c : Thread nD τ) (ms3 t) fullShare (wtAt m c t h) from by
      unfold Dat.leavesExact; rw [live_even t h, after3, wtBlk_even m c t h]]
    rw [← prodFirst_eq c (grid0.coords t) (ms0 t) (hs0 t) (ms1 t) (hs1 t) (ms2 t) (hs2 t) (ms3 t) (hs3 t) (iblk m c 0 t) (iblk m c 1 t) ((first_iff t).mpr h)]
    unfold wtAt turned prodFirst
    iintro ⟨HΦ, Ho, ⟨%d0, H0⟩, ⟨%d1, H1⟩, ⟨%d2, H2⟩, ⟨%d3, H3⟩⟩
    iapply ((runFirst c (grid0.coords t) _ _ _ _ _ _ _ _ (iblk m c 0 t) (iblk m c 1 t) ((first_iff t).mpr h)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_first2 c _ _ _ _ _ _ _ _ _ _ _ _)
    unfold owns; iexists _; isplitr
    swap; · iexact H3
    ipureintro; exact View.read_writes_of_cover _ _ _ _ _ (cover_first3 c _ _ _ _ _ _ _ _ _ _ _ _)
  · rw [show (dats m 0 c).leavesExact 3 t = owns (c : Thread nD τ) (ms3 t) fullShare (wtBlk m c t) from by
      unfold Dat.leavesExact; rw [idle_odd t h, back_odd t h, after3]]
    rw [← prodSecond_eq c (grid0.coords t) (ms0 t) (hs0 t) (ms1 t) (hs1 t) (ms2 t) (hs2 t) (ms3 t) (hs3 t) (iblk m c 0 t) (iblk m c 1 t) (fun hf => h ((first_iff t).mp hf))]
    simp only [before3 m c t h]
    unfold prodSecond
    iintro ⟨HΦ, Ho, ⟨%d0, H0⟩, ⟨%d1, H1⟩, ⟨%d2, H2⟩, ⟨%d3, H3⟩⟩
    iapply ((runSecond c (grid0.coords t) _ _ _ _ _ _ _ _ (iblk m c 0 t) (iblk m c 1 t) (fun hf => h ((first_iff t).mp hf))).2 (wtBlk m c t) Set.univ _)
    isplitl [H0]; · iexact H0
    isplitl [H1]; · iexact H1
    isplitl [H2]; · iexists _; iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_second2 c _ _ _ _ _ _ _ _ _ _ _ _)
    iexact H3

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
/-- The program runs: every array ends as the proof data say, every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_all m ρ)

/-- The arguments end unchanged and every counter ends at zero. -/
theorem frame7 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_post m ρ)) ((θ_run defs _ _).mono (fun _ h => h.2) (run_all m ρ))

/-- The two results and the arguments after the run. -/
theorem run_results : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2, (h.1 c).1 3, (h.2.1 c).1, (h.2.1 c).2⟩) (θ_run_and (run_post m ρ) (frame7 m ρ))

end Cert.Fwd7

end
-- ==== Proof.Val7.lean ====
/- THE INPUT PROJECTION, FORWARD: each element of the kernel's and of the reference's two results, the product with the
   weight's four column blocks and the transposed weight. -/
module

public import proofs.«01_k».proof.Proof.Fwd7
public import proofs.«01_k».proof.Proof.Gen.Reference7Ideal.Run
public import Idealize.ShloMosaic.Lib.Claim
public import Idealize.ShloMosaic.Lib.Pipeline.ValueKit

@[expose] public section

set_option maxRecDepth 16384

noncomputable section

namespace Cert.Fwd7

open Idealize.ShloMosaic Idealize.ShloMosaic.TcCoe Idealize.SL.Sem

section
variable (W : Vec Ideal (⟨3, ![4, 2048, 2048]⟩ : Shape) .bf16)

/-- Element `(k, j)` of the whole weight: column `j` lies in block `j / 2048`. -/
def whole (k : Fin 2048) (j : Fin 8192) : EReal := W (ix3 (⟨j / 2048, by omega⟩ : Fin 4) k (⟨j % 2048, by omega⟩ : Fin 2048))

/-- Element `(t, j)` of the projection. -/
def proj (H : Vec Ideal (⟨2, ![2048, 2048]⟩ : Shape) .bf16) (t : Fin 2048) (j : Fin 8192) : EReal :=
  ∑ k : Fin 2048, (show EReal from H (ix2 t k)) * whole W k j
end

section
open Cert.Kernel7Ideal Cert.Kernel7Ideal.Gen
variable (m : (ℓ : Loc nD τ sig) → Buf (Elt Ideal) ℓ) (c : Dev nD)

/-- The index maps of the four windows. -/
theorem idx : ∀ t : Fin cfg0.N, win0_0.index t = ![t.val % 2, 0] ∧ win0_1.index t = ![t.val / 4, 0, t.val / 2 % 2]
    ∧ win0_2.index t = ![t.val % 2, t.val / 2] ∧ win0_3.index t = ![t.val / 2, 0] :=
  (by decide +kernel : ∀ t : Fin grid0.N, _)

theorem blk0 (t : Fin cfg0.N) (q : Fin 2048) (r : Fin 1024) (k : Fin 2048) (h : 1024 * (t.val % 2) + r.val = q.val) :
    (show Vec Ideal S1024x2048 .bf16 from iblk m c 0 t) (ix2 r k) = (show Vec Ideal S2048x2048 .bf16 from m ((c : Thread nD τ).loc main_arg0)) (ix2 q k) := by
  obtain ⟨q, hq⟩ := q
  obtain rfl : 1024 * (t.val % 2) + r.val = q := h
  show iblk m c 0 t (ix2 r k) = m ((c : Thread nD τ).loc main_arg0) _
  blk_ext [iblk, V, idx t]

theorem blk1 (t : Fin cfg0.N) (j : Fin 8192) (k : Fin 2048) (e : Fin 1024) (h : 1024 * (t.val / 2) + e.val = j.val) :
    (show Vec Ideal S1x2048x1024 .bf16 from iblk m c 1 t) (ix3 0 k e) = whole (m ((c : Thread nD τ).loc main_arg1)) k j := by
  have hN : t.val < 16 := lt_of_lt_of_eq t.isLt N_0
  have h4 : t.val / 4 < 4 := by omega
  have hq : 1024 * (t.val / 2 % 2) + e.val < 2048 := by omega
  have e1 : (show Vec Ideal S1x2048x1024 .bf16 from iblk m c 1 t) (ix3 0 k e)
      = (show Vec Ideal S4x2048x2048 .bf16 from m ((c : Thread nD τ).loc main_arg1)) (ix3 (⟨t.val / 4, h4⟩ : Fin 4) k (⟨1024 * (t.val / 2 % 2) + e.val, hq⟩ : Fin 2048)) := by
    show iblk m c 1 t (ix3 0 k e) = m ((c : Thread nD τ).loc main_arg1) _
    blk_ext [iblk, V, idx t]
  refine e1.trans (congrArg₂ (fun a b => (show EReal from (show Vec Ideal S4x2048x2048 .bf16 from m ((c : Thread nD τ).loc main_arg1)) (ix3 a k b))) (Fin.ext ?_) (Fin.ext ?_))
  · show t.val / 4 = j.val / 2048; omega
  · show 1024 * (t.val / 2 % 2) + e.val = j.val % 2048; omega

/-- The product's payload. -/
theorem pay (x : Vec Ideal S1024x2048 .bf16) (y : Vec Ideal S1x2048x1024 .bf16) (r e : Fin 1024) :
    k0_pay1 x y (ix2 r e) = ∑ k : Fin 2048, (show EReal from x (ix2 r k)) * (show EReal from y (ix3 0 k e)) := by
  pointwise [k0_pay1]

/- One store of 128 columns, turned: at each of the eight. -/
section
variable (v : Vec Ideal S1x2048x128 .bf16) (a : Fin 128) (k : Fin 2048)
theorem cut2 : k0_pay2 v (ix2 a k) = v (ix3 0 k a) := by pointwise [k0_pay2]
theorem cut3 : k0_pay3 v (ix2 a k) = v (ix3 0 k a) := by pointwise [k0_pay3]
theorem cut4 : k0_pay4 v (ix2 a k) = v (ix3 0 k a) := by pointwise [k0_pay4]
theorem cut5 : k0_pay5 v (ix2 a k) = v (ix3 0 k a) := by pointwise [k0_pay5]
theorem cut6 : k0_pay6 v (ix2 a k) = v (ix3 0 k a) := by pointwise [k0_pay6]
theorem cut7 : k0_pay7 v (ix2 a k) = v (ix3 0 k a) := by pointwise [k0_pay7]
theorem cut8 : k0_pay8 v (ix2 a k) = v (ix3 0 k a) := by pointwise [k0_pay8]
theorem cut9 : k0_pay9 v (ix2 a k) = v (ix3 0 k a) := by pointwise [k0_pay9]
end

/-- The eight stores of the transposed block, at an element. -/
theorem turned_at (i : grid0.Coords) (arg2 : Memref sig .tc .vmem S1024x2048 .bf16) (harg2 : arg2.IsWhole)
    (arg3 : Memref sig .tc .vmem S1x2048x1024 .bf16) (harg3 : arg3.IsWhole) (arg4 : Memref sig .tc .vmem S1024x1024 .f32) (harg4 : arg4.IsWhole)
    (arg5 : Memref sig .tc .vmem S1024x2048 .bf16) (harg5 : arg5.IsWhole) (x0 : Vec Ideal S1024x2048 .bf16) (x1 : Vec Ideal S1x2048x1024 .bf16)
    (h : first i) (r : Fin 1024) (k : Fin 2048) :
    turned c i arg2 harg2 arg3 harg3 arg4 harg4 arg5 harg5 x0 x1 h (ix2 r k) = x1 (ix3 0 k r) := by
  have hc := cover_first3 c i arg2 harg2 arg3 harg3 arg4 harg4 arg5 harg5 x0 x1 h (ix2 r k)
  unfold turned
  rw [View.read_writes_junk_eq_canon]
  unfold runFirst at hc ⊢
  simp only [View.readAt_eq_ld, Memref.IsWhole.read_unread] at hc ⊢
  canon_tiles x hx using hc
  all_goals
    have hr : r.val < 1024 := r.isLt
    obtain ⟨a, b, rfl⟩ : ∃ (a : Fin 128) (b : Fin 2048), x = ix2 a b := ⟨x 0, x 1, eq_ix2 x⟩
    obtain rfl : k = b := Fin.ext hx1
    first | have hx0' : r.val = _ + a.val := hx0 | have hx0' : r.val = a.val := hx0
  · exact (cut4 _ a k).trans (View.ld_unit_apply_of _ _ _ _ _ (ix3 0 k r) fun a => by fin_cases a <;> simp [hx0'])
  · exact (cut3 _ a k).trans (View.ld_unit_apply_of _ _ _ _ _ (ix3 0 k r) fun a => by fin_cases a <;> simp [hx0'])
  · exact (cut2 _ a k).trans (View.ld_unit_apply_of _ _ _ _ _ (ix3 0 k r) fun a => by fin_cases a <;> simp [hx0'])
  · exact (cut9 _ a k).trans (View.ld_unit_apply_of _ _ _ _ _ (ix3 0 k r) fun a => by fin_cases a <;> simp [hx0'])
  · exact (cut8 _ a k).trans (View.ld_unit_apply_of _ _ _ _ _ (ix3 0 k r) fun a => by fin_cases a <;> simp [hx0'])
  · exact (cut7 _ a k).trans (View.ld_unit_apply_of _ _ _ _ _ (ix3 0 k r) fun a => by fin_cases a <;> simp [hx0'])
  · exact (cut6 _ a k).trans (View.ld_unit_apply_of _ _ _ _ _ (ix3 0 k r) fun a => by fin_cases a <;> simp [hx0'])
  · exact (cut5 _ a k).trans (View.ld_unit_apply_of _ _ _ _ _ (ix3 0 k r) fun a => by fin_cases a <;> simp [hx0'])

/-- No two points write back overlapping blocks of a result. -/
theorem apart2 : ∀ t t' : Fin cfg0.N, (cfg0.win 2).flush t = true → (cfg0.win 2).flush t' = true → t ≠ t' →
    Disjoint ((cfg0.win 2).blk t).view.set ((cfg0.win 2).blk t').view.set :=
  (cfg0.win 2).hdisj_of_index_inj fun t t' _ _ e => (by decide +kernel : ∀ t t' : Fin grid0.N, win0_2.index t = win0_2.index t' → t = t') t t' e

theorem apart3 : ∀ t t' : Fin cfg0.N, (cfg0.win 3).flush t = true → (cfg0.win 3).flush t' = true → t ≠ t' →
    Disjoint ((cfg0.win 3).blk t).view.set ((cfg0.win 3).blk t').view.set :=
  (cfg0.win 3).hdisj_of_index_inj fun t t' hf hf' e =>
    (by decide +kernel : ∀ t t' : Fin grid0.N, t.val % 2 = 1 → t'.val % 2 = 1 → win0_3.index t = win0_3.index t' → t = t')
      t t' ((flush0_3 t).1 hf) ((flush0_3 t').1 hf') e

theorem back2 (t : Fin cfg0.N) : ((cfg0.win 2).blk t).view.read (Elt Ideal) ((dats m 0 c).arrAt 2 cfg0.N)
    = (cfg0.win 2).cut (grid0.coords t) (k0_pay1 (iblk m c 0 t) (iblk m c 1 t)) := by
  refine ((dats m 0 c).read_blk_arrAt_eq_flushed 2 apart2 cfg0.N t t.isLt (flush0_2 t)).trans ?_
  show (cfg0.win 2).cut (grid0.coords t) ((dats m 0 c).after 2 t) = _
  rw [after2]

theorem back3 (t : Fin cfg0.N) (h : t.val % 2 = 1) : ((cfg0.win 3).blk t).view.read (Elt Ideal) ((dats m 0 c).arrAt 3 cfg0.N)
    = (cfg0.win 3).cut (grid0.coords t) (wtBlk m c t) := by
  refine ((dats m 0 c).read_blk_arrAt_eq_flushed 3 apart3 cfg0.N t t.isLt ((flush0_3 t).2 h)).trans ?_
  show (cfg0.win 3).cut (grid0.coords t) ((dats m 0 c).after 3 t) = _
  rw [after3]

/-- The kernel's projection. -/
theorem arr2 (q : Fin 2048) (j : Fin 8192) :
    (show Vec Ideal S2048x8192 .f32 from (dats m 0 c).arrAt 2 cfg0.N) (ix2 q j)
      = proj (m ((c : Thread nD τ).loc main_arg1)) (m ((c : Thread nD τ).loc main_arg0)) q j := by
  have hN : 2 * (j.val / 1024) + q.val / 1024 < cfg0.N := lt_of_lt_of_eq (by omega) N_0.symm
  set t : Fin cfg0.N := ⟨2 * (j.val / 1024) + q.val / 1024, hN⟩ with ht
  have h := congrFun (back2 m c t) (ix2 (⟨q.val % 1024, Nat.mod_lt _ (by norm_num)⟩ : Fin 1024) (⟨j.val % 1024, Nat.mod_lt _ (by norm_num)⟩ : Fin 1024))
  have e2 : (show Vec Ideal S2048x8192 .f32 from (dats m 0 c).arrAt 2 cfg0.N) (ix2 q j)
      = ((cfg0.win 2).blk t).view.read (Elt Ideal) ((dats m 0 c).arrAt 2 cfg0.N) (ix2 (⟨q.val % 1024, Nat.mod_lt _ (by norm_num)⟩ : Fin 1024) (⟨j.val % 1024, Nat.mod_lt _ (by norm_num)⟩ : Fin 1024)) := by
    generalize (dats m 0 c).arrAt 2 cfg0.N = arr
    symm
    show ((cfg0.win 2).blk t).view.read (Elt Ideal) arr (ix2 (⟨q.val % 1024, Nat.mod_lt _ (by norm_num)⟩ : Fin 1024) (⟨j.val % 1024, Nat.mod_lt _ (by norm_num)⟩ : Fin 1024)) = arr (ix2 q j)
    blk_ext [idx t]
    all_goals (have := t.isLt; simp only [ht]; omega)
  rw [e2, h]
  show k0_pay1 (iblk m c 0 t) (iblk m c 1 t) (ix2 (⟨q.val % 1024, Nat.mod_lt _ (by norm_num)⟩ : Fin 1024) (⟨j.val % 1024, Nat.mod_lt _ (by norm_num)⟩ : Fin 1024)) = _
  exact (pay _ _ _ _).trans (Finset.sum_congr rfl fun k _ =>
    congrArg₂ (· * ·) (blk0 m c t q _ k (by simp only [ht]; omega)) (blk1 m c t j k _ (by simp only [ht]; omega)))

/-- The kernel's transposed weight. -/
theorem arr3 (j : Fin 8192) (k : Fin 2048) :
    (show Vec Ideal S8192x2048 .bf16 from (dats m 0 c).arrAt 3 cfg0.N) (ix2 j k) = whole (m ((c : Thread nD τ).loc main_arg1)) k j := by
  have hN : 2 * (j.val / 1024) + 1 < cfg0.N := lt_of_lt_of_eq (by omega) N_0.symm
  set t : Fin cfg0.N := ⟨2 * (j.val / 1024) + 1, hN⟩ with ht
  have h := congrFun (back3 m c t (by simp only [ht]; omega)) (ix2 (⟨j.val % 1024, Nat.mod_lt _ (by norm_num)⟩ : Fin 1024) k)
  have e2 : (show Vec Ideal S8192x2048 .bf16 from (dats m 0 c).arrAt 3 cfg0.N) (ix2 j k)
      = ((cfg0.win 3).blk t).view.read (Elt Ideal) ((dats m 0 c).arrAt 3 cfg0.N) (ix2 (⟨j.val % 1024, Nat.mod_lt _ (by norm_num)⟩ : Fin 1024) k) := by
    generalize (dats m 0 c).arrAt 3 cfg0.N = arr
    symm
    show ((cfg0.win 3).blk t).view.read (Elt Ideal) arr (ix2 (⟨j.val % 1024, Nat.mod_lt _ (by norm_num)⟩ : Fin 1024) k) = arr (ix2 j k)
    blk_ext [idx t]
    all_goals (have := t.isLt; simp only [ht]; omega)
  rw [e2, h]
  show wtBlk m c t (ix2 (⟨j.val % 1024, Nat.mod_lt _ (by norm_num)⟩ : Fin 1024) k) = _
  unfold wtBlk wtAt
  refine (turned_at c _ _ _ _ _ _ _ _ _ _ _ _ _ k).trans (blk1 m c (base t) j k _ ?_)
  simp only [base, ht]
  omega

end

section
open Cert.Reference7Ideal Cert.Reference7Ideal.Gen

variable (H : Vec Ideal S2048x2048 .bf16) (W : Vec Ideal S4x2048x2048 .bf16)

/-- The reference's projection. -/
theorem ref4 (q : Fin 2048) (j : Fin 8192) :
    (Host.dotGeneral dot_S2048x2048_S2048x8192_S2048x8192_1_0_0_1_n_n none (extf .f32 (show FVec Ideal S2048x2048 .bf16 from H) bitsLt_bf16_f32)
      (extf .f32 (show FVec Ideal S2048x8192 .bf16 from shapeCast _ (transpose S2048x4x2048 [1, 0, 2] W transposes_S4x2048x2048_S2048x4x2048_1_0_2) shapeCasts_S2048x4x2048_S2048x8192) bitsLt_bf16_f32)) (ix2 q j)
      = proj W H q j := by
  pointwise [proj, whole]

/-- The reference's transposed weight. -/
theorem ref5 (j : Fin 8192) (k : Fin 2048) :
    (transpose S8192x2048 [1, 0] (show Vec Ideal S2048x8192 .bf16 from shapeCast _ (transpose S2048x4x2048 [1, 0, 2] W transposes_S4x2048x2048_S2048x4x2048_1_0_2) shapeCasts_S2048x4x2048_S2048x8192) transposes_S2048x8192_S8192x2048_1_0) (ix2 j k)
      = whole W k j := by
  pointwise [whole]

end

end Cert.Fwd7

end
-- ==== Proof.Pair7.lean ====
/- THE INPUT PROJECTION, FORWARD: the frames of the kernel, of its idealization and of the reference, and the equality of
   their two results over the extended reals. -/
module

public import proofs.«01_k».proof.Proof.Val7
public import proofs.«01_k».proof.Proof.Gen.Kernel7
public import proofs.«01_k».proof.Proof.Gen.Kernel7Ideal
public import proofs.«01_k».proof.Proof.Gen.Reference7Ideal
public import proofs.«01_k».proof.Proof.Pairs
public import proofs.«01_k».proof.Defs

@[expose] public section

set_option maxRecDepth 16384

noncomputable section

namespace Cert.Proof

open Idealize.ShloMosaic Idealize.SL.Sem

/-- The two programs have the same bodies. -/
theorem body_same : Cert.Kernel7.defs₀ (F := Bits) = Cert.Kernel7Ideal.defs₀ (F := Bits) := by
  unfold Cert.Kernel7.defs₀ Cert.Kernel7Ideal.defs₀
  refine congrArg _ ?_
  funext l a
  match l, a with
  | 0, (t, s) => rfl

theorem defs_same : Cert.Kernel7.defs (F := Bits) = Cert.Kernel7Ideal.defs (F := Bits) :=
  congrArg (Pipeline.defs (Cert.Kernel7.pcfgs (F := Bits))) body_same

/-- The kernel over the machine's numbers is the idealized program run at them. -/
theorem frame_kernel7 : Cert.quiescent_Kernel7 := fun m g _ => by
  rw [defs_same]
  exact (θ_run Cert.Kernel7Ideal.defs _ _).mono (fun _ h => h) (Cert.Fwd7.frame7 (F := Bits) m g)

theorem frame_ideal7 : Cert.quiescent_Kernel7Ideal := fun m g _ => Cert.Fwd7.frame7 m g

theorem frame_reference7 : Cert.quiescent_Reference7Ideal :=
  fun m g _ => (θ_run Cert.Reference7Ideal.defs _ _).mono
    (fun r h => ⟨fun c => (h c).2.2, sem_eq_zero_of_no_sems rfl r.2⟩) (Cert.Reference7Ideal.Value.run m g)

theorem algebraic7 : Cert.algebraic_Kernel7Ideal_Reference7Ideal := by
  pair_intro
  · run_from Cert.Fwd7.run_results m g
  · run_from Cert.Reference7Ideal.Value.run m' g'
    · exact ext2 fun t j => (Cert.Fwd7.ref4 _ _ t j).trans (Cert.Fwd7.arr2 m c t j).symm
    · exact ext2 fun j k => (Cert.Fwd7.ref5 _ j k).trans (Cert.Fwd7.arr3 m c j k).symm

end Cert.Proof

end
-- ==== Proof.Grad8.lean ====
/- THE GATED OUTPUT PROJECTION WITH THE LOSS HEAD: each element of the kernel's and of the reference's three results; the
   kernel's loss is a sum that goes from row block to row block. -/
module

public import proofs.«01_k».proof.Proof.Gen.Kernel8Ideal.Value
public import proofs.«01_k».proof.Proof.Gen.Reference8Ideal.Run
public import proofs.«01_k».proof.Proof.Grad6
public import Idealize.ShloMosaic.Lib.Pipeline.ReadBack

@[expose] public section

set_option maxRecDepth 16384

noncomputable section

namespace Cert.Grad8

open Idealize.ShloMosaic Idealize.ShloMosaic.TcCoe Idealize.SL.Sem Cert.Band Cert.Grad4 Cert.Grad6

/-- The mean of a row's squares. -/
def msq (a : Fin 2048 → EReal) : EReal := Ideal.div (∑ k : Fin 2048, a k * a k) (Ideal.ofBits .f32 0x45000000#32)

section
open Cert.Kernel8Ideal Cert.Kernel8Ideal.Gen Cert.Kernel8Ideal.Value
variable (m : (ℓ : Loc nD τ sig) → Buf (Elt Ideal) ℓ) (c : Dev nD)

/-- The index maps of the windows, the loss's apart. -/
theorem idx : ∀ t : Fin cfg0.N, win0_0.index t = ![t.val, 0] ∧ win0_1.index t = ![t.val, 0] ∧ win0_2.index t = ![t.val, 0]
    ∧ win0_3.index t = ![t.val, 3] ∧ win0_4.index t = ![t.val, 7] ∧ win0_5.index t = ![0, 0] ∧ win0_6.index t = ![t.val, 0]
    ∧ win0_7.index t = ![t.val, 0] ∧ win0_8.index t = ![t.val, 0] :=
  (by decide +kernel : ∀ t : Fin grid0.N, _)

theorem blk0 (t : Fin cfg0.N) (q : Fin 2048) (r : Fin 256) (e : Fin 2048) (h : 256 * t.val + r.val = q.val) :
    (show Vec Ideal S256x2048 .f32 from iblk m c 0 t) (ix2 r e) = (show Vec Ideal S2048x2048 .f32 from m ((c : Thread nD τ).loc main_arg0)) (ix2 q e) := by
  obtain ⟨q, hq⟩ := q
  obtain rfl : 256 * t.val + r.val = q := h
  show iblk m c 0 t (ix2 r e) = m ((c : Thread nD τ).loc main_arg0) _
  blk_ext [iblk, V, idx t]

theorem blk1 (t : Fin cfg0.N) (q : Fin 2048) (r : Fin 256) (e : Fin 1024) (h : 256 * t.val + r.val = q.val) :
    (show Vec Ideal S256x1024 .f32 from iblk m c 1 t) (ix2 r e) = (show Vec Ideal S2048x1024 .f32 from m ((c : Thread nD τ).loc main_arg1)) (ix2 q e) := by
  obtain ⟨q, hq⟩ := q
  obtain rfl : 256 * t.val + r.val = q := h
  show iblk m c 1 t (ix2 r e) = m ((c : Thread nD τ).loc main_arg1) _
  blk_ext [iblk, V, idx t]

theorem blk2 (t : Fin cfg0.N) (q : Fin 2048) (r : Fin 256) (e : Fin 1024) (h : 256 * t.val + r.val = q.val) :
    (show Vec Ideal S256x1024 .f32 from iblk m c 2 t) (ix2 r e) = (show Vec Ideal S2048x1024 .f32 from m ((c : Thread nD τ).loc main_arg2)) (ix2 q e) := by
  obtain ⟨q, hq⟩ := q
  obtain rfl : 256 * t.val + r.val = q := h
  show iblk m c 2 t (ix2 r e) = m ((c : Thread nD τ).loc main_arg2) _
  blk_ext [iblk, V, idx t]

theorem blk3 (t : Fin cfg0.N) (q : Fin 2048) (r : Fin 256) (e : Fin 1024) (h : 256 * t.val + r.val = q.val) :
    (show Vec Ideal S256x1024 .f32 from iblk m c 3 t) (ix2 r e) = (show Vec Ideal S2048x8192 .f32 from m ((c : Thread nD τ).loc main_arg3)) (ix2 q ⟨3072 + e, by omega⟩) := by
  obtain ⟨q, hq⟩ := q
  obtain rfl : 256 * t.val + r.val = q := h
  show iblk m c 3 t (ix2 r e) = m ((c : Thread nD τ).loc main_arg3) _
  blk_ext [iblk, V, idx t]

theorem blk4 (t : Fin cfg0.N) (q : Fin 2048) (r : Fin 256) (e : Fin 1024) (h : 256 * t.val + r.val = q.val) :
    (show Vec Ideal S256x1024 .f32 from iblk m c 4 t) (ix2 r e) = (show Vec Ideal S2048x8192 .f32 from m ((c : Thread nD τ).loc main_arg3)) (ix2 q ⟨7168 + e, by omega⟩) := by
  obtain ⟨q, hq⟩ := q
  obtain rfl : 256 * t.val + r.val = q := h
  show iblk m c 4 t (ix2 r e) = m ((c : Thread nD τ).loc main_arg3) _
  blk_ext [iblk, V, idx t]

theorem blk5 (t : Fin cfg0.N) (r e : Fin 2048) :
    (show Vec Ideal S2048x2048 .bf16 from iblk m c 5 t) (ix2 r e) = (show Vec Ideal S2048x2048 .bf16 from m ((c : Thread nD τ).loc main_arg4)) (ix2 r e) := by
  show iblk m c 5 t (ix2 r e) = m ((c : Thread nD τ).loc main_arg4) _
  blk_ext [iblk, V, idx t]

theorem blk6 (t : Fin cfg0.N) (q : Fin 2048) (r : Fin 256) (e : Fin 2048) (h : 256 * t.val + r.val = q.val) :
    (show Vec Ideal S256x2048 .f32 from iblk m c 6 t) (ix2 r e) = (show Vec Ideal S2048x2048 .f32 from m ((c : Thread nD τ).loc main_arg5)) (ix2 q e) := by
  obtain ⟨q, hq⟩ := q
  obtain rfl : 256 * t.val + r.val = q := h
  show iblk m c 6 t (ix2 r e) = m ((c : Thread nD τ).loc main_arg5) _
  blk_ext [iblk, V, idx t]

section
variable (x0 : Vec Ideal S256x2048 .f32) (x1 x2 x3 x4 : Vec Ideal S256x1024 .f32) (x5 : Vec Ideal S2048x2048 .bf16) (x6 : Vec Ideal S256x2048 .f32) (r : Fin 256)

theorem pay5 (y g : Vec Ideal S256x1024 .f32) (e : Fin 1024) : k0_pay5 y g (ix2 r e) = gv (y (ix2 r e)) (g (ix2 r e)) := by
  pointwise [k0_pay5]
  simp only [gv, sg, zero_sub]

theorem pay6 (y g : Vec Ideal S256x1024 .f32) (e : Fin 1024) : k0_pay6 y g (ix2 r e) = gv (y (ix2 r e)) (g (ix2 r e)) := by
  pointwise [k0_pay6]
  simp only [gv, sg, zero_sub]

variable (i : grid0.Coords)

theorem out7Al (a1 : Memref sig .tc .vmem S256x2048 .f32) (w1 : a1.IsWhole) (a2 : Memref sig .tc .vmem S256x1024 .f32) (w2 : a2.IsWhole) (a3 : Memref sig .tc .vmem S256x1024 .f32) (w3 : a3.IsWhole) (a4 : Memref sig .tc .vmem S256x1024 .f32) (w4 : a4.IsWhole) (a5 : Memref sig .tc .vmem S256x1024 .f32) (w5 : a5.IsWhole) (a6 : Memref sig .tc .vmem S2048x2048 .bf16) (w6 : a6.IsWhole) (a7 : Memref sig .tc .vmem S256x2048 .f32) (w7 : a7.IsWhole) (a8 : Memref sig .tc .vmem S256x2048 .bf16) (w8 : a8.IsWhole) (a9 : Memref sig .tc .vmem S256x2048 .f32) (w9 : a9.IsWhole) (a10 : Memref sig .tc .vmem S8x128 .f32) (w10 : a10.IsWhole) (hc : cond0_0 i) (e : Fin 1024) :
    out0_A_7 c i a1 w1 a2 w2 a3 w3 a4 w4 a5 w5 a6 w6 a7 w7 a8 w8 a9 w9 a10 w10 hc x0 x1 x2 x3 x4 x5 x6 (ix2 r (⟨e, by omega⟩ : Fin 2048)) = gv (x1 (ix2 r e)) (x3 (ix2 r e)) := by
  have hc := cover0_A_7 c i a1 w1 a2 w2 a3 w3 a4 w4 a5 w5 a6 w6 a7 w7 a8 w8 a9 w9 a10 w10 hc x0 x1 x2 x3 x4 x5 x6 (ix2 r (⟨e, by omega⟩ : Fin 2048))
  unfold out0_A_7
  rw [View.read_writes_junk_eq_canon]
  unfold kernelRun0_A at hc ⊢
  simp only [View.readAt_eq_ld, Memref.IsWhole.read_unread] at hc ⊢
  canon_tiles x hx using hc
  all_goals
    obtain ⟨a, b, rfl⟩ : ∃ (a : Fin 256) (b : Fin 1024), x = ix2 a b := ⟨x 0, x 1, eq_ix2 x⟩
    obtain rfl : r = a := Fin.ext hx0
  · have : e.val = 1024 + b.val := hx1
    omega
  · obtain rfl : e = b := Fin.ext hx1
    refine (pay5 r _ _ e).trans ?_
    pointwise []

theorem out7Ar (a1 : Memref sig .tc .vmem S256x2048 .f32) (w1 : a1.IsWhole) (a2 : Memref sig .tc .vmem S256x1024 .f32) (w2 : a2.IsWhole) (a3 : Memref sig .tc .vmem S256x1024 .f32) (w3 : a3.IsWhole) (a4 : Memref sig .tc .vmem S256x1024 .f32) (w4 : a4.IsWhole) (a5 : Memref sig .tc .vmem S256x1024 .f32) (w5 : a5.IsWhole) (a6 : Memref sig .tc .vmem S2048x2048 .bf16) (w6 : a6.IsWhole) (a7 : Memref sig .tc .vmem S256x2048 .f32) (w7 : a7.IsWhole) (a8 : Memref sig .tc .vmem S256x2048 .bf16) (w8 : a8.IsWhole) (a9 : Memref sig .tc .vmem S256x2048 .f32) (w9 : a9.IsWhole) (a10 : Memref sig .tc .vmem S8x128 .f32) (w10 : a10.IsWhole) (hc : cond0_0 i) (e : Fin 1024) :
    out0_A_7 c i a1 w1 a2 w2 a3 w3 a4 w4 a5 w5 a6 w6 a7 w7 a8 w8 a9 w9 a10 w10 hc x0 x1 x2 x3 x4 x5 x6 (ix2 r (⟨1024 + e, by omega⟩ : Fin 2048)) = gv (x2 (ix2 r e)) (x4 (ix2 r e)) := by
  have hc := cover0_A_7 c i a1 w1 a2 w2 a3 w3 a4 w4 a5 w5 a6 w6 a7 w7 a8 w8 a9 w9 a10 w10 hc x0 x1 x2 x3 x4 x5 x6 (ix2 r (⟨1024 + e, by omega⟩ : Fin 2048))
  unfold out0_A_7
  rw [View.read_writes_junk_eq_canon]
  unfold kernelRun0_A at hc ⊢
  simp only [View.readAt_eq_ld, Memref.IsWhole.read_unread] at hc ⊢
  canon_tiles x hx using hc
  all_goals
    obtain ⟨a, b, rfl⟩ : ∃ (a : Fin 256) (b : Fin 1024), x = ix2 a b := ⟨x 0, x 1, eq_ix2 x⟩
    obtain rfl : r = a := Fin.ext hx0
  · obtain rfl : e = b := Fin.ext (Nat.add_left_cancel hx1)
    refine (pay6 r _ _ e).trans ?_
    pointwise []
  · have : 1024 + e.val = b.val := hx1
    omega

theorem out7Bl (a1 : Memref sig .tc .vmem S256x2048 .f32) (w1 : a1.IsWhole) (a2 : Memref sig .tc .vmem S256x1024 .f32) (w2 : a2.IsWhole) (a3 : Memref sig .tc .vmem S256x1024 .f32) (w3 : a3.IsWhole) (a4 : Memref sig .tc .vmem S256x1024 .f32) (w4 : a4.IsWhole) (a5 : Memref sig .tc .vmem S256x1024 .f32) (w5 : a5.IsWhole) (a6 : Memref sig .tc .vmem S2048x2048 .bf16) (w6 : a6.IsWhole) (a7 : Memref sig .tc .vmem S256x2048 .f32) (w7 : a7.IsWhole) (a8 : Memref sig .tc .vmem S256x2048 .bf16) (w8 : a8.IsWhole) (a9 : Memref sig .tc .vmem S256x2048 .f32) (w9 : a9.IsWhole) (a10 : Memref sig .tc .vmem S8x128 .f32) (w10 : a10.IsWhole) (hc : ¬cond0_0 i) (xo : Vec Ideal S8x128 .f32) (e : Fin 1024) :
    out0_B_7 c i a1 w1 a2 w2 a3 w3 a4 w4 a5 w5 a6 w6 a7 w7 a8 w8 a9 w9 a10 w10 hc x0 x1 x2 x3 x4 x5 x6 xo (ix2 r (⟨e, by omega⟩ : Fin 2048)) = gv (x1 (ix2 r e)) (x3 (ix2 r e)) := by
  have hc := cover0_B_7 c i a1 w1 a2 w2 a3 w3 a4 w4 a5 w5 a6 w6 a7 w7 a8 w8 a9 w9 a10 w10 hc x0 x1 x2 x3 x4 x5 x6 xo (ix2 r (⟨e, by omega⟩ : Fin 2048))
  unfold out0_B_7
  rw [View.read_writes_junk_eq_canon]
  unfold kernelRun0_B at hc ⊢
  simp only [View.readAt_eq_ld, Memref.IsWhole.read_unread] at hc ⊢
  canon_tiles x hx using hc
  all_goals
    obtain ⟨a, b, rfl⟩ : ∃ (a : Fin 256) (b : Fin 1024), x = ix2 a b := ⟨x 0, x 1, eq_ix2 x⟩
    obtain rfl : r = a := Fin.ext hx0
  · have : e.val = 1024 + b.val := hx1
    omega
  · obtain rfl : e = b := Fin.ext hx1
    refine (pay5 r _ _ e).trans ?_
    pointwise []

theorem out7Br (a1 : Memref sig .tc .vmem S256x2048 .f32) (w1 : a1.IsWhole) (a2 : Memref sig .tc .vmem S256x1024 .f32) (w2 : a2.IsWhole) (a3 : Memref sig .tc .vmem S256x1024 .f32) (w3 : a3.IsWhole) (a4 : Memref sig .tc .vmem S256x1024 .f32) (w4 : a4.IsWhole) (a5 : Memref sig .tc .vmem S256x1024 .f32) (w5 : a5.IsWhole) (a6 : Memref sig .tc .vmem S2048x2048 .bf16) (w6 : a6.IsWhole) (a7 : Memref sig .tc .vmem S256x2048 .f32) (w7 : a7.IsWhole) (a8 : Memref sig .tc .vmem S256x2048 .bf16) (w8 : a8.IsWhole) (a9 : Memref sig .tc .vmem S256x2048 .f32) (w9 : a9.IsWhole) (a10 : Memref sig .tc .vmem S8x128 .f32) (w10 : a10.IsWhole) (hc : ¬cond0_0 i) (xo : Vec Ideal S8x128 .f32) (e : Fin 1024) :
    out0_B_7 c i a1 w1 a2 w2 a3 w3 a4 w4 a5 w5 a6 w6 a7 w7 a8 w8 a9 w9 a10 w10 hc x0 x1 x2 x3 x4 x5 x6 xo (ix2 r (⟨1024 + e, by omega⟩ : Fin 2048)) = gv (x2 (ix2 r e)) (x4 (ix2 r e)) := by
  have hc := cover0_B_7 c i a1 w1 a2 w2 a3 w3 a4 w4 a5 w5 a6 w6 a7 w7 a8 w8 a9 w9 a10 w10 hc x0 x1 x2 x3 x4 x5 x6 xo (ix2 r (⟨1024 + e, by omega⟩ : Fin 2048))
  unfold out0_B_7
  rw [View.read_writes_junk_eq_canon]
  unfold kernelRun0_B at hc ⊢
  simp only [View.readAt_eq_ld, Memref.IsWhole.read_unread] at hc ⊢
  canon_tiles x hx using hc
  all_goals
    obtain ⟨a, b, rfl⟩ : ∃ (a : Fin 256) (b : Fin 1024), x = ix2 a b := ⟨x 0, x 1, eq_ix2 x⟩
    obtain rfl : r = a := Fin.ext hx0
  · obtain rfl : e = b := Fin.ext (Nat.add_left_cancel hx1)
    refine (pay6 r _ _ e).trans ?_
    pointwise []
  · have : 1024 + e.val = b.val := hx1
    omega

/-- The error of a row of a block. -/
def brow (e : Fin 2048) : EReal :=
  aft (x0 (ix2 r e)) (fun k => gv (x1 (ix2 r k)) (x3 (ix2 r k))) (fun k => gv (x2 (ix2 r k)) (x4 (ix2 r k))) x5 e - x6 (ix2 r e)

theorem pay2 (e : Fin 2048) : k0_pay2 (k0_pay6 x2 x4) (k0_pay7 x1 x3 x0 (View.ld x5 (Rect.unit ![0, 0] ![1024, 2048] inb_S2048x2048_S1024x2048_0_0))) (View.ld x5 (Rect.unit ![1024, 0] ![1024, 2048] inb_S2048x2048_S1024x2048_1024_0)) (constant S256x2048 .f32 0x00000000#32) x6 (ix2 r e) = brow x0 x1 x2 x3 x4 x5 x6 r e := by
  pointwise [k0_pay2, k0_pay7, pay5, pay6]
  simp only [brow, aft]

theorem pay3 (e : Fin 2048) : k0_pay3 (k0_pay6 x2 x4) (k0_pay7 x1 x3 x0 (View.ld x5 (Rect.unit ![0, 0] ![1024, 2048] inb_S2048x2048_S1024x2048_0_0))) (View.ld x5 (Rect.unit ![1024, 0] ![1024, 2048] inb_S2048x2048_S1024x2048_1024_0)) (constant S256x2048 .f32 0x00000000#32) x6 (ix2 r e) = brow x0 x1 x2 x3 x4 x5 x6 r e * Ideal.ofBits .f32 0x3A000000#32 := by
  pointwise [k0_pay3, pay2]

theorem pay4 (v : Vec Ideal S8x128 .f32) (l : Fin 8) (z : Fin 128) : k0_pay4 (k0_pay6 x2 x4) (k0_pay7 x1 x3 x0 (View.ld x5 (Rect.unit ![0, 0] ![1024, 2048] inb_S2048x2048_S1024x2048_0_0))) (View.ld x5 (Rect.unit ![1024, 0] ![1024, 2048] inb_S2048x2048_S1024x2048_1024_0)) (constant S256x2048 .f32 0x00000000#32) x6 v (ix2 l z) = v (ix2 l z) + Ideal.ofBits .f32 0x3F000000#32 * ∑ r : Fin 256, msq (brow x0 x1 x2 x3 x4 x5 x6 r) := by
  pointwise [k0_pay4, pay2]
  simp only [msq]

theorem pay1 (l : Fin 8) (z : Fin 128) : (k0_pay1 (F := Ideal)) (ix2 l z) = 0 := by
  pointwise [k0_pay1]
end
end

end Cert.Grad8

end
-- ==== Proof.Loss8.lean ====
/- THE LOSS HEAD: what the kernel's three results and the reference's hold; the kernel's loss is a sum that goes from row
   block to row block. -/
module

public import proofs.«01_k».proof.Proof.Grad8
public import proofs.«01_k».proof.Proof.Spec2
public import proofs.«01_k».proof.Proof.Alg

@[expose] public section

set_option maxRecDepth 16384

noncomputable section

namespace Cert.Grad8

open Idealize.ShloMosaic Idealize.ShloMosaic.TcCoe Idealize.SL.Sem Cert.Band Cert.Grad4 Cert.Grad6

/-- The error of a row: the residual stream after the projection, less the target. -/
def errRow (x : Vec Ideal (⟨2, ![2048, 2048]⟩ : Shape) .f32) (YA YB : Vec Ideal (⟨2, ![2048, 1024]⟩ : Shape) .f32) (P : Vec Ideal (⟨2, ![2048, 8192]⟩ : Shape) .f32) (W : Vec Ideal (⟨2, ![2048, 2048]⟩ : Shape) .bf16) (T : Vec Ideal (⟨2, ![2048, 2048]⟩ : Shape) .f32) (q e : Fin 2048) : EReal :=
  afterRow x YA YB P W q e - T (ix2 q e)

theorem errRow_congr {x x' : Vec Ideal (⟨2, ![2048, 2048]⟩ : Shape) .f32} {YA YA' YB YB' : Vec Ideal (⟨2, ![2048, 1024]⟩ : Shape) .f32} {P P' : Vec Ideal (⟨2, ![2048, 8192]⟩ : Shape) .f32} {W W' : Vec Ideal (⟨2, ![2048, 2048]⟩ : Shape) .bf16} {T T' : Vec Ideal (⟨2, ![2048, 2048]⟩ : Shape) .f32}
    (e0 : x = x') (e1 : YA = YA') (e2 : YB = YB') (e3 : P = P') (e4 : W = W') (e5 : T = T') : errRow x YA YB P W T = errRow x' YA' YB' P' W' T' := by
  subst e0 e1 e2 e3 e4 e5; rfl

/-- The kernel's factor of the gradient. -/
def scale : EReal := Ideal.ofBits .f32 0x3A000000#32

/-- One half of the sum, over the rows, of the mean squares of the errors. -/
def half (E : Fin 2048 → Fin 2048 → EReal) : EReal := Ideal.ofBits .f32 0x3F000000#32 * ∑ q, msq (E q)

theorem ofBits_half : Ideal.ofBits .f32 0x3F000000#32 = ((1 / 2 : ℝ) : EReal) := by
  simp [Ideal.ofBits, Ideal.ieee, -EReal.coe_mul]; norm_num

theorem ofBits_scale : Ideal.ofBits .f32 0x3A000000#32 = ((1 / 2048 : ℝ) : EReal) := by
  simp [Ideal.ofBits, Ideal.ieee, -EReal.coe_mul]; norm_num

theorem ofBits_unit : Ideal.ofBits .f32 0x3F800000#32 = ((1 : ℝ) : EReal) := by
  simp [Ideal.ofBits, Ideal.ieee, -EReal.coe_mul]; norm_num

theorem ofBits_double : Ideal.ofBits .f32 0x40000000#32 = ((2 : ℝ) : EReal) := by
  simp [Ideal.ofBits, Ideal.ieee, -EReal.coe_mul]; norm_num

/-- The reference's factors of the gradient make the kernel's. -/
theorem factor (e : EReal) : Ideal.div (Ideal.ofBits .f32 0x3F000000#32 * Ideal.ofBits .f32 0x3F800000#32) (Ideal.ofBits .f32 0x45000000#32) * (Ideal.ofBits .f32 0x40000000#32 * e) = e * scale := by
  unfold scale
  rw [ofBits_half, ofBits_scale, ofBits_unit, ofBits_double, Cert.Grad2.ofBits_2048, ← EReal.coe_mul, div_real (by norm_num), ← mul_assoc, ← EReal.coe_mul, mul_comm]
  norm_num

/-- A family over the rows, zero beyond the last. -/
def past (f : Fin 2048 → EReal) (j : ℕ) : EReal := if h : j < 2048 then f ⟨j, h⟩ else 0

theorem past_all (f : Fin 2048 → EReal) : ∑ j ∈ Finset.range 2048, past f j = ∑ q, f q := by
  rw [Finset.sum_range]
  exact Finset.sum_congr rfl fun j _ => dif_pos j.isLt

/-- One row block more. -/
theorem past_block (f : Fin 2048 → EReal) (s : ℕ) (h : 256 * s + 256 ≤ 2048) :
    ∑ j ∈ Finset.range (256 * (s + 1)), past f j = ∑ j ∈ Finset.range (256 * s), past f j + ∑ k : Fin 256, f ⟨256 * s + k.val, by omega⟩ := by
  rw [Nat.mul_succ, Finset.sum_range_add, Finset.sum_range (n := 256)]
  exact congrArg _ (Finset.sum_congr rfl fun k _ => dif_pos _)

section
open Cert.Kernel8Ideal Cert.Kernel8Ideal.Gen Cert.Kernel8Ideal.Value
variable (m : (ℓ : Loc nD τ sig) → Buf (Elt Ideal) ℓ) (c : Dev nD)

theorem row_at (t : Fin cfg0.N) (q : Fin 2048) (r : Fin 256) (h : 256 * t.val + r.val = q.val) (e : Fin 2048) :
    brow (iblk m c 0 t) (iblk m c 1 t) (iblk m c 2 t) (iblk m c 3 t) (iblk m c 4 t) (iblk m c 5 t) (iblk m c 6 t) r e
      = errRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q e := by
  have h0 := blk0 m c t q r e h
  have h1 := fun k => blk1 m c t q r k h
  have h2 := fun k => blk2 m c t q r k h
  have h3 := fun k => blk3 m c t q r k h
  have h4 := fun k => blk4 m c t q r k h
  have h5 := fun k j => blk5 m c t k j
  have h6 := blk6 m c t q r e h
  unfold brow errRow afterRow aft mixL mixR
  refine congrArg₂ (fun a b : EReal => a - b) (congrArg₂ (· + ·) (congrArg₂ (· + ·) h0 ?_) ?_) h6
  · exact Finset.sum_congr rfl fun k _ => congrArg₂ (· * ·) (congrArg₂ gv (h1 k) (h3 k)) (h5 _ _)
  · exact Finset.sum_congr rfl fun k _ => congrArg₂ (· * ·) (congrArg₂ gv (h2 k) (h4 k)) (h5 _ _)

theorem at7l (t : Fin cfg0.N) (r : Fin 256) (e : Fin 1024) :
    (outsAt0 m c t.val t.isLt).1 (ix2 r (⟨e, by omega⟩ : Fin 2048)) = gv ((show Vec Ideal S256x1024 .f32 from iblk m c 1 t) (ix2 r e)) ((show Vec Ideal S256x1024 .f32 from iblk m c 3 t) (ix2 r e)) := by
  by_cases h0 : t.val % 8 = 0
  · rw [outsAt0_A m c t h0]
    dsimp only
    exact out7Al c (iblk m c 0 t) (iblk m c 1 t) (iblk m c 2 t) (iblk m c 3 t) (iblk m c 4 t) (iblk m c 5 t) (iblk m c 6 t) r _ _ _ _ _ _ _ _ _ _ _ _ _ _ _ _ _ _ _ _ _ _ e
  · rw [outsAt0_B m c t h0]
    dsimp only
    exact out7Bl c (iblk m c 0 t) (iblk m c 1 t) (iblk m c 2 t) (iblk m c 3 t) (iblk m c 4 t) (iblk m c 5 t) (iblk m c 6 t) r _ _ _ _ _ _ _ _ _ _ _ _ _ _ _ _ _ _ _ _ _ _ _ e

theorem at7r (t : Fin cfg0.N) (r : Fin 256) (e : Fin 1024) :
    (outsAt0 m c t.val t.isLt).1 (ix2 r (⟨1024 + e, by omega⟩ : Fin 2048)) = gv ((show Vec Ideal S256x1024 .f32 from iblk m c 2 t) (ix2 r e)) ((show Vec Ideal S256x1024 .f32 from iblk m c 4 t) (ix2 r e)) := by
  by_cases h0 : t.val % 8 = 0
  · rw [outsAt0_A m c t h0]
    dsimp only
    exact out7Ar c (iblk m c 0 t) (iblk m c 1 t) (iblk m c 2 t) (iblk m c 3 t) (iblk m c 4 t) (iblk m c 5 t) (iblk m c 6 t) r _ _ _ _ _ _ _ _ _ _ _ _ _ _ _ _ _ _ _ _ _ _ e
  · rw [outsAt0_B m c t h0]
    dsimp only
    exact out7Br c (iblk m c 0 t) (iblk m c 1 t) (iblk m c 2 t) (iblk m c 3 t) (iblk m c 4 t) (iblk m c 5 t) (iblk m c 6 t) r _ _ _ _ _ _ _ _ _ _ _ _ _ _ _ _ _ _ _ _ _ _ _ e

theorem at8 (t : Fin cfg0.N) (r : Fin 256) (e : Fin 2048) :
    (outsAt0 m c t.val t.isLt).2.1 (ix2 r e) = brow (iblk m c 0 t) (iblk m c 1 t) (iblk m c 2 t) (iblk m c 3 t) (iblk m c 4 t) (iblk m c 5 t) (iblk m c 6 t) r e * scale := by
  by_cases h0 : t.val % 8 = 0
  · rw [outsAt0_A m c t h0]
    frame_out
    exact pay3 (iblk m c 0 t) (iblk m c 1 t) (iblk m c 2 t) (iblk m c 3 t) (iblk m c 4 t) (iblk m c 5 t) (iblk m c 6 t) r e
  · rw [outsAt0_B m c t h0]
    frame_out
    exact pay3 (iblk m c 0 t) (iblk m c 1 t) (iblk m c 2 t) (iblk m c 3 t) (iblk m c 4 t) (iblk m c 5 t) (iblk m c 6 t) r e

/-- One half of the sum, over a block's rows, of the mean squares of the errors. -/
def share (t : Fin cfg0.N) : EReal :=
  Ideal.ofBits .f32 0x3F000000#32 * ∑ r : Fin 256, msq (brow (iblk m c 0 t) (iblk m c 1 t) (iblk m c 2 t) (iblk m c 3 t) (iblk m c 4 t) (iblk m c 5 t) (iblk m c 6 t) r)

theorem at9_first (t : Fin cfg0.N) (h0 : t.val % 8 = 0) (l : Fin 8) (z : Fin 128) :
    (outsAt0 m c t.val t.isLt).2.2 (ix2 l z) = share m c t := by
  rw [outsAt0_A m c t h0]
  frame_out
  try simp only [read_unread_whole]
  refine (pay4 (iblk m c 0 t) (iblk m c 1 t) (iblk m c 2 t) (iblk m c 3 t) (iblk m c 4 t) (iblk m c 5 t) (iblk m c 6 t) _ l z).trans ?_
  rw [pay1, zero_add]
  rfl

theorem at9_next (t : Fin cfg0.N) (h0 : ¬t.val % 8 = 0) (l : Fin 8) (z : Fin 128) :
    (outsAt0 m c t.val t.isLt).2.2 (ix2 l z) = (outsAt0 m c (t.val - 1) (by omega)).2.2 (ix2 l z) + share m c t := by
  rw [outsAt0_B m c t h0]
  frame_out
  try simp only [read_unread_whole]
  exact pay4 (iblk m c 0 t) (iblk m c 1 t) (iblk m c 2 t) (iblk m c 3 t) (iblk m c 4 t) (iblk m c 5 t) (iblk m c 6 t) _ l z

theorem share_eq (t : Fin cfg0.N) (ht : t.val < 8) : share m c t
    = Ideal.ofBits .f32 0x3F000000#32 * ∑ k : Fin 256, msq (errRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨256 * t.val + k.val, by omega⟩) := by
  unfold share
  refine congrArg _ (Finset.sum_congr rfl fun k _ => congrArg msq (funext fun e => ?_))
  exact row_at m c t ⟨256 * t.val + k.val, by omega⟩ k rfl e

/-- The loss after point `n`. -/
theorem at9 (l : Fin 8) (z : Fin 128) : ∀ (n : ℕ) (hn : n < cfg0.N), (outsAt0 m c n hn).2.2 (ix2 l z)
    = Ideal.ofBits .f32 0x3F000000#32 * ∑ j ∈ Finset.range (256 * (n + 1)), past (fun q => msq (errRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q)) j := by
  intro n
  induction n with
  | zero =>
    intro hn
    refine (at9_first m c ⟨0, hn⟩ (by rfl) l z).trans ((share_eq m c ⟨0, hn⟩ (by norm_num)).trans (congrArg _ ?_))
    exact ((past_block (fun q => msq (errRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q)) 0 (by omega)).trans ((congrArg₂ (fun a b : EReal => a + b) (Finset.sum_range_zero _) rfl).trans (zero_add _))).symm
  | succ n ih =>
    intro hn
    have hN : n + 1 < 8 := lt_of_lt_of_eq hn N_0
    refine (at9_next m c ⟨n + 1, hn⟩ (by show ¬(n + 1) % 8 = 0; omega) l z).trans ?_
    refine (congrArg₂ (fun a b : EReal => a + b) (ih (by omega)) (share_eq m c ⟨n + 1, hn⟩ hN)).trans ?_
    rw [past_block _ (n + 1) (by omega), EReal.left_distrib_of_nonneg_of_ne_top]
    · rw [ofBits_half]; exact EReal.coe_nonneg.2 (by norm_num)
    · rw [ofBits_half]; exact EReal.coe_ne_top _

theorem arr7l (q : Fin 2048) (e : Fin 1024) : (show Vec Ideal S2048x2048 .bf16 from (dats m 0 c).arrAt 7 cfg0.N) (ix2 q (⟨e, by omega⟩ : Fin 2048))
    = mixL (m ((c : Thread nD τ).loc main_arg1)) (m ((c : Thread nD τ).loc main_arg3)) q e := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks7 m c t (flush0_7 t)) (ix2 (⟨q.val % 256, Nat.mod_lt _ (by norm_num)⟩ : Fin 256) (⟨e, by omega⟩ : Fin 2048))
  rw [flushed7] at h
  have e2 : (show Vec Ideal S2048x2048 .bf16 from (dats m 0 c).arrAt 7 cfg0.N) (ix2 q (⟨e, by omega⟩ : Fin 2048))
      = ((cfg0.win 7).blk t).view.read (Elt Ideal) ((dats m 0 c).arrAt 7 cfg0.N) (ix2 (⟨q.val % 256, Nat.mod_lt _ (by norm_num)⟩ : Fin 256) (⟨e, by omega⟩ : Fin 2048)) := by
    generalize (dats m 0 c).arrAt 7 cfg0.N = arr
    symm
    show ((cfg0.win 7).blk t).view.read (Elt Ideal) arr (ix2 (⟨q.val % 256, Nat.mod_lt _ (by norm_num)⟩ : Fin 256) (⟨e, by omega⟩ : Fin 2048)) = arr (ix2 q (⟨e, by omega⟩ : Fin 2048))
    blk_ext [idx t]
    all_goals (simp only [ht]; omega)
  rw [e2, h]
  refine (at7l m c t ⟨q.val % 256, Nat.mod_lt _ (by norm_num)⟩ e).trans ?_
  exact congrArg₂ gv (blk1 m c t q _ e hr) (blk3 m c t q _ e hr)

theorem arr7r (q : Fin 2048) (e : Fin 1024) : (show Vec Ideal S2048x2048 .bf16 from (dats m 0 c).arrAt 7 cfg0.N) (ix2 q (⟨1024 + e, by omega⟩ : Fin 2048))
    = mixR (m ((c : Thread nD τ).loc main_arg2)) (m ((c : Thread nD τ).loc main_arg3)) q e := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks7 m c t (flush0_7 t)) (ix2 (⟨q.val % 256, Nat.mod_lt _ (by norm_num)⟩ : Fin 256) (⟨1024 + e, by omega⟩ : Fin 2048))
  rw [flushed7] at h
  have e2 : (show Vec Ideal S2048x2048 .bf16 from (dats m 0 c).arrAt 7 cfg0.N) (ix2 q (⟨1024 + e, by omega⟩ : Fin 2048))
      = ((cfg0.win 7).blk t).view.read (Elt Ideal) ((dats m 0 c).arrAt 7 cfg0.N) (ix2 (⟨q.val % 256, Nat.mod_lt _ (by norm_num)⟩ : Fin 256) (⟨1024 + e, by omega⟩ : Fin 2048)) := by
    generalize (dats m 0 c).arrAt 7 cfg0.N = arr
    symm
    show ((cfg0.win 7).blk t).view.read (Elt Ideal) arr (ix2 (⟨q.val % 256, Nat.mod_lt _ (by norm_num)⟩ : Fin 256) (⟨1024 + e, by omega⟩ : Fin 2048)) = arr (ix2 q (⟨1024 + e, by omega⟩ : Fin 2048))
    blk_ext [idx t]
    all_goals (simp only [ht]; omega)
  rw [e2, h]
  refine (at7r m c t ⟨q.val % 256, Nat.mod_lt _ (by norm_num)⟩ e).trans ?_
  exact congrArg₂ gv (blk2 m c t q _ e hr) (blk4 m c t q _ e hr)

theorem arr8 (q : Fin 2048) (e : Fin 2048) : (show Vec Ideal S2048x2048 .f32 from (dats m 0 c).arrAt 8 cfg0.N) (ix2 q e)
    = errRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q e * scale := by
  have hN : q.val / 256 < cfg0.N := lt_of_lt_of_eq (by omega) N_0.symm
  set t : Fin cfg0.N := ⟨q.val / 256, hN⟩ with ht
  have hr : 256 * t.val + q.val % 256 = q.val := by simp only [ht]; omega
  have h := congrFun (blocks8 m c t (flush0_8 t)) (ix2 (⟨q.val % 256, Nat.mod_lt _ (by norm_num)⟩ : Fin 256) e)
  rw [flushed8] at h
  have e2 : (show Vec Ideal S2048x2048 .f32 from (dats m 0 c).arrAt 8 cfg0.N) (ix2 q e)
      = ((cfg0.win 8).blk t).view.read (Elt Ideal) ((dats m 0 c).arrAt 8 cfg0.N) (ix2 (⟨q.val % 256, Nat.mod_lt _ (by norm_num)⟩ : Fin 256) e) := by
    generalize (dats m 0 c).arrAt 8 cfg0.N = arr
    symm
    show ((cfg0.win 8).blk t).view.read (Elt Ideal) arr (ix2 (⟨q.val % 256, Nat.mod_lt _ (by norm_num)⟩ : Fin 256) e) = arr (ix2 q e)
    blk_ext [idx t]
    all_goals (simp only [ht]; omega)
  rw [e2, h]
  exact (at8 m c t ⟨q.val % 256, Nat.mod_lt _ (by norm_num)⟩ e).trans (congrArg (· * scale) (row_at m c t q _ hr e))

/-- The loss, in each of its places. -/
theorem arr9 (l : Fin 8) (z : Fin 128) : (show Vec Ideal S8x128 .f32 from (dats m 0 c).arrAt 9 cfg0.N) (ix2 l z) = half (errRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h := congrFun ((dats m 0 c).arrAt_eq_of_after_last 9 t0_7 (by decide +kernel) ((outsAt0 m c t0_7.val t0_7.isLt).2.2 : Vec Ideal S8x128 .f32) fun j => by
    rw [after0_9]
    blk_simp
    rfl) (ix2 l z)
  refine h.trans ((at9 m c l z t0_7.val t0_7.isLt).trans (congrArg _ ?_))
  exact past_all _
end

section
open Cert.Reference8Ideal Cert.Reference8Ideal.Gen Cert.Reference8Ideal.Value
variable (m0 : Vec Ideal S2048x2048 .f32) (m1 m2 : Vec Ideal S2048x1024 .f32) (m3 : Vec Ideal S2048x8192 .f32) (m4 : Vec Ideal S2048x2048 .bf16) (m5 : Vec Ideal S2048x2048 .f32)

theorem grad_row (A : FVec Ideal S2048x2048 .f32) (t e : Fin 2048) :
    (show FVec Ideal S2048x2048 .f32 from mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) A)) (ix2 t e)
      = Ideal.div (Ideal.ofBits .f32 0x3F000000#32 * Ideal.ofBits .f32 0x3F800000#32) (Ideal.ofBits .f32 0x45000000#32) * (Ideal.ofBits .f32 0x40000000#32 * A (ix2 t e)) := by
  pointwise []

theorem loss_at (A : FVec Ideal S2048x2048 .f32) (l : Fin 8) (z : Fin 128) :
    (show FVec Ideal S8x128 .f32 from broadcastInDim S8x128 ![] bcast_S_S8x128 (mulf (constant S_ .f32 0x3F000000#32) (Host.reduceAdd (Host.divf (Host.reduceAdd (mulf A A) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))) (ix2 l z)
      = half fun t e => A (ix2 t e) := by
  pointwise [half, msq]

/-- The reference's error. -/
def miss : FVec Ideal S2048x2048 .f32 :=
  subf (addf m0 (Host.dotGeneral dot_S2048x2048_S2048x2048_S2048x2048_1_0_0_1_n_n none (gated m1 m2 m3) (extf .f32 m4 bitsLt_bf16_f32))) m5

theorem miss_at (t e : Fin 2048) : miss m0 m1 m2 m3 m4 m5 (ix2 t e) = errRow m0 m1 m2 m3 m4 m5 t e :=
  congrArg (fun a : EReal => a - m5 (ix2 t e)) (ref9 m0 m1 m2 m3 m4 t e)

/-- The reference's gradient. -/
theorem ref24 (t e : Fin 2048) :
    (show FVec Ideal S2048x2048 .f32 from mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (miss m0 m1 m2 m3 m4 m5))) (ix2 t e)
      = errRow m0 m1 m2 m3 m4 m5 t e * scale := by
  refine (grad_row _ t e).trans ((factor _).trans ?_)
  rw [miss_at]

/-- The reference's loss. -/
theorem ref26 (l : Fin 8) (z : Fin 128) :
    (show FVec Ideal S8x128 .f32 from broadcastInDim S8x128 ![] bcast_S_S8x128 (mulf (constant S_ .f32 0x3F000000#32) (Host.reduceAdd (Host.divf (Host.reduceAdd (mulf (miss m0 m1 m2 m3 m4 m5) (miss m0 m1 m2 m3 m4 m5)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))) (ix2 l z)
      = half (errRow m0 m1 m2 m3 m4 m5) :=
  (loss_at _ l z).trans (congrArg half (funext fun t => funext fun e => miss_at m0 m1 m2 m3 m4 m5 t e))
end

end Cert.Grad8

end
-- ==== Proof.Pair8.lean ====
/- THE LAST LAYER'S OUTPUT PROJECTION WITH THE LOSS HEAD: the frame of the reference, and the equality of the three results
   over the extended reals. -/
module

public import proofs.«01_k».proof.Proof.Loss8
public import proofs.«01_k».proof.Proof.Gen.Kernel8
public import proofs.«01_k».proof.Proof.Gen.Kernel8Ideal
public import proofs.«01_k».proof.Proof.Gen.Reference8Ideal
public import proofs.«01_k».proof.Proof.Pairs
public import proofs.«01_k».proof.Defs

@[expose] public section

set_option maxRecDepth 16384

noncomputable section

namespace Cert.Proof

open Idealize.ShloMosaic Idealize.SL.Sem

theorem frame_reference8 : Cert.quiescent_Reference8Ideal :=
  fun m g _ => (θ_run Cert.Reference8Ideal.defs _ _).mono
    (fun r h => ⟨fun c => (h c).2.2.2, sem_eq_zero_of_no_sems rfl r.2⟩) (Cert.Reference8Ideal.Value.run m g)

theorem algebraic8 : Cert.algebraic_Kernel8Ideal_Reference8Ideal := by
  pair_intro
  · run_from Cert.Kernel8Ideal.Value.run_blocks m g
  · run_from Cert.Reference8Ideal.Value.run m' g'
    all_goals obtain ⟨e0, e1, e2, e3, e4, e5⟩ := hagree c
    · refine ext_halves (fun t e => (Cert.Grad6.gated_l _ _ _ t e).trans (Eq.trans ?_ (Cert.Grad8.arr7l m c t e).symm))
        fun t e => (Cert.Grad6.gated_r _ _ _ t e).trans (Eq.trans ?_ (Cert.Grad8.arr7r m c t e).symm)
      · exact congrArg₂ (fun a b => Cert.Grad6.mixL a b t e) e1 e3
      · exact congrArg₂ (fun a b => Cert.Grad6.mixR a b t e) e2 e3
    · refine ext2 fun t e => (Cert.Grad8.ref24 _ _ _ _ _ _ t e).trans (Eq.trans ?_ (Cert.Grad8.arr8 m c t e).symm)
      exact congrArg (· * Cert.Grad8.scale) (congrFun (congrFun (Cert.Grad8.errRow_congr rfl e1 e2 e3 rfl rfl) t) e)
    · refine ext2 fun l z => (Cert.Grad8.ref26 _ _ _ _ _ _ l z).trans (Eq.trans ?_ (Cert.Grad8.arr9 m c l z).symm)
      exact congrArg Cert.Grad8.half (Cert.Grad8.errRow_congr rfl e1 e2 e3 rfl rfl)

end Cert.Proof

end
-- ==== Proof.lean ====
module

public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Meet
public import proofs.«01_k».proof.Proof.Pairs
public import proofs.«01_k».proof.Proof.Pair2
public import proofs.«01_k».proof.Proof.Pair7
public import proofs.«01_k».proof.Proof.Pair8
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments, and every counter ends at zero. -/
theorem frame_reference : Cert.quiescent_ReferenceIdeal :=
  fun m g _ => (θ_run Cert.ReferenceIdeal.defs _ _).mono
    (fun r h => ⟨fun c => (h c).2.2.2.2.2, sem_eq_zero_of_no_sems rfl r.2⟩) (Cert.ReferenceIdeal.Value.run m g)

/-- The five results of the kernel and of the reference are equal. -/
theorem algebraic : letI := Cert.Band.Pre.facts; Cert.algebraic_KernelIdeal_ReferenceIdeal_pre_finite := by
  letI := Cert.Band.Pre.facts
  pair_intro
  · run_from Cert.KernelIdeal.Value.run m g
  · run_from Cert.ReferenceIdeal.Value.run m' g'
    all_goals
      have A := Cert.Band.args m c hpre
      have R := Cert.Band.reads m c hpre (StableHlo.launchContents m' c) (hagree c).1 (hagree c).2.1 (hagree c).2.2.1 (hagree c).2.2.2.1 (hagree c).2.2.2.2
    · exact Cert.Band.ext_cols fun h t e => (Cert.Band.Ref.v166 R h t e).trans (Cert.Band.St.G7_at A h t e).symm
    · exact Cert.Band.ext_cols fun h t e => (Cert.Band.Ref.v167 R h t e).trans (Cert.Band.St.G8_at A h t e).symm
    · exact Cert.Band.ext_cols fun h t e => (Cert.Band.Ref.v168 R h t e).trans (Cert.Band.St.G9_at A h t e).symm
    · exact Cert.Band.ext_gain fun h e => (Cert.Band.Ref.v143 R h e).trans (Cert.Band.St.G10_at A h e).symm
    · exact Cert.Band.ext_gain fun h e => (Cert.Band.Ref.v124 R h e).trans (Cert.Band.St.G11_at A h e).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Band.Pre.facts, Cert.Band.Pre.facts2, Cert.Band.Pre.facts4,
    fun m g _ => Cert.Kernel.Gen.frame m g, fun m g _ => Cert.KernelIdeal.Gen.frame m g, fun m g _ => Cert.KernelIdeal.Gen.frame m g, frame_reference, fun m g _ => frame_reference m g trivial,
    fun m g _ => Cert.Kernel2.Gen.frame m g, fun m g _ => Cert.Kernel2Ideal.Gen.frame m g, fun m g _ => Cert.Kernel2Ideal.Gen.frame m g, frame_reference2, fun m g _ => frame_reference2 m g trivial,
    fun m g _ => Cert.Kernel3.Gen.frame m g, fun m g _ => Cert.Kernel3Ideal.Gen.frame m g, frame_reference3,
    fun m g _ => Cert.Kernel4.Gen.frame m g, fun m g _ => Cert.Kernel4Ideal.Gen.frame m g, fun m g _ => Cert.Kernel4Ideal.Gen.frame m g, frame_reference4, fun m g _ => frame_reference4 m g trivial,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    frame_kernel7, frame_ideal7, frame_reference7,
    fun m g _ => Cert.Kernel8.Gen.frame m g, fun m g _ => Cert.Kernel8Ideal.Gen.frame m g, frame_reference8,
    IdealRules.named_const.statement Cert.KernelIdeal.κ "mask" .f32 0xF149F2CA#32 ⊥ rfl, algebraic,
    trivial, algebraic2,
    trivial, algebraic3,
    trivial, algebraic4,
    trivial, algebraic5,
    trivial, algebraic6,
    trivial, algebraic7,
    trivial, algebraic8⟩

end Cert.Proof

end
